-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)) (v3 : (c : Dev Cert.KernelIdeal.nD) → Buf (Elt Ideal) ((c.tc : Thread Cert.KernelIdeal.nD Cert.KernelIdeal.τ).loc Cert.KernelIdeal.main_v48_3)) (v4 : (c : Dev Cert.KernelIdeal.nD) → Buf (Elt Ideal) ((c.tc : Thread Cert.KernelIdeal.nD Cert.KernelIdeal.τ).loc Cert.KernelIdeal.main_v48_4)) (v5 : (c : Dev Cert.KernelIdeal.nD) → Buf (Elt Ideal) ((c.tc : Thread Cert.KernelIdeal.nD Cert.KernelIdeal.τ).loc Cert.KernelIdeal.main_v48_5)) (v6 : (c : Dev Cert.KernelIdeal.nD) → Buf (Elt Ideal) ((c.tc : Thread Cert.KernelIdeal.nD Cert.KernelIdeal.τ).loc Cert.KernelIdeal.main_v48_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_v48_3) = v3 c
          ∧ r.2.mem ((c.tc : Thread Cert.KernelIdeal.nD Cert.KernelIdeal.τ).loc Cert.KernelIdeal.main_v48_4) = v4 c
          ∧ r.2.mem ((c.tc : Thread Cert.KernelIdeal.nD Cert.KernelIdeal.τ).loc Cert.KernelIdeal.main_v48_5) = v5 c
          ∧ r.2.mem ((c.tc : Thread Cert.KernelIdeal.nD Cert.KernelIdeal.τ).loc Cert.KernelIdeal.main_v48_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_v107) = v4 c
          ∧ r.2.mem ((c.tc : Thread Cert.ReferenceIdeal.nD Cert.ReferenceIdeal.τ).loc Cert.ReferenceIdeal.main_v102) = v5 c
          ∧ r.2.mem ((c.tc : Thread Cert.ReferenceIdeal.nD Cert.ReferenceIdeal.τ).loc Cert.ReferenceIdeal.main_v118) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v115) = v0 c
          ∧ r.2.mem ((c.tc : Thread Cert.Reference5Ideal.nD Cert.Reference5Ideal.τ).loc Cert.Reference5Ideal.main_v124) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)) (v4 : (c : Dev Cert.Kernel6Ideal.nD) → Buf (Elt Ideal) ((c.tc : Thread Cert.Kernel6Ideal.nD Cert.Kernel6Ideal.τ).loc Cert.Kernel6Ideal.main_v10_4)) (v5 : (c : Dev Cert.Kernel6Ideal.nD) → Buf (Elt Ideal) ((c.tc : Thread Cert.Kernel6Ideal.nD Cert.Kernel6Ideal.τ).loc Cert.Kernel6Ideal.main_v10_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_v10_4) = v4 c
          ∧ r.2.mem ((c.tc : Thread Cert.Kernel6Ideal.nD Cert.Kernel6Ideal.τ).loc Cert.Kernel6Ideal.main_v10_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_v42) = v1 c
          ∧ r.2.mem ((c.tc : Thread Cert.Reference6Ideal.nD Cert.Reference6Ideal.τ).loc Cert.Reference6Ideal.main_v43) = v2 c
          ∧ r.2.mem ((c.tc : Thread Cert.Reference6Ideal.nD Cert.Reference6Ideal.τ).loc Cert.Reference6Ideal.main_v40) = v3 c
          ∧ r.2.mem ((c.tc : Thread Cert.Reference6Ideal.nD Cert.Reference6Ideal.τ).loc Cert.Reference6Ideal.main_v36) = v4 c
          ∧ r.2.mem ((c.tc : Thread Cert.Reference6Ideal.nD Cert.Reference6Ideal.τ).loc Cert.Reference6Ideal.main_v68) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v6) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)) (v3 : (c : Dev Cert.Kernel9Ideal.nD) → Buf (Elt Ideal) ((c.tc : Thread Cert.Kernel9Ideal.nD Cert.Kernel9Ideal.τ).loc Cert.Kernel9Ideal.main_v2_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_v2_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_v29) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_v16) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)) (v3 : (c : Dev Cert.Kernel10Ideal.nD) → Buf (Elt Ideal) ((c.tc : Thread Cert.Kernel10Ideal.nD Cert.Kernel10Ideal.τ).loc Cert.Kernel10Ideal.main_v2_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_v2_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_v16) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)) (v3 : (c : Dev Cert.Kernel11Ideal.nD) → Buf (Elt Ideal) ((c.tc : Thread Cert.Kernel11Ideal.nD Cert.Kernel11Ideal.τ).loc Cert.Kernel11Ideal.main_v2_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_v2_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v29) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_v16) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v30) = v1 c
          ∧ r.2.mem ((c.tc : Thread Cert.Reference12Ideal.nD Cert.Reference12Ideal.τ).loc Cert.Reference12Ideal.main_v11) = v2 c
          ∧ r.2.mem ((c.tc : Thread Cert.Reference12Ideal.nD Cert.Reference12Ideal.τ).loc Cert.Reference12Ideal.main_v17) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S8192x1024 : Shape := ⟨2, ![8192, 1024]⟩
abbrev S8192x7168 : Shape := ⟨2, ![8192, 7168]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x7168 .f32) (main_arg2 : FVec F S8192x1024 .f32) (main_arg3 : FVec F S8192x1024 .f32) (main_arg4 : FVec F S1024x1024 .f32) (main_arg5 : FVec F S1024x1024 .f32) (main_arg6 : FVec F S1024x1024 .f32) (main_arg7 : FVec F S1024 .f32) (main_arg8 : FVec F S1024 .f32) (main_arg9 : FVec F S1024 .f32) : IVec S8192x1024 1 × IVec S1024x1024 1 × IVec S1024x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x1024 .f32 := Host.absf main_arg5
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x1024 .f32 := Host.absf main_arg6
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg8
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite5.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x4096 .f32) (main_arg1 : FVec F S4096x1024 .f32) (main_arg2 : FVec F S8192x1024 .f32) (main_arg3 : FVec F S8192x1024 .f32) (main_arg4 : FVec F S1024 .f32) (main_arg5 : FVec F S1024 .f32) (main_arg6 : FVec F S1024 .f32) (main_arg7 : FVec F S1024 .f32) : IVec S8192x1024 1 × IVec S1024 1 × IVec S1024 1 :=
  let main_v0 : FVec F S8192x1024 .f32 := Host.absf main_arg3
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg6
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg7
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Kernel.lean ====
abbrev S8192x1024 : Shape := ⟨2, ![8192, 1024]⟩
abbrev S8192x7168 : Shape := ⟨2, ![8192, 7168]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S5x1024 : Shape := ⟨2, ![5, 1024]⟩
abbrev S8x1024 : Shape := ⟨2, ![8, 1024]⟩
abbrev S8192x2048 : Shape := ⟨2, ![8192, 2048]⟩
abbrev S256x1024 : Shape := ⟨2, ![256, 1024]⟩
abbrev S256x1 : Shape := ⟨2, ![256, 1]⟩
abbrev S256x2048 : Shape := ⟨2, ![256, 2048]⟩
abbrev S256 : Shape := ⟨1, ![256]⟩

abbrev nBuf : Space → Nat
  | .hbm => 73
  | .vmem => 35
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S5x1024, .f32⟩
  | .hbm, ⟨58, _⟩ => ⟨S8x1024, .f32⟩
  | .hbm, ⟨59, _⟩ => ⟨S8192x1024, .bf16⟩
  | .hbm, ⟨60, _⟩ => ⟨S8192x7168, .bf16⟩
  | .hbm, ⟨61, _⟩ => ⟨S8192x1024, .bf16⟩
  | .hbm, ⟨62, _⟩ => ⟨S8192x1024, .bf16⟩
  | .hbm, ⟨63, _⟩ => ⟨S1024x1024, .bf16⟩
  | .hbm, ⟨64, _⟩ => ⟨S1024x1024, .bf16⟩
  | .hbm, ⟨65, _⟩ => ⟨S1024x1024, .bf16⟩
  | .hbm, ⟨66, _⟩ => ⟨S8192x1024, .bf16⟩
  | .hbm, ⟨67, _⟩ => ⟨S8192x1024, .bf16⟩
  | .hbm, ⟨68, _⟩ => ⟨S8192x2048, .bf16⟩
  | .hbm, ⟨69, _⟩ => ⟨S8192x1024, .bf16⟩
  | .hbm, ⟨70, _⟩ => ⟨S8192x1024, .f32⟩
  | .hbm, ⟨71, _⟩ => ⟨S8192x1024, .f32⟩
  | .hbm, ⟨72, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1, .f32⟩
  | .local _ .vmem, ⟨17, _⟩ => ⟨S256x1, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S8x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x2048, .bf16⟩
  | .local _ .vmem, ⟨27, _⟩ => ⟨S256x2048, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48_0 : Ref sig .tc := ⟨.hbm, 66, rfl⟩
abbrev main_v48_1 : Ref sig .tc := ⟨.hbm, 67, rfl⟩
abbrev main_v48_2 : Ref sig .tc := ⟨.hbm, 68, rfl⟩
abbrev main_v48_3 : Ref sig .tc := ⟨.hbm, 69, rfl⟩
abbrev main_v48_4 : Ref sig .tc := ⟨.hbm, 70, rfl⟩
abbrev main_v48_5 : Ref sig .tc := ⟨.hbm, 71, rfl⟩
abbrev main_v48_6 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S8192x1024 : Shape := ⟨2, ![8192, 1024]⟩
abbrev S8192x7168 : Shape := ⟨2, ![8192, 7168]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x1024 : Shape := ⟨2, ![8, 1024]⟩
abbrev S8192x2048 : Shape := ⟨2, ![8192, 2048]⟩

abbrev nBuf : Space → Nat
  | .hbm => 176
  | .vmem => 0
  | .smem => 0
  | _ => 0

abbrev hbmTy0_0 (i : Nat) : BufTy := match i % 128 with
  | 0 => ⟨S8192x1024, .f32⟩
  | 1 => ⟨S8192x7168, .f32⟩
  | 2 => ⟨S8192x1024, .f32⟩
  | 3 => ⟨S8192x1024, .f32⟩
  | 4 => ⟨S1024x1024, .f32⟩
  | 5 => ⟨S1024x1024, .f32⟩
  | 6 => ⟨S1024x1024, .f32⟩
  | 7 => ⟨S1024, .f32⟩
  | 8 => ⟨S1024, .f32⟩
  | 9 => ⟨S1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S1x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S8192x1024, .f32⟩
  | 37 => ⟨S8192x1024, .f32⟩
  | 38 => ⟨S_, .f32⟩
  | 39 => ⟨S8192x1, .f32⟩
  | 40 => ⟨S8192x1, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x1024, .f32⟩
  | 47 => ⟨S8192x1024, .f32⟩
  | 48 => ⟨S1x1024, .f32⟩
  | 49 => ⟨S8192x1024, .f32⟩
  | 50 => ⟨S8192x1024, .f32⟩
  | 51 => ⟨S1x1024, .f32⟩
  | 52 => ⟨S8192x1024, .f32⟩
  | 53 => ⟨S8192x1024, .f32⟩
  | 54 => ⟨S8192x1024, .f32⟩
  | 55 => ⟨S8192x1024, .f32⟩
  | 56 => ⟨S_, .f32⟩
  | 57 => ⟨S8192x1024, .f32⟩
  | 58 => ⟨S8192x1024, .f32⟩
  | 59 => ⟨S_, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S_, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S_, .f32⟩
  | 109 => ⟨S1024, .f32⟩
  | 110 => ⟨S1x1024, .f32⟩
  | 111 => ⟨S_, .f32⟩
  | 112 => ⟨S1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S_, .f32⟩
  | 120 => ⟨S1024, .f32⟩
  | 121 => ⟨S8192x1024, .f32⟩
  | 122 => ⟨S_, .f32⟩
  | 123 => ⟨S8192, .f32⟩
  | 124 => ⟨S8192x1, .f32⟩
  | 125 => ⟨S8192x1024, .f32⟩
  | 126 => ⟨S8192x1024, .f32⟩
  | 127 => ⟨S8192x1, .f32⟩
  | _ => ⟨S8192x1024, .f32⟩

abbrev hbmTy0_1 (i : Nat) : BufTy := match i % 128 with
  | 0 => ⟨S8192x1024, .f32⟩
  | 1 => ⟨S_, .f32⟩
  | 2 => ⟨S8192, .f32⟩
  | 3 => ⟨S8192x1, .f32⟩
  | 4 => ⟨S_, .f32⟩
  | 5 => ⟨S8192x1, .f32⟩
  | 6 => ⟨S8192x1, .f32⟩
  | 7 => ⟨S_, .f32⟩
  | 8 => ⟨S8192, .f32⟩
  | 9 => ⟨S8192x1024, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S8192x1024, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192, .f32⟩
  | 22 => ⟨S8192x1024, .f32⟩
  | 23 => ⟨S8192x1024, .f32⟩
  | 24 => ⟨S_, .f32⟩
  | 25 => ⟨S1024, .f32⟩
  | 26 => ⟨S1x1024, .f32⟩
  | 27 => ⟨S_, .f32⟩
  | 28 => ⟨S1024, .f32⟩
  | 29 => ⟨S8192x1024, .f32⟩
  | 30 => ⟨S8192x1024, .f32⟩
  | 31 => ⟨S8192x1024, .f32⟩
  | 32 => ⟨S_, .f32⟩
  | 33 => ⟨S1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S8x1024, .f32⟩
  | 43 => ⟨S8192x1024, .bf16⟩
  | 44 => ⟨S8192x1024, .bf16⟩
  | 45 => ⟨S8192x2048, .f32⟩
  | 46 => ⟨S8192x2048, .bf16⟩
  | 47 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_v37_2 : Ref sig .tc := ⟨.hbm, 61, rfl⟩
abbrev main_call0_cst_1 : Ref sig .tc := ⟨.hbm, 62, rfl⟩
abbrev main_call0_v6 : Ref sig .tc := ⟨.hbm, 63, rfl⟩
abbrev main_call0_v7 : Ref sig .tc := ⟨.hbm, 64, rfl⟩
abbrev main_v37_1 : Ref sig .tc := ⟨.hbm, 65, rfl⟩
abbrev main_v37_0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_cst_8 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_9 : Ref sig .tc := ⟨.hbm, 83, rfl⟩
abbrev main_v51 : Ref sig .tc := ⟨.hbm, 84, rfl⟩
abbrev main_v52 : Ref sig .tc := ⟨.hbm, 85, rfl⟩
abbrev main_cst_10 : Ref sig .tc := ⟨.hbm, 86, rfl⟩
abbrev main_v53 : Ref sig .tc := ⟨.hbm, 87, rfl⟩
abbrev main_v54 : Ref sig .tc := ⟨.hbm, 88, rfl⟩
abbrev main_cst_11 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_v69 : Ref sig .tc := ⟨.hbm, 107, rfl⟩
abbrev main_cst_12 : Ref sig .tc := ⟨.hbm, 108, rfl⟩
abbrev main_v70 : Ref sig .tc := ⟨.hbm, 109, rfl⟩
abbrev main_v71 : Ref sig .tc := ⟨.hbm, 110, rfl⟩
abbrev main_cst_13 : Ref sig .tc := ⟨.hbm, 111, rfl⟩
abbrev main_v72 : Ref sig .tc := ⟨.hbm, 112, rfl⟩
abbrev main_v73 : Ref sig .tc := ⟨.hbm, 113, rfl⟩
abbrev main_cst_14 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_15 : Ref sig .tc := ⟨.hbm, 119, rfl⟩
abbrev main_v78 : Ref sig .tc := ⟨.hbm, 120, rfl⟩
abbrev main_v79 : Ref sig .tc := ⟨.hbm, 121, rfl⟩
abbrev main_cst_16 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_17 : Ref sig .tc := ⟨.hbm, 129, rfl⟩
abbrev main_v86 : Ref sig .tc := ⟨.hbm, 130, rfl⟩
abbrev main_v87 : Ref sig .tc := ⟨.hbm, 131, rfl⟩
abbrev main_cst_18 : Ref sig .tc := ⟨.hbm, 132, rfl⟩
abbrev main_v88 : Ref sig .tc := ⟨.hbm, 133, rfl⟩
abbrev main_v89 : Ref sig .tc := ⟨.hbm, 134, rfl⟩
abbrev main_cst_19 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_20 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_21 : Ref sig .tc := ⟨.hbm, 145, rfl⟩
abbrev main_v98 : Ref sig .tc := ⟨.hbm, 146, rfl⟩
abbrev main_v99 : Ref sig .tc := ⟨.hbm, 147, rfl⟩
abbrev main_cst_22 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_23 : Ref sig .tc := ⟨.hbm, 152, rfl⟩
abbrev main_v103 : Ref sig .tc := ⟨.hbm, 153, rfl⟩
abbrev main_v104 : Ref sig .tc := ⟨.hbm, 154, rfl⟩
abbrev main_cst_24 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_25 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩

abbrev nD : Nat := 1
abbrev τ : Topo := Topo.v7x

variable {F : FTy → Type} [FloatOps F]
-- ==== Kernel2.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 12
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x1024, .bf16⟩
  | .hbm, ⟨9, _⟩ => ⟨S4096x1024, .bf16⟩
  | .hbm, ⟨10, _⟩ => ⟨S8192x4096, .bf16⟩
  | .hbm, ⟨11, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel3.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1x1024x1024, .f32⟩
  | .hbm, ⟨5, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference3Ideal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .f32⟩
  | .hbm, ⟨9, _⟩ => ⟨S1x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S1024x2048 : Shape := ⟨2, ![1024, 2048]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .bf16⟩
  | .hbm, ⟨5, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x4096, .f32⟩
  | .hbm, ⟨8, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8x1024, .f32⟩
  | .hbm, ⟨15, _⟩ => ⟨S8192x4096, .bf16⟩
  | .hbm, ⟨16, _⟩ => ⟨S4096x1024, .bf16⟩
  | .hbm, ⟨17, _⟩ => ⟨S8192x1024, .bf16⟩
  | .hbm, ⟨18, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x1024 : Shape := ⟨2, ![8, 1024]⟩

abbrev nBuf : Space → Nat
  | .hbm => 167
  | .vmem => 0
  | .smem => 0
  | _ => 0

abbrev hbmTy0_0 (i : Nat) : BufTy := match i % 128 with
  | 0 => ⟨S8192x4096, .f32⟩
  | 1 => ⟨S4096x1024, .f32⟩
  | 2 => ⟨S8192x1024, .f32⟩
  | 3 => ⟨S8192x1024, .f32⟩
  | 4 => ⟨S1024, .f32⟩
  | 5 => ⟨S1024, .f32⟩
  | 6 => ⟨S1024, .f32⟩
  | 7 => ⟨S1024, .f32⟩
  | 8 => ⟨S1x1024, .f32⟩
  | 9 => ⟨S8192x1024, .f32⟩
  | 10 => ⟨S8192x1024, .f32⟩
  | 11 => ⟨S1x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S8192x1024, .f32⟩
  | 38 => ⟨S8192x1024, .f32⟩
  | 39 => ⟨S_, .f32⟩
  | 40 => ⟨S8192x1, .f32⟩
  | 41 => ⟨S8192x1, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1024, .f32⟩
  | 48 => ⟨S8192x1024, .f32⟩
  | 49 => ⟨S1x1024, .f32⟩
  | 50 => ⟨S8192x1024, .f32⟩
  | 51 => ⟨S8192x1024, .f32⟩
  | 52 => ⟨S1x1024, .f32⟩
  | 53 => ⟨S8192x1024, .f32⟩
  | 54 => ⟨S8192x1024, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192, .f32⟩
  | 62 => ⟨S_, .f32⟩
  | 63 => ⟨S8192, .f32⟩
  | 64 => ⟨S8192, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S8192, .f32⟩
  | 73 => ⟨S_, .f32⟩
  | 74 => ⟨S8192, .f32⟩
  | 75 => ⟨S8192, .f32⟩
  | 76 => ⟨S8192x1024, .f32⟩
  | 77 => ⟨S8192x1024, .f32⟩
  | 78 => ⟨S_, .f32⟩
  | 79 => ⟨S1024, .f32⟩
  | 80 => ⟨S1x1024, .f32⟩
  | 81 => ⟨S_, .f32⟩
  | 82 => ⟨S1024, .f32⟩
  | 83 => ⟨S8192x1024, .f32⟩
  | 84 => ⟨S_, .f32⟩
  | 85 => ⟨S1024, .f32⟩
  | 86 => ⟨S1x1024, .f32⟩
  | 87 => ⟨S8192x1024, .f32⟩
  | 88 => ⟨S8192x1024, .f32⟩
  | 89 => ⟨S_, .f32⟩
  | 90 => ⟨S1024, .f32⟩
  | 91 => ⟨S8192x1024, .f32⟩
  | 92 => ⟨S_, .f32⟩
  | 93 => ⟨S8192, .f32⟩
  | 94 => ⟨S8192x1, .f32⟩
  | 95 => ⟨S8192x1024, .f32⟩
  | 96 => ⟨S8192x1024, .f32⟩
  | 97 => ⟨S8192x1, .f32⟩
  | 98 => ⟨S8192x1024, .f32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .f32⟩
  | 105 => ⟨S_, .f32⟩
  | 106 => ⟨S8192, .f32⟩
  | 107 => ⟨S8192x1024, .f32⟩
  | 108 => ⟨S8192x1024, .f32⟩
  | 109 => ⟨S8192x1024, .f32⟩
  | 110 => ⟨S_, .f32⟩
  | 111 => ⟨S8192, .f32⟩
  | 112 => ⟨S8192x1, .f32⟩
  | 113 => ⟨S8192x1024, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192, .f32⟩
  | 120 => ⟨S8192x1024, .f32⟩
  | 121 => ⟨S8192x1024, .f32⟩
  | 122 => ⟨S_, .f32⟩
  | 123 => ⟨S8192, .f32⟩
  | 124 => ⟨S8192x1, .f32⟩
  | 125 => ⟨S_, .f32⟩
  | 126 => ⟨S8192x1, .f32⟩
  | 127 => ⟨S8192x1, .f32⟩
  | _ => ⟨S8192x4096, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S8192, .f32⟩
  | 5 => ⟨S8192x1, .f32⟩
  | 6 => ⟨S_, .f32⟩
  | 7 => ⟨S8192x1, .f32⟩
  | 8 => ⟨S8192x1, .f32⟩
  | 9 => ⟨S8192x1024, .f32⟩
  | 10 => ⟨S8192x1024, .f32⟩
  | 11 => ⟨S_, .f32⟩
  | 12 => ⟨S8192x1, .f32⟩
  | 13 => ⟨S8192x1, .f32⟩
  | 14 => ⟨S8192x1, .f32⟩
  | 15 => ⟨S8192x1024, .f32⟩
  | 16 => ⟨S8192x1024, .f32⟩
  | 17 => ⟨S1x1024, .f32⟩
  | 18 => ⟨S8192x1024, .f32⟩
  | 19 => ⟨S8192x1024, .f32⟩
  | 20 => ⟨S1x1024, .f32⟩
  | 21 => ⟨S8192x1024, .f32⟩
  | 22 => ⟨S8192x1024, .f32⟩
  | 23 => ⟨S8192x1024, .f32⟩
  | 24 => ⟨S8192x1024, .f32⟩
  | 25 => ⟨S_, .f32⟩
  | 26 => ⟨S1024, .f32⟩
  | 27 => ⟨S_, .f32⟩
  | 28 => ⟨S1024, .f32⟩
  | 29 => ⟨S8192x1024, .bf16⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S8x1024, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_cst_12 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev main_cst_17 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_18 : Ref sig .tc := ⟨.hbm, 89, rfl⟩
abbrev main_v62 : Ref sig .tc := ⟨.hbm, 90, rfl⟩
abbrev main_v63 : Ref sig .tc := ⟨.hbm, 91, rfl⟩
abbrev main_cst_19 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_20 : Ref sig .tc := ⟨.hbm, 99, rfl⟩
abbrev main_v70 : Ref sig .tc := ⟨.hbm, 100, rfl⟩
abbrev main_v71 : Ref sig .tc := ⟨.hbm, 101, rfl⟩
abbrev main_cst_21 : Ref sig .tc := ⟨.hbm, 102, rfl⟩
abbrev main_v72 : Ref sig .tc := ⟨.hbm, 103, rfl⟩
abbrev main_v73 : Ref sig .tc := ⟨.hbm, 104, rfl⟩
abbrev main_cst_22 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_23 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_24 : Ref sig .tc := ⟨.hbm, 115, rfl⟩
abbrev main_v82 : Ref sig .tc := ⟨.hbm, 116, rfl⟩
abbrev main_v83 : Ref sig .tc := ⟨.hbm, 117, rfl⟩
abbrev main_cst_25 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_26 : Ref sig .tc := ⟨.hbm, 122, rfl⟩
abbrev main_v87 : Ref sig .tc := ⟨.hbm, 123, rfl⟩
abbrev main_v88 : Ref sig .tc := ⟨.hbm, 124, rfl⟩
abbrev main_cst_27 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_28 : Ref sig .tc := ⟨.hbm, 131, rfl⟩
abbrev main_v94 : Ref sig .tc := ⟨.hbm, 132, rfl⟩
abbrev main_v95 : Ref sig .tc := ⟨.hbm, 133, rfl⟩
abbrev main_cst_29 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_30 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_31 : Ref sig .tc := ⟨.hbm, 153, rfl⟩
abbrev main_v113 : Ref sig .tc := ⟨.hbm, 154, rfl⟩
abbrev main_cst_32 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩

abbrev nD : Nat := 1
abbrev τ : Topo := Topo.v7x

variable {F : FTy → Type} [FloatOps F]
-- ==== Kernel6.lean ====
abbrev S8192x1024 : Shape := ⟨2, ![8192, 1024]⟩
abbrev S8192x7168 : Shape := ⟨2, ![8192, 7168]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S8x1024 : Shape := ⟨2, ![8, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 26
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x7168, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8x1024, .f32⟩
  | .hbm, ⟨14, _⟩ => ⟨S8192x1024, .bf16⟩
  | .hbm, ⟨15, _⟩ => ⟨S8192x1024, .bf16⟩
  | .hbm, ⟨16, _⟩ => ⟨S8192x7168, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S8192x1024, .bf16⟩
  | .hbm, ⟨21, _⟩ => ⟨S8192x1024, .bf16⟩
  | .hbm, ⟨22, _⟩ => ⟨S8192x1024, .bf16⟩
  | .hbm, ⟨23, _⟩ => ⟨S8192x1024, .f32⟩
  | .hbm, ⟨24, _⟩ => ⟨S8192x1, .f32⟩
  | .hbm, ⟨25, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S8x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1, .f32⟩
  | .local _ .vmem, ⟨23, _⟩ => ⟨S512x1, .f32⟩
  | .local _ .vmem, ⟨24, _⟩ => ⟨S512x1024, .bf16⟩
  | .local _ .vmem, ⟨25, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S8192x1024 : Shape := ⟨2, ![8192, 1024]⟩
abbrev S8192x7168 : Shape := ⟨2, ![8192, 7168]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x7168, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .bf16⟩
  | .hbm, ⟨61, _⟩ => ⟨S8192x1024, .bf16⟩
  | .hbm, ⟨62, _⟩ => ⟨S8192x1024, .bf16⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S1x1024, .f32⟩
  | .hbm, ⟨87, _⟩ => ⟨S8192x1024, .f32⟩
  | .hbm, ⟨88, _⟩ => ⟨S8192x1024, .f32⟩
  | .hbm, ⟨89, _⟩ => ⟨S1x1024, .f32⟩
  | .hbm, ⟨90, _⟩ => ⟨S8192x1024, .f32⟩
  | .hbm, ⟨91, _⟩ => ⟨S8192x1024, .f32⟩
  | .hbm, ⟨92, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Kernel7.lean ====
abbrev S8192x1024 : Shape := ⟨2, ![8192, 1024]⟩
abbrev S8192x4096 : Shape := ⟨2, ![8192, 4096]⟩
abbrev S8x512x1024 : Shape := ⟨3, ![8, 512, 1024]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x4096, .bf16⟩
  | .hbm, ⟨3, _⟩ => ⟨S8192x1024, .bf16⟩
  | .hbm, ⟨4, _⟩ => ⟨S8x512x1024, .f32⟩
  | .hbm, ⟨5, _⟩ => ⟨S8x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S8x512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg1 : BitVec 32 := BitVec.ofNat 32 (i 1).val
  let v14 : Index := Scalar.indexCast arg1
  let c0_7 : Index := 0#32
  let c0_8 : Index := 0#32
  ![v14.toNat, 0, 0]
def k0_cond2 (i : grid0.Coords) : BitVec 1 :=
  let arg0 : BitVec 32 := BitVec.ofNat 32 (i 0).val
  let c0_i32_4 : BitVec 32 := 0#32
  let v8 : BitVec 1 := Scalar.cmpi .sgt arg0 c0_i32_4
  let v9 : BitVec 32 := Scalar.extui v8
  let c0_i32_5 : BitVec 32 := 0#32
  let v10 : BitVec 1 := Scalar.cmpi .ne v9 c0_i32_5
  v10

def k0_off2 (i : grid0.Coords) : Fin 3 → Nat :=
  let arg1 : BitVec 32 := BitVec.ofNat 32 (i 1).val
  let v14 : Index := Scalar.indexCast arg1
  let c0_7 : Index := 0#32
  let c0_8 : Index := 0#32
  ![v14.toNat, 0, 0]
def k0_cond3 (i : grid0.Coords) : BitVec 1 :=
  let arg0 : BitVec 32 := BitVec.ofNat 32 (i 0).val
  let c1_i32 : BitVec 32 := 1#32
  let v11 : BitVec 1 := Scalar.cmpi .eq arg0 c1_i32
  let v12 : BitVec 32 := Scalar.extui v11
  let c0_i32_6 : BitVec 32 := 0#32
  let v13 : BitVec 1 := Scalar.cmpi .ne v12 c0_i32_6
  v13

def k0_off3 (i : grid0.Coords) : Fin 3 → Nat :=
  let arg1 : BitVec 32 := BitVec.ofNat 32 (i 1).val
  let v14 : Index := Scalar.indexCast arg1
  let c0_7 : Index := 0#32
  let c0_8 : Index := 0#32
  ![v14.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x1024 : Shape := ⟨2, ![8192, 1024]⟩
abbrev S8192x4096 : Shape := ⟨2, ![8192, 4096]⟩
abbrev S_ : Shape := ⟨0, ![]⟩
abbrev S4096x1024 : Shape := ⟨2, ![4096, 1024]⟩
abbrev S1024x4096 : Shape := ⟨2, ![1024, 4096]⟩
abbrev S8x512x1024 : Shape := ⟨3, ![8, 512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S4096x1024, .f32⟩
  | .hbm, ⟨7, _⟩ => ⟨S8x512x1024, .f32⟩
  | .hbm, ⟨8, _⟩ => ⟨S8x512x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x4096 : Shape := ⟨2, ![8192, 4096]⟩
abbrev S8192x1024 : Shape := ⟨2, ![8192, 1024]⟩
abbrev S8x1024x512 : Shape := ⟨3, ![8, 1024, 512]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x1024, .bf16⟩
  | .hbm, ⟨3, _⟩ => ⟨S8192x4096, .bf16⟩
  | .hbm, ⟨4, _⟩ => ⟨S8x1024x512, .f32⟩
  | .hbm, ⟨5, _⟩ => ⟨S8x1024x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x512, .bf16⟩
  | .local _ .vmem, ⟨7, _⟩ => ⟨S1x1024x512, .bf16⟩
  | .local _ .vmem, ⟨8, _⟩ => ⟨S8x1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg1 : BitVec 32 := BitVec.ofNat 32 (i 1).val
  let v14 : Index := Scalar.indexCast arg1
  let c0_7 : Index := 0#32
  let c0_8 : Index := 0#32
  ![v14.toNat, 0, 0]
def k0_cond2 (i : grid0.Coords) : BitVec 1 :=
  let arg0 : BitVec 32 := BitVec.ofNat 32 (i 0).val
  let c0_i32_4 : BitVec 32 := 0#32
  let v8 : BitVec 1 := Scalar.cmpi .sgt arg0 c0_i32_4
  let v9 : BitVec 32 := Scalar.extui v8
  let c0_i32_5 : BitVec 32 := 0#32
  let v10 : BitVec 1 := Scalar.cmpi .ne v9 c0_i32_5
  v10

def k0_off2 (i : grid0.Coords) : Fin 3 → Nat :=
  let arg1 : BitVec 32 := BitVec.ofNat 32 (i 1).val
  let v14 : Index := Scalar.indexCast arg1
  let c0_7 : Index := 0#32
  let c0_8 : Index := 0#32
  ![v14.toNat, 0, 0]
def k0_cond3 (i : grid0.Coords) : BitVec 1 :=
  let arg0 : BitVec 32 := BitVec.ofNat 32 (i 0).val
  let c1_i32 : BitVec 32 := 1#32
  let v11 : BitVec 1 := Scalar.cmpi .eq arg0 c1_i32
  let v12 : BitVec 32 := Scalar.extui v11
  let c0_i32_6 : BitVec 32 := 0#32
  let v13 : BitVec 1 := Scalar.cmpi .ne v12 c0_i32_6
  v13

def k0_off3 (i : grid0.Coords) : Fin 3 → Nat :=
  let arg1 : BitVec 32 := BitVec.ofNat 32 (i 1).val
  let v14 : Index := Scalar.indexCast arg1
  let c0_7 : Index := 0#32
  let c0_8 : Index := 0#32
  ![v14.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x4096 : Shape := ⟨2, ![8192, 4096]⟩
abbrev S8192x1024 : Shape := ⟨2, ![8192, 1024]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S512x1024 : Shape := ⟨2, ![512, 1024]⟩
abbrev S8x512x1024 : Shape := ⟨3, ![8, 512, 1024]⟩
abbrev S7x512x1024 : Shape := ⟨3, ![7, 512, 1024]⟩
abbrev S_ : Shape := ⟨0, ![]⟩
abbrev S1 : Shape := ⟨1, ![1]⟩
abbrev S256x1024 : Shape := ⟨2, ![256, 1024]⟩
abbrev S1x256x1024 : Shape := ⟨3, ![1, 256, 1024]⟩
abbrev S7x256x1024 : Shape := ⟨3, ![7, 256, 1024]⟩

abbrev nBuf : Space → Nat
  | .hbm => 11
  | .vmem => 18
  | .smem => 1
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x512x1024, .f32⟩
  | .hbm, ⟨4, _⟩ => ⟨S7x512x1024, .f32⟩
  | .hbm, ⟨5, _⟩ => ⟨S7x512x1024, .bf16⟩
  | .hbm, ⟨6, _⟩ => ⟨S_, .i32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S7x256x1024, .bf16⟩
  | .local _ .vmem, ⟨9, _⟩ => ⟨S7x256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S1, .i32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S512x1024 : Shape := ⟨2, ![512, 1024]⟩
abbrev S8x512x1024 : Shape := ⟨3, ![8, 512, 1024]⟩
abbrev S7x512x1024 : Shape := ⟨3, ![7, 512, 1024]⟩
abbrev S1x512x1024 : Shape := ⟨3, ![1, 512, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x512x1024, .f32⟩
  | .hbm, ⟨4, _⟩ => ⟨S7x512x1024, .f32⟩
  | .hbm, ⟨5, _⟩ => ⟨S1x512x1024, .f32⟩
  | .hbm, ⟨6, _⟩ => ⟨S512x1024, .f32⟩
  | .hbm, ⟨7, _⟩ => ⟨S7x512x1024, .bf16⟩
  | .hbm, ⟨8, _⟩ => ⟨S7x512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S_, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S_, .f32⟩
  | .hbm, ⟨43, _⟩ => ⟨S512x1024, .f32⟩
  | .hbm, ⟨44, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel10.lean ====
abbrev S1024x512 : Shape := ⟨2, ![1024, 512]⟩
abbrev S8x1024x512 : Shape := ⟨3, ![8, 1024, 512]⟩
abbrev S7x1024x512 : Shape := ⟨3, ![7, 1024, 512]⟩
abbrev S_ : Shape := ⟨0, ![]⟩
abbrev S1 : Shape := ⟨1, ![1]⟩
abbrev S256x512 : Shape := ⟨2, ![256, 512]⟩
abbrev S1x256x512 : Shape := ⟨3, ![1, 256, 512]⟩
abbrev S7x256x512 : Shape := ⟨3, ![7, 256, 512]⟩

abbrev nBuf : Space → Nat
  | .hbm => 11
  | .vmem => 18
  | .smem => 1
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S8x1024x512, .f32⟩
  | .hbm, ⟨4, _⟩ => ⟨S7x1024x512, .f32⟩
  | .hbm, ⟨5, _⟩ => ⟨S7x1024x512, .bf16⟩
  | .hbm, ⟨6, _⟩ => ⟨S_, .i32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x256x512, .f32⟩
  | .local _ .vmem, ⟨7, _⟩ => ⟨S1x256x512, .f32⟩
  | .local _ .vmem, ⟨8, _⟩ => ⟨S7x256x512, .bf16⟩
  | .local _ .vmem, ⟨9, _⟩ => ⟨S7x256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .smem, ⟨0, _⟩ => ⟨S1, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S1024x512 : Shape := ⟨2, ![1024, 512]⟩
abbrev S8x1024x512 : Shape := ⟨3, ![8, 1024, 512]⟩
abbrev S7x1024x512 : Shape := ⟨3, ![7, 1024, 512]⟩
abbrev S1x1024x512 : Shape := ⟨3, ![1, 1024, 512]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S8x1024x512, .f32⟩
  | .hbm, ⟨4, _⟩ => ⟨S7x1024x512, .f32⟩
  | .hbm, ⟨5, _⟩ => ⟨S1x1024x512, .f32⟩
  | .hbm, ⟨6, _⟩ => ⟨S1024x512, .f32⟩
  | .hbm, ⟨7, _⟩ => ⟨S7x1024x512, .bf16⟩
  | .hbm, ⟨8, _⟩ => ⟨S7x1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel11.lean ====
abbrev S128x1024 : Shape := ⟨2, ![128, 1024]⟩
abbrev S8x128x1024 : Shape := ⟨3, ![8, 128, 1024]⟩
abbrev S7x128x1024 : Shape := ⟨3, ![7, 128, 1024]⟩
abbrev S_ : Shape := ⟨0, ![]⟩
abbrev S1 : Shape := ⟨1, ![1]⟩
abbrev S1x128x1024 : Shape := ⟨3, ![1, 128, 1024]⟩

abbrev nBuf : Space → Nat
  | .hbm => 11
  | .vmem => 9
  | .smem => 1
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .f32⟩
  | .hbm, ⟨4, _⟩ => ⟨S7x128x1024, .f32⟩
  | .hbm, ⟨5, _⟩ => ⟨S7x128x1024, .bf16⟩
  | .hbm, ⟨6, _⟩ => ⟨S_, .i32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1x128x1024, .f32⟩
  | .local _ .vmem, ⟨4, _⟩ => ⟨S7x128x1024, .bf16⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S7x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference11Ideal.lean ====
abbrev S128x1024 : Shape := ⟨2, ![128, 1024]⟩
abbrev S8x128x1024 : Shape := ⟨3, ![8, 128, 1024]⟩
abbrev S7x128x1024 : Shape := ⟨3, ![7, 128, 1024]⟩
abbrev S1x128x1024 : Shape := ⟨3, ![1, 128, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .f32⟩
  | .hbm, ⟨4, _⟩ => ⟨S7x128x1024, .f32⟩
  | .hbm, ⟨5, _⟩ => ⟨S1x128x1024, .f32⟩
  | .hbm, ⟨6, _⟩ => ⟨S128x1024, .f32⟩
  | .hbm, ⟨7, _⟩ => ⟨S7x128x1024, .bf16⟩
  | .hbm, ⟨8, _⟩ => ⟨S7x128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel12.lean ====
abbrev S1024x896 : Shape := ⟨2, ![1024, 896]⟩
abbrev S8x1024x896 : Shape := ⟨3, ![8, 1024, 896]⟩
abbrev S4x1024x896 : Shape := ⟨3, ![4, 1024, 896]⟩
abbrev S3x1024x896 : Shape := ⟨3, ![3, 1024, 896]⟩
abbrev S_ : Shape := ⟨0, ![]⟩
abbrev S1 : Shape := ⟨1, ![1]⟩
abbrev S256x896 : Shape := ⟨2, ![256, 896]⟩
abbrev S1x256x896 : Shape := ⟨3, ![1, 256, 896]⟩
abbrev S4x256x896 : Shape := ⟨3, ![4, 256, 896]⟩
abbrev S3x256x896 : Shape := ⟨3, ![3, 256, 896]⟩

abbrev nBuf : Space → Nat
  | .hbm => 13
  | .vmem => 20
  | .smem => 1
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S8x1024x896, .f32⟩
  | .hbm, ⟨4, _⟩ => ⟨S4x1024x896, .f32⟩
  | .hbm, ⟨5, _⟩ => ⟨S3x1024x896, .f32⟩
  | .hbm, ⟨6, _⟩ => ⟨S4x1024x896, .bf16⟩
  | .hbm, ⟨7, _⟩ => ⟨S3x1024x896, .bf16⟩
  | .hbm, ⟨8, _⟩ => ⟨S_, .i32⟩
  | .hbm, ⟨9, _⟩ => ⟨S1024x896, .f32⟩
  | .hbm, ⟨10, _⟩ => ⟨S1024x896, .f32⟩
  | .hbm, ⟨11, _⟩ => ⟨S1024x896, .f32⟩
  | .hbm, ⟨12, _⟩ => ⟨S1024x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S1x256x896, .f32⟩
  | .local _ .vmem, ⟨7, _⟩ => ⟨S1x256x896, .f32⟩
  | .local _ .vmem, ⟨8, _⟩ => ⟨S4x256x896, .bf16⟩
  | .local _ .vmem, ⟨9, _⟩ => ⟨S4x256x896, .bf16⟩
  | .local _ .vmem, ⟨10, _⟩ => ⟨S3x256x896, .bf16⟩
  | .local _ .vmem, ⟨11, _⟩ => ⟨S3x256x896, .bf16⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | .local _ .vmem, ⟨16, _⟩ => ⟨S256x896, .f32⟩
  | .local _ .vmem, ⟨17, _⟩ => ⟨S256x896, .f32⟩
  | .local _ .vmem, ⟨18, _⟩ => ⟨S256x896, .f32⟩
  | .local _ .vmem, ⟨19, _⟩ => ⟨S256x896, .f32⟩
  | .local _ .smem, ⟨0, _⟩ => ⟨S1, .i32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference12Ideal.lean ====
abbrev S1024x896 : Shape := ⟨2, ![1024, 896]⟩
abbrev S8x1024x896 : Shape := ⟨3, ![8, 1024, 896]⟩
abbrev S4x1024x896 : Shape := ⟨3, ![4, 1024, 896]⟩
abbrev S3x1024x896 : Shape := ⟨3, ![3, 1024, 896]⟩
abbrev S7x1024x896 : Shape := ⟨3, ![7, 1024, 896]⟩
abbrev S1x1024x896 : Shape := ⟨3, ![1, 1024, 896]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S8x1024x896, .f32⟩
  | .hbm, ⟨4, _⟩ => ⟨S4x1024x896, .f32⟩
  | .hbm, ⟨5, _⟩ => ⟨S3x1024x896, .f32⟩
  | .hbm, ⟨6, _⟩ => ⟨S7x1024x896, .f32⟩
  | .hbm, ⟨7, _⟩ => ⟨S1x1024x896, .f32⟩
  | .hbm, ⟨8, _⟩ => ⟨S1024x896, .f32⟩
  | .hbm, ⟨9, _⟩ => ⟨S7x1024x896, .bf16⟩
  | .hbm, ⟨10, _⟩ => ⟨S7x1024x896, .f32⟩
  | .hbm, ⟨11, _⟩ => ⟨S_, .f32⟩
  | .hbm, ⟨12, _⟩ => ⟨S1024x896, .f32⟩
  | .hbm, ⟨13, _⟩ => ⟨S1024x896, .f32⟩
  | .hbm, ⟨14, _⟩ => ⟨S_, .f32⟩
  | .hbm, ⟨15, _⟩ => ⟨S1024x896, .f32⟩
  | .hbm, ⟨16, _⟩ => ⟨S1024x896, .f32⟩
  | .hbm, ⟨17, _⟩ => ⟨S_, .f32⟩
  | .hbm, ⟨18, _⟩ => ⟨S1024x896, .f32⟩
  | .hbm, ⟨19, _⟩ => ⟨S1024x896, .f32⟩
  | .hbm, ⟨20, _⟩ => ⟨S1024x896, .f32⟩
  | .hbm, ⟨21, _⟩ => ⟨S_, .f32⟩
  | .hbm, ⟨22, _⟩ => ⟨S1024x896, .f32⟩
  | .hbm, ⟨23, _⟩ => ⟨S1024x896, .f32⟩
  | .hbm, ⟨24, _⟩ => ⟨S1024x896, .f32⟩
  | .hbm, ⟨25, _⟩ => ⟨S_, .f32⟩
  | .hbm, ⟨26, _⟩ => ⟨S1024x896, .f32⟩
  | .hbm, ⟨27, _⟩ => ⟨S1024x896, .f32⟩
  | .hbm, ⟨28, _⟩ => ⟨S1024x896, .f32⟩
  | .hbm, ⟨29, _⟩ => ⟨S_, .f32⟩
  | .hbm, ⟨30, _⟩ => ⟨S1024x896, .f32⟩
  | .hbm, ⟨31, _⟩ => ⟨S1024x896, .f32⟩
  | .hbm, ⟨32, _⟩ => ⟨S_, .f32⟩
  | .hbm, ⟨33, _⟩ => ⟨S1024x896, .f32⟩
  | .hbm, ⟨34, _⟩ => ⟨S1024x896, .f32⟩
  | .hbm, ⟨35, _⟩ => ⟨S1024x896, .f32⟩
  | .hbm, ⟨36, _⟩ => ⟨S_, .f32⟩
  | .hbm, ⟨37, _⟩ => ⟨S1024x896, .f32⟩
  | .hbm, ⟨38, _⟩ => ⟨S1024x896, .f32⟩
  | .hbm, ⟨39, _⟩ => ⟨S1024x896, .f32⟩
  | .hbm, ⟨40, _⟩ => ⟨S_, .f32⟩
  | .hbm, ⟨41, _⟩ => ⟨S1024x896, .f32⟩
  | .hbm, ⟨42, _⟩ => ⟨S1024x896, .f32⟩
  | .hbm, ⟨43, _⟩ => ⟨S1024x896, .f32⟩
  | .hbm, ⟨44, _⟩ => ⟨S_, .f32⟩
  | .hbm, ⟨45, _⟩ => ⟨S1024x896, .f32⟩
  | .hbm, ⟨46, _⟩ => ⟨S1024x896, .f32⟩
  | _, _ => ⟨S1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.Scalars.lean ====
/- The numbers of the merge's backward pass: its constants, the two ways of writing the sigmoid, the derivative of the
   sigmoid-weighted unit, and sums of finite numbers. -/
module

public import Idealize.ShloMosaic.Lib.IdealHost

@[expose] public section

set_option maxRecDepth 16384

noncomputable section

namespace Cert.Merge

open Idealize.ShloMosaic
open scoped BigOperators

/-! ## The constants -/

/-- The word of one half. -/
theorem w_half : Ideal.ofBits .f32 0x3F000000#32 = ((1 / 2 : ℝ) : EReal) := by
  simp [Ideal.ofBits, Ideal.ieee, -EReal.coe_mul]; norm_num

/-- The word of minus one half. -/
theorem w_neg_half : Ideal.ofBits .f32 0xBF000000#32 = ((-(1 / 2) : ℝ) : EReal) := by
  simp [Ideal.ofBits, Ideal.ieee, -EReal.coe_mul, -EReal.coe_neg]; norm_num

/-- The word of two. -/
theorem w_two : Ideal.ofBits .f32 0x40000000#32 = ((2 : ℝ) : EReal) := by
  simp [Ideal.ofBits, Ideal.ieee, -EReal.coe_mul]; norm_num

/-- The word of the row length 1024. -/
theorem w_len : Ideal.ofBits .f32 0x44800000#32 = ((1024 : ℝ) : EReal) := by
  simp [Ideal.ofBits, Ideal.ieee, -EReal.coe_mul]; norm_num

/-- The number added to the variance. -/
def eps : ℝ := 10995116 / 1099511627776

theorem eps_pos : 0 < eps := by unfold eps; norm_num

/-- The word added to the variance is that number. -/
theorem w_eps : Ideal.ofBits .f32 0x3727C5AC#32 = (eps : EReal) := by
  unfold eps
  simp [Ideal.ofBits, Ideal.ieee, -EReal.coe_mul]; norm_num

/-! ## The sigmoid -/

/-- The sigmoid as the reference writes it. -/
def sg (v : EReal) : EReal := Ideal.div 1 (1 + Ideal.exp (-v))

theorem sg_top : sg ⊤ = 1 := by
  unfold sg Ideal.div
  simp

theorem sg_bot : sg ⊥ = 0 := by
  have h : (1 : EReal) + ⊤ = ⊤ := EReal.add_top_of_ne_bot (by rw [← EReal.coe_one]; exact EReal.coe_ne_bot 1)
  unfold sg Ideal.div
  simp [h]

/-- The sigmoid of a real. -/
theorem sg_coe (x : ℝ) : sg (x : EReal) = ((1 / (1 + Real.exp (-x)) : ℝ) : EReal) := by
  unfold sg Ideal.div
  have hp : (0 : ℝ) < 1 + Real.exp (-x) := by positivity
  rw [← EReal.coe_neg, Ideal.exp_coe, ← EReal.coe_one, ← EReal.coe_add, if_neg, ← EReal.coe_inv, ← EReal.coe_mul]
  · rw [one_div, one_mul]
  · exact_mod_cast hp.ne'

/-- The sigmoid is finite everywhere. -/
theorem sg_real (v : EReal) : ∃ s : ℝ, sg v = (s : EReal) := by
  induction v with
  | bot => exact ⟨0, by rw [sg_bot]; rfl⟩
  | top => exact ⟨1, by rw [sg_top]; rfl⟩
  | coe x => exact ⟨_, sg_coe x⟩

/-- Half the hyperbolic tangent of half the argument, and one half, is the sigmoid. -/
theorem half_tanh (v : EReal) :
    Ideal.ofBits .f32 0x3F000000#32 * Ideal.tanh (Ideal.ofBits .f32 0x3F000000#32 * v) + Ideal.ofBits .f32 0x3F000000#32
      = sg v := by
  rw [w_half]
  induction v with
  | bot =>
    rw [EReal.coe_mul_bot_of_pos (by norm_num), Ideal.tanh_bot, sg_bot, ← EReal.coe_one, ← EReal.coe_neg, ← EReal.coe_mul,
      ← EReal.coe_add, ← EReal.coe_zero]
    norm_num
  | top =>
    rw [EReal.coe_mul_top_of_pos (by norm_num), Ideal.tanh_top, sg_top, ← EReal.coe_one, ← EReal.coe_mul, ← EReal.coe_add]
    norm_num
  | coe x =>
    rw [sg_coe, ← EReal.coe_mul, Ideal.tanh_coe, ← EReal.coe_mul, ← EReal.coe_add]
    congr 1
    rw [Real.tanh_eq_sinh_div_cosh, Real.sinh_eq, Real.cosh_eq]
    have e1 : Real.exp (-x) = Real.exp (-(1 / 2 * x)) * Real.exp (-(1 / 2 * x)) := by rw [← Real.exp_add]; ring_nf
    have e2 : Real.exp (1 / 2 * x) * Real.exp (-(1 / 2 * x)) = 1 := by rw [← Real.exp_add]; simp
    have hp : 0 < Real.exp (1 / 2 * x) := Real.exp_pos _
    have hq : 0 < Real.exp (-(1 / 2 * x)) := Real.exp_pos _
    rw [e1]
    generalize Real.exp (1 / 2 * x) = a at *
    generalize Real.exp (-(1 / 2 * x)) = b at *
    have h1 : a + b ≠ 0 := by positivity
    have h2 : 1 + b * b ≠ 0 := by positivity
    field_simp
    linear_combination (2 * b) * e2

/-- The derivative of the sigmoid-weighted unit times a finite gradient: the factored form is the two terms of the product
    rule, and it is finite. -/
theorem silu_grad (g : ℝ) (u : EReal) :
    (g : EReal) * (sg u * (1 + u * (1 - sg u))) = g * sg u + (u * g) * (sg u * (1 - sg u))
      ∧ ∃ d : ℝ, (g : EReal) * (sg u * (1 + u * (1 - sg u))) = (d : EReal) := by
  have h11 : (1 : EReal) - 1 = 0 := by rw [← EReal.coe_one, ← EReal.coe_sub, sub_self, EReal.coe_zero]
  induction u with
  | bot => rw [sg_bot]; exact ⟨by simp, 0, by simp⟩
  | top => rw [sg_top, h11]; exact ⟨by simp, g, by simp⟩
  | coe x =>
    rw [sg_coe]
    generalize (1 / (1 + Real.exp (-x)) : ℝ) = s
    refine ⟨?_, g * (s * (1 + x * (1 - s))), ?_⟩
    · norm_cast; ring
    · norm_cast

/-! ## Finite numbers -/

/-- A number whose magnitude is below infinity is a real. -/
theorem real_of_abs_lt (x : EReal) (h : max x (-x) < ⊤) : ∃ r : ℝ, x = (r : EReal) := by
  induction x with
  | bot => simp at h
  | top => simp at h
  | coe r => exact ⟨r, rfl⟩

/-- A sum of reals is the real sum. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A sum of terms that are reals is the real sum. -/
theorem sum_of_coe {ι : Type} [Fintype ι] (f : ι → EReal) (g : ι → ℝ) (h : ∀ i, f i = (g i : EReal)) :
    (∑ i, f i) = ((∑ i, g i : ℝ) : EReal) := by
  rw [← sum_coe]; exact Finset.sum_congr rfl fun i _ => h i

/-- A sum of products of finite numbers is finite. -/
theorem sum_mul_real {ι : Type} [Fintype ι] (f g : ι → EReal) (hf : ∀ i, ∃ r : ℝ, f i = r) (hg : ∀ i, ∃ r : ℝ, g i = r) :
    ∃ r : ℝ, (∑ i, f i * g i) = (r : EReal) := by
  choose a ha using hf
  choose b hb using hg
  refine ⟨∑ i, a i * b i, ?_⟩
  rw [← sum_coe]
  exact Finset.sum_congr rfl fun i _ => by rw [ha, hb, EReal.coe_mul]

/-- A product of finite numbers is finite. -/
theorem mul_real {x y : EReal} (hx : ∃ r : ℝ, x = r) (hy : ∃ r : ℝ, y = r) : ∃ r : ℝ, x * y = (r : EReal) := by
  obtain ⟨a, rfl⟩ := hx
  obtain ⟨b, rfl⟩ := hy
  exact ⟨a * b, (EReal.coe_mul a b).symm⟩

end Cert.Merge

end
-- ==== Proof.Norm.lean ====
/- The backward pass of the layer norm over one row: the two means and the one scale of the kernel against the term by term
   derivative of the reference. The row may hold infinite numbers; the gradient coming in may not. -/
module

public import proofs.«01_k».proof.Proof.Scalars

@[expose] public section

set_option maxRecDepth 16384

noncomputable section

namespace Cert.Merge

open Idealize.ShloMosaic
open scoped BigOperators

variable (x : Fin 1024 → EReal)

/-- The row length as a divisor. -/
abbrev len : EReal := ((1024 : ℝ) : EReal)

/-- The row's mean. -/
def mean : EReal := Ideal.div (∑ k, x k) len
/-- The row less its mean. -/
def cen (l : Fin 1024) : EReal := x l - mean x
/-- The row's variance and the small number. -/
def vare : EReal := Ideal.div (∑ k, cen x k * cen x k) len + (eps : EReal)
/-- The row's scale. -/
def scl : EReal := Ideal.rsqrt (vare x)
/-- The normalised row. -/
def xhat (l : Fin 1024) : EReal := cen x l * scl x

/-- The gradient of the row as the kernel writes it: the scale times what is left of the gradient `d` without its mean and
    without its part along the normalised row. -/
def gradK (d : Fin 1024 → EReal) (l : Fin 1024) : EReal :=
  scl x * ((d l - Ideal.div (∑ k, d k) len) - xhat x l * Ideal.div (∑ k, d k * xhat x k) len)

/-- The gradient of the centred row through the scale. -/
def thru (d : Fin 1024 → EReal) (l : Fin 1024) : EReal :=
  Ideal.div ((∑ k, cen x k * d k) * (((-(1 / 2) : ℝ) : EReal) * Ideal.div (scl x) (vare x))) len * (((2 : ℝ) : EReal) * cen x l)

/-- The gradient of the row as the reference writes it: directly, through the scale, and through the mean. -/
def gradR (d : Fin 1024 → EReal) (l : Fin 1024) : EReal :=
  (d l * scl x + thru x d l) + Ideal.div ((∑ k, -(d k * scl x)) + ∑ k, -(thru x d k)) len

/-! ## A row with an infinite number -/

/-- Dividing an infinite number by the row length leaves it. -/
theorem div_len_top : Ideal.div ⊤ len = ⊤ := by
  unfold Ideal.div len
  rw [if_neg (by exact_mod_cast (by norm_num : (1024 : ℝ) ≠ 0)), ← EReal.coe_inv, EReal.top_mul_coe_of_pos (by norm_num)]

theorem div_len_bot : Ideal.div ⊥ len = ⊥ := by
  unfold Ideal.div len
  rw [if_neg (by exact_mod_cast (by norm_num : (1024 : ℝ) ≠ 0)), ← EReal.coe_inv, EReal.bot_mul_coe_of_pos (by norm_num)]

theorem div_len_coe (a : ℝ) : Ideal.div (a : EReal) len = ((a / 1024 : ℝ) : EReal) := by
  unfold Ideal.div len
  rw [if_neg (by exact_mod_cast (by norm_num : (1024 : ℝ) ≠ 0)), ← EReal.coe_inv, ← EReal.coe_mul, div_eq_mul_inv]

/-- A sum with a term minus infinity is minus infinity. -/
theorem sum_bot {ι : Type} [Fintype ι] (f : ι → EReal) (i : ι) (h : f i = ⊥) : (∑ k, f k) = ⊥ := by
  classical
  rw [← Finset.add_sum_erase _ _ (Finset.mem_univ i), h, EReal.bot_add]

/-- A sum without a term minus infinity is not minus infinity. -/
theorem sum_ne_bot {ι : Type} (s : Finset ι) (f : ι → EReal) (h : ∀ i, f i ≠ ⊥) : (∑ k ∈ s, f k) ≠ ⊥ := by
  classical
  induction s using Finset.induction_on with
  | empty => simp
  | insert a s ha ih =>
    rw [Finset.sum_insert ha]
    intro e
    rcases EReal.add_eq_bot_iff.mp e with e | e
    · exact h a e
    · exact ih e

/-- A sum with a term plus infinity and none minus infinity is plus infinity. -/
theorem sum_top {ι : Type} [Fintype ι] (f : ι → EReal) (i : ι) (h : f i = ⊤) (hb : ∀ i, f i ≠ ⊥) : (∑ k, f k) = ⊤ := by
  classical
  rw [← Finset.add_sum_erase _ _ (Finset.mem_univ i), h, EReal.top_add_of_ne_bot (sum_ne_bot _ f hb)]

/-- A row with an infinite number has every centred entry infinite: their squares are plus infinity. -/
theorem cen_sq_top (h : ¬ ∀ l, ∃ r : ℝ, x l = r) (l : Fin 1024) : cen x l * cen x l = ⊤ := by
  by_cases hb : ∃ i, x i = ⊥
  · obtain ⟨i, hi⟩ := hb
    have hm : mean x = ⊥ := by rw [mean, sum_bot x i hi, div_len_bot]
    rw [cen, hm, sub_eq_add_neg, EReal.neg_bot]
    by_cases hl : x l = ⊥
    · rw [hl, EReal.bot_add, EReal.bot_mul_bot]
    · rw [EReal.add_top_of_ne_bot hl, EReal.top_mul_top]
  · have hb' : ∀ i, x i ≠ ⊥ := fun i hi => hb ⟨i, hi⟩
    have ht : ∃ i, x i = ⊤ := by
      by_contra hn
      exact h fun l => ⟨(x l).toReal, (EReal.coe_toReal (fun e => hn ⟨l, e⟩) (hb' l)).symm⟩
    obtain ⟨i, hi⟩ := ht
    have hm : mean x = ⊤ := by rw [mean, sum_top x i hi hb', div_len_top]
    have hc : cen x l = ⊥ := by rw [cen, hm, sub_eq_add_neg, EReal.neg_top, EReal.add_bot]
    rw [hc, EReal.bot_mul_bot]

/-- Such a row's variance is infinite, -/
theorem vare_top (h : ¬ ∀ l, ∃ r : ℝ, x l = r) : vare x = ⊤ := by
  have e : (∑ k, cen x k * cen x k) = ⊤ :=
    sum_top _ 0 (cen_sq_top x h 0) fun i => by rw [cen_sq_top x h i]; exact top_ne_bot
  rw [vare, e, div_len_top, EReal.top_add_coe]

/-- and its scale is zero. -/
theorem scl_zero (h : ¬ ∀ l, ∃ r : ℝ, x l = r) : scl x = 0 := by rw [scl, vare_top x h, Ideal.rsqrt_top]

theorem div_zero_len : Ideal.div 0 len = 0 := by
  have := div_len_coe 0
  rwa [EReal.coe_zero, zero_div, EReal.coe_zero] at this

/-- Such a row's gradient is zero both ways. -/
theorem grad_inf (h : ¬ ∀ l, ∃ r : ℝ, x l = r) (d : Fin 1024 → EReal) (l : Fin 1024) : gradK x d l = gradR x d l := by
  have hs := scl_zero x h
  have hv : Ideal.div (scl x) (vare x) = 0 := by
    rw [hs, Ideal.zero_div (by rw [vare_top x h]; exact EReal.top_ne_zero)]
  have ht : ∀ k, thru x d k = 0 := fun k => by rw [thru, hv, mul_zero, mul_zero, div_zero_len, zero_mul]
  rw [gradK, gradR, ht, hs]
  simp only [ht, zero_mul, mul_zero, neg_zero, Finset.sum_const_zero, add_zero, div_zero_len]

/-! ## A row of finite numbers -/

/-- The two ways agree on reals: `r` is the scale, `c` the centred row, of sum zero. -/
theorem grad_fin (hx : ∀ l, ∃ r : ℝ, x l = r) (e : Fin 1024 → ℝ) (l : Fin 1024) :
    gradK x (fun k => (e k : EReal)) l = gradR x (fun k => (e k : EReal)) l := by
  choose y hy using hx
  have hm : mean x = ((∑ k, y k) / 1024 : ℝ) := by
    rw [mean, Finset.sum_congr rfl fun k _ => hy k, sum_coe, div_len_coe]
  obtain ⟨c, hc⟩ : ∃ c : Fin 1024 → ℝ, c = fun k => y k - (∑ k, y k) / 1024 := ⟨_, rfl⟩
  have hcen : ∀ k, cen x k = (c k : EReal) := fun k => by rw [cen, hm, hy, hc, EReal.coe_sub]
  have hc0 : ∑ k, c k = 0 := by
    rw [hc, Finset.sum_sub_distrib, Finset.sum_const, Finset.card_univ, Fintype.card_fin, nsmul_eq_mul]
    push_cast; ring
  have hv : vare x = (((∑ k, c k * c k) / 1024 + eps : ℝ) : EReal) := by
    rw [vare, sum_of_coe _ (fun k => c k * c k) fun k => by rw [hcen k, ← EReal.coe_mul], div_len_coe, ← EReal.coe_add]
  obtain ⟨w, hw⟩ : ∃ w : ℝ, w = (∑ k, c k * c k) / 1024 + eps := ⟨_, rfl⟩
  have hw0 : 0 < w := by
    rw [hw]
    exact add_pos_of_nonneg_of_pos (div_nonneg (Finset.sum_nonneg fun k _ => mul_self_nonneg _) (by norm_num)) eps_pos
  rw [← hw] at hv
  obtain ⟨r, hr⟩ : ∃ r : ℝ, r = (Real.sqrt w)⁻¹ := ⟨_, rfl⟩
  have hs : scl x = (r : EReal) := by
    rw [scl, hv, Ideal.rsqrt_coe, if_neg (not_lt.mpr hw0.le), if_neg hw0.ne', hr]
  have hrw : r * r = 1 / w := by
    rw [hr, ← mul_inv, Real.mul_self_sqrt hw0.le, one_div]
  have hq : Ideal.div (scl x) (vare x) = ((r / w : ℝ) : EReal) := by
    rw [hs, hv, Ideal.div, if_neg (by exact_mod_cast hw0.ne'), ← EReal.coe_inv, ← EReal.coe_mul, div_eq_mul_inv]
  have hA : (∑ k, cen x k * (e k : EReal)) = ((∑ k, c k * e k : ℝ) : EReal) :=
    sum_of_coe _ _ fun k => by rw [hcen k, ← EReal.coe_mul]
  have ht : ∀ k, thru x (fun k => (e k : EReal)) k
      = (((∑ k, c k * e k) * (-(1 / 2) * (r / w)) / 1024 * (2 * c k) : ℝ) : EReal) := fun k => by
    rw [thru, hq, hcen, hA, ← EReal.coe_mul, ← EReal.coe_mul, div_len_coe, ← EReal.coe_mul, ← EReal.coe_mul]
  have hB : (∑ k, (e k : EReal) * xhat x k) = ((∑ k, e k * (c k * r) : ℝ) : EReal) :=
    sum_of_coe _ _ fun k => by rw [xhat, hcen k, hs, ← EReal.coe_mul, ← EReal.coe_mul]
  have hC : (∑ k, -((e k : EReal) * scl x)) = ((∑ k, -(e k * r) : ℝ) : EReal) :=
    sum_of_coe _ _ fun k => by rw [hs, ← EReal.coe_mul, ← EReal.coe_neg]
  have hE : (∑ k, -(thru x (fun k => (e k : EReal)) k))
      = ((∑ k, -((∑ k, c k * e k) * (-(1 / 2) * (r / w)) / 1024 * (2 * c k)) : ℝ) : EReal) :=
    sum_of_coe _ _ fun k => by rw [ht k, ← EReal.coe_neg]
  have hK : gradK x (fun k => (e k : EReal)) l
      = ((r * ((e l - (∑ k, e k) / 1024) - c l * r * ((∑ k, e k * (c k * r)) / 1024)) : ℝ) : EReal) := by
    rw [gradK, sum_coe, div_len_coe, hB, div_len_coe, xhat, hcen, hs, ← EReal.coe_mul, ← EReal.coe_mul, ← EReal.coe_sub,
      ← EReal.coe_sub, ← EReal.coe_mul]
  have hR : gradR x (fun k => (e k : EReal)) l
      = (((e l * r + (∑ k, c k * e k) * (-(1 / 2) * (r / w)) / 1024 * (2 * c l))
          + ((∑ k, -(e k * r)) + ∑ k, -((∑ k, c k * e k) * (-(1 / 2) * (r / w)) / 1024 * (2 * c k))) / 1024 : ℝ) : EReal) := by
    rw [gradR, hC, hE, ht, hs, ← EReal.coe_add, div_len_coe, ← EReal.coe_mul, ← EReal.coe_add, ← EReal.coe_add]
  rw [hK, hR]
  congr 1
  have s1 : ∑ k, e k * (c k * r) = (∑ k, c k * e k) * r := by
    rw [Finset.sum_mul]; exact Finset.sum_congr rfl fun k _ => by ring
  have s2 : ∑ k, -(e k * r) = -((∑ k, e k) * r) := by rw [Finset.sum_neg_distrib, Finset.sum_mul]
  have s3 : ∑ k, -((∑ k, c k * e k) * (-(1 / 2) * (r / w)) / 1024 * (2 * c k)) = 0 := by
    rw [Finset.sum_neg_distrib, ← Finset.mul_sum, ← Finset.mul_sum, hc0]; ring
  rw [s1, s2, s3]
  have hrw' : r / w = r * (r * r) := by rw [hrw]; ring
  rw [hrw']
  ring

/-- The two ways of writing the gradient agree, for a gradient coming in that is finite. -/
theorem grad_eq (d : Fin 1024 → EReal) (hd : ∀ k, ∃ r : ℝ, d k = r) (l : Fin 1024) : gradK x d l = gradR x d l := by
  by_cases hx : ∀ l, ∃ r : ℝ, x l = r
  · choose e he using hd
    rw [show d = fun k => (e k : EReal) from funext he]
    exact grad_fin x hx e l
  · exact grad_inf x hx d l

end Cert.Merge

end
-- ==== Proof.RefBase.lean ====
/- What the reference computes, entry by entry: the gradient of the merged product, the normalised rows, the second
   branch's input and the gradient that reaches the norm. -/
module

public import proofs.«01_k».proof.Proof.Norm
public import proofs.«01_k».proof.Proof.Gen.ReferenceIdeal.Read
public import Idealize.ShloMosaic.Lib.Pointwise

@[expose] public section

set_option maxRecDepth 16384

noncomputable section

namespace Cert.Merge.Ref

open Idealize.ShloMosaic
open Cert.ReferenceIdeal Cert.ReferenceIdeal.Read
open scoped BigOperators

variable (x0 : FVec Ideal S8192x1024 .f32) (x1 : FVec Ideal S8192x7168 .f32) (x2 x3 : FVec Ideal S8192x1024 .f32)
variable (x4 x5 x6 : FVec Ideal S1024x1024 .f32) (x7 x8 x9 : FVec Ideal S1024 .f32)

/-- Row `t` of the second branch's convolution with its bias. -/
def row (t : Fin 8192) (k : Fin 1024) : EReal := x3 (ix2 t k) + x7 (ix1 k)

/-- The gradient of the gated sum. -/
theorem v61 (t : Fin 8192) (c : Fin 1024) :
    val_main_v61 (F := Ideal) x0 x6 (ix2 t c) = ∑ k : Fin 1024, x0 (ix2 t k) * x6 (ix2 c k) := by
  pointwise [val_main_v61]

/-- The convolution with its bias. -/
theorem v7 (t : Fin 8192) (c : Fin 1024) : val_main_v7 (F := Ideal) x3 x7 (ix2 t c) = row x3 x7 t c := by
  pointwise [val_main_v7, val_main_v6, val_main_v5]
  rfl

/-- The mean of a row. -/
theorem v11 (t : Fin 8192) : val_main_v11 (F := Ideal) x3 x7 (ix2 t 0) = mean (row x3 x7 t) := by
  pointwise [val_main_v11, val_main_v10, val_main_cst_0, val_main_v9, val_main_v8, val_main_cst, w_len]
  simp only [v7]
  rfl

/-- The centred row, -/
theorem v13 (t : Fin 8192) (c : Fin 1024) : val_main_v13 (F := Ideal) x3 x7 (ix2 t c) = cen (row x3 x7 t) c := by
  pointwise [val_main_v13, val_main_v12]
  rw [v7, v11]
  rfl

/-- which the reference computes twice. -/
theorem v22 (t : Fin 8192) (c : Fin 1024) : val_main_v22 (F := Ideal) x3 x7 (ix2 t c) = cen (row x3 x7 t) c := by
  pointwise [val_main_v22, val_main_v21]
  rw [v7, v11]
  rfl

/-- The variance and the small number. -/
theorem v24 (t : Fin 8192) : val_main_v24 (F := Ideal) x3 x7 (ix2 t 0) = vare (row x3 x7 t) := by
  pointwise [val_main_v24, val_main_v23, val_main_cst_4, val_main_v20, val_main_v19, val_main_cst_3, val_main_v18, val_main_v17,
    val_main_cst_2, val_main_v14, w_len, w_eps]
  simp only [v13]
  rfl

/-- The scale. -/
theorem v25 (t : Fin 8192) : val_main_v25 (F := Ideal) x3 x7 (ix2 t 0) = scl (row x3 x7 t) := by
  pointwise [val_main_v25]
  rw [v24]
  rfl

/-- The normalised row. -/
theorem v30 (t : Fin 8192) (c : Fin 1024) : val_main_v30 (F := Ideal) x3 x7 (ix2 t c) = xhat (row x3 x7 t) c := by
  pointwise [val_main_v30, val_main_v29]
  rw [v22, v25]
  rfl

/-- The layer norm's output. -/
theorem v36 (t : Fin 8192) (c : Fin 1024) :
    val_main_v36 (F := Ideal) x3 x7 x8 x9 (ix2 t c) = xhat (row x3 x7 t) c * x8 (ix1 c) + x9 (ix1 c) := by
  pointwise [val_main_v36, val_main_v35, val_main_v34, val_main_v33, val_main_v32, val_main_v31]
  rw [v30]

/-- Its sigmoid. -/
theorem v37s (t : Fin 8192) (c : Fin 1024) :
    val_main_v37_2 (F := Ideal) x3 x7 x8 x9 (ix2 t c) = sg (val_main_v36 (F := Ideal) x3 x7 x8 x9 (ix2 t c)) := by
  pointwise [val_main_v37_2, val_main_call0_v4, val_main_call0_v3, val_main_call0_v2, val_main_call0_v1, val_main_call0_v0,
    val_main_call0_cst, val_main_call0_cst_0]
  rfl

/-- The first gate. -/
theorem v44 (t : Fin 8192) (c : Fin 1024) :
    val_main_v44 (F := Ideal) x1 (ix2 t c) = sg (x1 (ix2 t ⟨5120 + c.val, by omega⟩)) := by
  pointwise [val_main_v44, val_main_v43, val_main_v42, val_main_v41, val_main_v40, val_main_v39, val_main_v1, val_main_cst_6,
    val_main_cst_7]
  rfl

/-- The second gate. -/
theorem v54 (t : Fin 8192) (c : Fin 1024) :
    val_main_v54 (F := Ideal) x1 (ix2 t c) = sg (x1 (ix2 t ⟨6144 + c.val, by omega⟩)) := by
  pointwise [val_main_v54, val_main_v53, val_main_v52, val_main_v51, val_main_v50, val_main_v49, val_main_v2, val_main_cst_9,
    val_main_cst_10]
  rfl

/-- The gradient that reaches the layer norm's output. -/
theorem v68 (t : Fin 8192) (c : Fin 1024) :
    val_main_v68 (F := Ideal) x0 x1 x5 x6 (ix2 t c)
      = ∑ k : Fin 1024, (sg (x1 (ix2 t ⟨6144 + k.val, by omega⟩)) * val_main_v61 (F := Ideal) x0 x6 (ix2 t k)) * x5 (ix2 c k) := by
  pointwise [val_main_v68, val_main_v62]
  simp only [v54]

/-- The gradient of the layer norm's output through the sigmoid-weighted unit. -/
theorem v69 (t : Fin 8192) (c : Fin 1024) :
    val_main_v69 (F := Ideal) x0 x1 x3 x5 x6 x7 x8 x9 (ix2 t c)
      = val_main_v68 (F := Ideal) x0 x1 x5 x6 (ix2 t c) * sg (val_main_v36 (F := Ideal) x3 x7 x8 x9 (ix2 t c))
        + (val_main_v36 (F := Ideal) x3 x7 x8 x9 (ix2 t c) * val_main_v68 (F := Ideal) x0 x1 x5 x6 (ix2 t c))
          * (sg (val_main_v36 (F := Ideal) x3 x7 x8 x9 (ix2 t c)) * (1 - sg (val_main_v36 (F := Ideal) x3 x7 x8 x9 (ix2 t c)))) := by
  pointwise [val_main_v69, val_main_call1_v0, val_main_call1_v1, val_main_call1_v2, val_main_v37_1, val_main_call0_v7,
    val_main_call0_v6, val_main_call0_cst_1]
  simp only [v37s]

/-- The gradient of the normalised row. -/
theorem v77 (t : Fin 8192) (c : Fin 1024) :
    val_main_v77 (F := Ideal) x0 x1 x3 x5 x6 x7 x8 x9 (ix2 t c)
      = val_main_v69 (F := Ideal) x0 x1 x3 x5 x6 x7 x8 x9 (ix2 t c) * x8 (ix1 c) := by
  pointwise [val_main_v77, val_main_v76, val_main_v31]

/-- The gradient of the row through its scale. -/
theorem v92 (t : Fin 8192) (c : Fin 1024) :
    val_main_v92 (F := Ideal) x0 x1 x3 x5 x6 x7 x8 x9 (ix2 t c)
      = thru (row x3 x7 t) (fun k => val_main_v77 (F := Ideal) x0 x1 x3 x5 x6 x7 x8 x9 (ix2 t k)) c := by
  pointwise [val_main_v92, val_main_v91, val_main_v90, val_main_cst_19, val_main_v89, val_main_v88, val_main_cst_18, val_main_v84,
    val_main_v81, val_main_v80, val_main_cst_16, val_main_v79, val_main_v28, val_main_v27, val_main_cst_5, val_main_v26,
    val_main_v16, val_main_v15, val_main_cst_1, w_len, w_neg_half, w_two]
  simp only [Fin.sum_univ_one, v13, v22, v24, v25]
  rfl

/-- The gradient of the row: directly, through the scale and through the mean. -/
theorem v102 (t : Fin 8192) (c : Fin 1024) :
    val_main_v102 (F := Ideal) x0 x1 x3 x5 x6 x7 x8 x9 (ix2 t c)
      = gradR (row x3 x7 t) (fun k => val_main_v77 (F := Ideal) x0 x1 x3 x5 x6 x7 x8 x9 (ix2 t k)) c := by
  pointwise [val_main_v102, val_main_v101, val_main_v100, val_main_cst_22, val_main_v99, val_main_v98, val_main_cst_21,
    val_main_v97, val_main_v96, val_main_v95, val_main_v94, val_main_cst_20, val_main_v93, val_main_v87, val_main_v86,
    val_main_cst_17, val_main_v85, val_main_v83, val_main_v82, w_len]
  simp only [Fin.sum_univ_one, v25, v92]
  rfl

end Cert.Merge.Ref

end
-- ==== Proof.Pay.lean ====
/- What one grid point of the merge's backward pass computes from its blocks, entry by entry. -/
module

public import proofs.«01_k».proof.Proof.Norm
public import proofs.«01_k».proof.Proof.Gen.KernelIdeal.Skeleton
public import Idealize.ShloMosaic.Lib.Pointwise

@[expose] public section

set_option maxRecDepth 16384

noncomputable section

namespace Cert.Merge.Pay

open Idealize.ShloMosaic
open Cert.KernelIdeal Cert.KernelIdeal.Gen
open scoped BigOperators

variable (b0 b1 b2 b3 b4 b5 : FVec Ideal S256x1024 .bf16) (b6 b7 d : FVec Ideal S256x1024 .f32) (b8 : FVec Ideal S256x1 .f32)
variable (b9 b10 b11 : FVec Ideal S1024x1024 .bf16) (g be old : FVec Ideal S1x1024 .f32) (dy : FVec Ideal S256x1024 .bf16)

/-- The gradient of the gated sum: the block of the incoming gradient times the transposed weight. -/
theorem pay4 (r : Fin 256) (c : Fin 1024) :
    k0_pay4 (F := Ideal) b0 b11 (ix2 r c) = ∑ k : Fin 1024, b0 (ix2 r k) * b11 (ix2 c k) := by
  pointwise [k0_pay4]

/-- The first gate. -/
theorem pay5 (r : Fin 256) (c : Fin 1024) : k0_pay5 (F := Ideal) b1 (ix2 r c) = sg (b1 (ix2 r c)) := by
  pointwise [k0_pay5]
  exact half_tanh _

/-- The second gate. -/
theorem pay6 (r : Fin 256) (c : Fin 1024) : k0_pay6 (F := Ideal) b2 (ix2 r c) = sg (b2 (ix2 r c)) := by
  pointwise [k0_pay6]
  exact half_tanh _

/-- The first branch's gradient. -/
theorem pay7 (r : Fin 256) (c : Fin 1024) :
    k0_pay7 (F := Ideal) b0 b11 b1 (ix2 r c) = k0_pay4 (F := Ideal) b0 b11 (ix2 r c) * sg (b1 (ix2 r c)) := by
  pointwise [k0_pay7]
  rw [pay5]

/-- The second branch's gradient. -/
theorem pay8 (r : Fin 256) (c : Fin 1024) :
    k0_pay8 (F := Ideal) b0 b11 b2 (ix2 r c) = k0_pay4 (F := Ideal) b0 b11 (ix2 r c) * sg (b2 (ix2 r c)) := by
  pointwise [k0_pay8]
  rw [pay6]

/-- The first gate's gradient. -/
theorem pay9 (r : Fin 256) (c : Fin 1024) :
    k0_pay9 (F := Ideal) (k0_pay4 b0 b11) (k0_pay5 b1) b4 (ix2 r c)
      = (k0_pay4 (F := Ideal) b0 b11 (ix2 r c) * b4 (ix2 r c)) * (sg (b1 (ix2 r c)) * (1 - sg (b1 (ix2 r c)))) := by
  pointwise [k0_pay9]
  rw [pay5]

/-- The second gate's gradient. -/
theorem pay10 (r : Fin 256) (c : Fin 1024) :
    k0_pay10 (F := Ideal) (k0_pay4 b0 b11) (k0_pay6 b2) b5 (ix2 r c)
      = (k0_pay4 (F := Ideal) b0 b11 (ix2 r c) * b5 (ix2 r c)) * (sg (b2 (ix2 r c)) * (1 - sg (b2 (ix2 r c)))) := by
  pointwise [k0_pay10]
  rw [pay6]

/-- A branch's gradient back through its weight. -/
theorem pay11 (r : Fin 256) (c : Fin 1024) :
    k0_pay11 (F := Ideal) dy b9 (ix2 r c) = ∑ k : Fin 1024, dy (ix2 r k) * b9 (ix2 c k) := by
  pointwise [k0_pay11]

theorem pay12 (r : Fin 256) (c : Fin 1024) :
    k0_pay12 (F := Ideal) dy b9 b6 (ix2 r c) = k0_pay11 (F := Ideal) dy b9 (ix2 r c) * b6 (ix2 r c) := by
  pointwise [k0_pay12]

theorem pay13 (r : Fin 256) (c : Fin 1024) :
    k0_pay13 (F := Ideal) dy b9 b3 (ix2 r c) = k0_pay11 (F := Ideal) dy b9 (ix2 r c) * b3 (ix2 r c) := by
  pointwise [k0_pay13]

/-- The layer norm's output, from the normalised block and the two vectors. -/
def u2 (r : Fin 256) (c : Fin 1024) : EReal := b7 (ix2 r c) * g (ix2 0 c) + be (ix2 0 c)

/-- The gradient of the layer norm's output. -/
theorem pay17 (r : Fin 256) (c : Fin 1024) :
    k0_pay17 (F := Ideal) dy (k0_pay14 b10) b7 g be (ix2 r c)
      = (∑ k : Fin 1024, dy (ix2 r k) * b10 (ix2 c k))
        * (sg (u2 b7 g be r c) * (1 + u2 b7 g be r c * (1 - sg (u2 b7 g be r c)))) := by
  pointwise [k0_pay17, k0_pay14, k0_pay15, k0_pay16]
  rw [half_tanh]
  rfl

/-- The gradient of the convolution's output: the layer norm's backward pass. -/
theorem pay1 (r : Fin 256) (c : Fin 1024) :
    k0_pay1 (F := Ideal) (k0_pay15 b7) (k0_pay16 g) d b8 (ix2 r c)
      = b8 (ix2 r 0) * ((d (ix2 r c) * g (ix2 0 c) - Ideal.div (∑ k : Fin 1024, d (ix2 r k) * g (ix2 0 k)) len)
          - b7 (ix2 r c) * Ideal.div (∑ k : Fin 1024, (d (ix2 r k) * g (ix2 0 k)) * b7 (ix2 r k)) len) := by
  pointwise [k0_pay1, k0_pay15, k0_pay16, w_len]

/-- The block's share of the three vectors' gradients, over what the points before left. -/
theorem pay2 (c : Fin 1024) :
    k0_pay2 (F := Ideal) (k0_pay15 b7) (k0_pay16 g) d b8 old (ix2 0 c)
      = old (ix2 0 c) + ∑ r : Fin 256, k0_pay1 (F := Ideal) (k0_pay15 b7) (k0_pay16 g) d b8 (ix2 r c) := by
  pointwise [k0_pay2]

theorem pay18 (c : Fin 1024) :
    k0_pay18 (F := Ideal) dy (k0_pay14 b10) b7 g be old (ix2 0 c)
      = old (ix2 0 c) + ∑ r : Fin 256, k0_pay17 (F := Ideal) dy (k0_pay14 b10) b7 g be (ix2 r c) * b7 (ix2 r c) := by
  pointwise [k0_pay18, k0_pay15]

theorem pay19 (c : Fin 1024) :
    k0_pay19 (F := Ideal) dy (k0_pay14 b10) b7 g be old (ix2 0 c)
      = old (ix2 0 c) + ∑ r : Fin 256, k0_pay17 (F := Ideal) dy (k0_pay14 b10) b7 g be (ix2 r c) := by
  pointwise [k0_pay19]

end Cert.Merge.Pay

end
-- ==== Proof.Match.lean ====
/- One grid point against the reference: if the point's blocks are the rows `ρ` of what the reference reads and computes,
   then what the point computes is the rows `ρ` of the reference's gradients. -/
module

public import proofs.«01_k».proof.Proof.RefBase
public import proofs.«01_k».proof.Proof.Pay

@[expose] public section

set_option maxRecDepth 16384

noncomputable section

namespace Cert.Merge

open Idealize.ShloMosaic
open Cert.KernelIdeal.Gen Cert.ReferenceIdeal.Read
open scoped BigOperators

/-- The reference's arguments: the gradient, the projections, the two convolutions, the three weights, the three vectors. -/
structure Args where
  x0 : FVec Ideal Cert.ReferenceIdeal.S8192x1024 .f32
  x1 : FVec Ideal Cert.ReferenceIdeal.S8192x7168 .f32
  x2 : FVec Ideal Cert.ReferenceIdeal.S8192x1024 .f32
  x3 : FVec Ideal Cert.ReferenceIdeal.S8192x1024 .f32
  x4 : FVec Ideal Cert.ReferenceIdeal.S1024x1024 .f32
  x5 : FVec Ideal Cert.ReferenceIdeal.S1024x1024 .f32
  x6 : FVec Ideal Cert.ReferenceIdeal.S1024x1024 .f32
  x7 : FVec Ideal Cert.ReferenceIdeal.S1024 .f32
  x8 : FVec Ideal Cert.ReferenceIdeal.S1024 .f32
  x9 : FVec Ideal Cert.ReferenceIdeal.S1024 .f32

/-- The numbers that must be finite: the gradient, the two weights between it and the norm, and the norm's scale. -/
structure Args.Finite (A : Args) : Prop where
  f0 : ∀ i, ∃ r : ℝ, A.x0 i = r
  f5 : ∀ i, ∃ r : ℝ, A.x5 i = r
  f6 : ∀ i, ∃ r : ℝ, A.x6 i = r
  f8 : ∀ i, ∃ r : ℝ, A.x8 i = r

/-- The blocks a grid point reads. -/
structure Blocks where
  b0 : FVec Ideal Cert.KernelIdeal.S256x1024 .bf16
  b1 : FVec Ideal Cert.KernelIdeal.S256x1024 .bf16
  b2 : FVec Ideal Cert.KernelIdeal.S256x1024 .bf16
  b3 : FVec Ideal Cert.KernelIdeal.S256x1024 .bf16
  b4 : FVec Ideal Cert.KernelIdeal.S256x1024 .bf16
  b5 : FVec Ideal Cert.KernelIdeal.S256x1024 .bf16
  b6 : FVec Ideal Cert.KernelIdeal.S256x1024 .f32
  b7 : FVec Ideal Cert.KernelIdeal.S256x1024 .f32
  b8 : FVec Ideal Cert.KernelIdeal.S256x1 .f32
  b9 : FVec Ideal Cert.KernelIdeal.S1024x1024 .bf16
  b10 : FVec Ideal Cert.KernelIdeal.S1024x1024 .bf16
  b11 : FVec Ideal Cert.KernelIdeal.S1024x1024 .bf16
  g : FVec Ideal Cert.KernelIdeal.S1x1024 .f32
  be : FVec Ideal Cert.KernelIdeal.S1x1024 .f32

/-- The blocks `B` are the rows `ρ` of what the forward pass saved from the arguments `A`. -/
structure Blocks.Of (B : Blocks) (A : Args) (ρ : Fin 256 → Fin 8192) : Prop where
  h0 : ∀ r k, B.b0 (ix2 r k) = A.x0 (ix2 (ρ r) k)
  h1 : ∀ r (k : Fin 1024), B.b1 (ix2 r k) = A.x1 (ix2 (ρ r) ⟨5120 + k.val, by omega⟩)
  h2 : ∀ r (k : Fin 1024), B.b2 (ix2 r k) = A.x1 (ix2 (ρ r) ⟨6144 + k.val, by omega⟩)
  h3 : ∀ r (k : Fin 1024), B.b3 (ix2 r k) = val_main_v0 (F := Ideal) A.x1 (ix2 (ρ r) k)
  h4 : ∀ r (k : Fin 1024), B.b4 (ix2 r k) = val_main_v4 (F := Ideal) A.x1 A.x2 A.x4 (ix2 (ρ r) k)
  h5 : ∀ r (k : Fin 1024), B.b5 (ix2 r k) = val_main_v38 (F := Ideal) A.x3 A.x5 A.x7 A.x8 A.x9 (ix2 (ρ r) k)
  h6 : ∀ r k, B.b6 (ix2 r k) = A.x2 (ix2 (ρ r) k)
  h7 : ∀ r (k : Fin 1024), B.b7 (ix2 r k) = val_main_v30 (F := Ideal) A.x3 A.x7 (ix2 (ρ r) k)
  h8 : ∀ r, B.b8 (ix2 r 0) = val_main_v25 (F := Ideal) A.x3 A.x7 (ix2 (ρ r) 0)
  h9 : ∀ k l, B.b9 (ix2 k l) = A.x4 (ix2 k l)
  h10 : ∀ k l, B.b10 (ix2 k l) = A.x5 (ix2 k l)
  h11 : ∀ k l, B.b11 (ix2 k l) = A.x6 (ix2 k l)
  hg : ∀ k, B.g (ix2 0 k) = A.x8 (ix1 k)
  hb : ∀ k, B.be (ix2 0 k) = A.x9 (ix1 k)

variable {B : Blocks} {A : Args} {ρ : Fin 256 → Fin 8192} (h : B.Of A ρ)
include h

/-! ## The merge and the first branch -/

/-- The gradient of the gated sum. -/
theorem merged (r : Fin 256) (c : Fin 1024) :
    k0_pay4 (F := Ideal) B.b0 B.b11 (ix2 r c) = val_main_v61 (F := Ideal) A.x0 A.x6 (ix2 (ρ r) c) := by
  rw [Pay.pay4, Ref.v61]
  exact Finset.sum_congr rfl fun k _ => by rw [h.h0, h.h11]

/-- The first branch's gradient. -/
theorem dya (r : Fin 256) (c : Fin 1024) :
    k0_pay7 (F := Ideal) B.b0 B.b11 B.b1 (ix2 r c) = val_main_v65 (F := Ideal) A.x0 A.x1 A.x6 (ix2 (ρ r) c) := by
  rw [Pay.pay7, merged h, h.h1]
  pointwise [val_main_v65]
  rw [Ref.v44, mul_comm]

/-- The second branch's gradient. -/
theorem dyb (r : Fin 256) (c : Fin 1024) :
    k0_pay8 (F := Ideal) B.b0 B.b11 B.b2 (ix2 r c) = val_main_v62 (F := Ideal) A.x0 A.x1 A.x6 (ix2 (ρ r) c) := by
  rw [Pay.pay8, merged h, h.h2]
  pointwise [val_main_v62]
  rw [Ref.v54, mul_comm]

/-- The first gate's gradient. -/
theorem dga (r : Fin 256) (c : Fin 1024) :
    k0_pay9 (F := Ideal) (k0_pay4 B.b0 B.b11) (k0_pay5 B.b1) B.b4 (ix2 r c)
      = val_main_v67 (F := Ideal) A.x0 A.x1 A.x2 A.x4 A.x6 (ix2 (ρ r) c) := by
  rw [Pay.pay9, merged h, h.h1, h.h4]
  pointwise [val_main_v67, val_main_v66, val_main_v47, val_main_v46, val_main_v45, val_main_cst_8]
  rw [Ref.v44]

/-- The second gate's gradient. -/
theorem dgb (r : Fin 256) (c : Fin 1024) :
    k0_pay10 (F := Ideal) (k0_pay4 B.b0 B.b11) (k0_pay6 B.b2) B.b5 (ix2 r c)
      = val_main_v64 (F := Ideal) A.x0 A.x1 A.x3 A.x5 A.x6 A.x7 A.x8 A.x9 (ix2 (ρ r) c) := by
  rw [Pay.pay10, merged h, h.h2, h.h5]
  pointwise [val_main_v64, val_main_v63, val_main_v57, val_main_v56, val_main_v55, val_main_cst_11]
  rw [Ref.v54]

/-- The first branch's gradient back through its weight. -/
theorem dyapre (r : Fin 256) (c : Fin 1024) :
    k0_pay11 (F := Ideal) (k0_pay7 B.b0 B.b11 B.b1) B.b9 (ix2 r c)
      = val_main_v106 (F := Ideal) A.x0 A.x1 A.x4 A.x6 (ix2 (ρ r) c) := by
  rw [Pay.pay11]
  pointwise [val_main_v106]
  exact Finset.sum_congr rfl fun k _ => by rw [dya h, h.h9]

/-- The gradient of the first branch's gate. -/
theorem dba (r : Fin 256) (c : Fin 1024) :
    k0_pay12 (F := Ideal) (k0_pay7 B.b0 B.b11 B.b1) B.b9 B.b6 (ix2 r c)
      = val_main_v108 (F := Ideal) A.x0 A.x1 A.x2 A.x4 A.x6 (ix2 (ρ r) c) := by
  rw [Pay.pay12, dyapre h, h.h6]
  pointwise [val_main_v108]

/-- The gradient of the first branch's convolution. -/
theorem dconva (r : Fin 256) (c : Fin 1024) :
    k0_pay13 (F := Ideal) (k0_pay7 B.b0 B.b11 B.b1) B.b9 B.b3 (ix2 r c)
      = val_main_v107 (F := Ideal) A.x0 A.x1 A.x4 A.x6 (ix2 (ρ r) c) := by
  rw [Pay.pay13, dyapre h, h.h3]
  pointwise [val_main_v107]
  rw [mul_comm]

/-! ## The second branch -/

/-- The layer norm's output. -/
theorem u2 (r : Fin 256) (c : Fin 1024) :
    Pay.u2 B.b7 B.g B.be r c = val_main_v36 (F := Ideal) A.x3 A.x7 A.x8 A.x9 (ix2 (ρ r) c) := by
  rw [Pay.u2, h.h7, h.hg, h.hb, Ref.v36, Ref.v30]

/-- The second branch's gradient back through its weight. -/
theorem du3 (r : Fin 256) (c : Fin 1024) :
    (∑ k : Fin 1024, k0_pay8 (F := Ideal) B.b0 B.b11 B.b2 (ix2 r k) * B.b10 (ix2 c k))
      = val_main_v68 (F := Ideal) A.x0 A.x1 A.x5 A.x6 (ix2 (ρ r) c) := by
  pointwise [val_main_v68]
  exact Finset.sum_congr rfl fun k _ => by rw [dyb h, h.h10]

omit h in
/-- It is finite. -/
theorem du3_real (hf : A.Finite) (t : Fin 8192) (c : Fin 1024) :
    ∃ r : ℝ, val_main_v68 (F := Ideal) A.x0 A.x1 A.x5 A.x6 (ix2 t c) = (r : EReal) := by
  rw [Ref.v68]
  refine sum_mul_real _ _ (fun k => mul_real (sg_real _) ?_) fun k => hf.f5 _
  rw [Ref.v61]
  exact sum_mul_real _ _ (fun k => hf.f0 _) fun k => hf.f6 _

/-- The gradient of the layer norm's output. -/
theorem du2 (hf : A.Finite) (r : Fin 256) (c : Fin 1024) :
    k0_pay17 (F := Ideal) (k0_pay8 B.b0 B.b11 B.b2) (k0_pay14 B.b10) B.b7 B.g B.be (ix2 r c)
      = val_main_v69 (F := Ideal) A.x0 A.x1 A.x3 A.x5 A.x6 A.x7 A.x8 A.x9 (ix2 (ρ r) c) := by
  rw [Pay.pay17, du3 h, u2 h, Ref.v69]
  obtain ⟨d, hd⟩ := du3_real hf (ρ r) c
  rw [hd]
  exact (silu_grad d _).1

omit h in
/-- It is finite. -/
theorem du2_real (hf : A.Finite) (t : Fin 8192) (c : Fin 1024) :
    ∃ r : ℝ, val_main_v69 (F := Ideal) A.x0 A.x1 A.x3 A.x5 A.x6 A.x7 A.x8 A.x9 (ix2 t c) = (r : EReal) := by
  rw [Ref.v69]
  obtain ⟨d, hd⟩ := du3_real hf t c
  rw [hd, ← (silu_grad d _).1]
  exact (silu_grad d _).2

/-- The gradient of the second branch's convolution. -/
theorem du1 (hf : A.Finite) (r : Fin 256) (c : Fin 1024) :
    k0_pay1 (F := Ideal) (k0_pay15 B.b7) (k0_pay16 B.g)
        (k0_pay17 (k0_pay8 B.b0 B.b11 B.b2) (k0_pay14 B.b10) B.b7 B.g B.be) B.b8 (ix2 r c)
      = val_main_v102 (F := Ideal) A.x0 A.x1 A.x3 A.x5 A.x6 A.x7 A.x8 A.x9 (ix2 (ρ r) c) := by
  rw [Pay.pay1, Ref.v102, ← grad_eq]
  · simp only [du2 h hf, h.h7, h.h8, h.hg, Ref.v30, Ref.v25, Ref.v77]
    rfl
  · intro k
    rw [Ref.v77]
    exact mul_real (du2_real hf _ _) (hf.f8 _)

end Cert.Merge

end
-- ==== Proof.Entry.lean ====
/- What the kernel's grid finds in its arrays: the host lines before it compute the same forward values as the reference,
   and the block of grid point `t` is rows `256 t … 256 t + 255` of them. -/
module

public import proofs.«01_k».proof.Proof.Match
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.Merge

open Idealize.ShloMosaic Idealize.ShloMosaic.TcCoe
open Cert.KernelIdeal Cert.KernelIdeal.Gen Cert.ReferenceIdeal.Read
open scoped BigOperators

variable (m : (ℓ : Loc nD τ sig) → Buf (Elt Ideal) ℓ) (c : Dev nD)

/-- The arguments as launched. -/
def args : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)

/-- The normalised rows. -/
theorem entry18 : (V m c main_v18 : FVec Ideal S8192x1024 .f32) = val_main_v30 (F := Ideal) (args m c).x3 (args m c).x7 := by
  entry_read
  rfl

/-- The rows' inverse deviations. -/
theorem entry16 : (V m c main_v16 : FVec Ideal S8192x1 .f32) = val_main_v25 (F := Ideal) (args m c).x3 (args m c).x7 := by
  entry_read
  rfl

/-- The first branch. -/
theorem entry43 : (V m c main_v43 : FVec Ideal S8192x1024 .bf16) = val_main_v4 (F := Ideal) (args m c).x1 (args m c).x2 (args m c).x4 := by
  entry_read
  rfl

/-- The second branch. -/
theorem entry44 : (V m c main_v44 : FVec Ideal S8192x1024 .bf16)
    = val_main_v38 (F := Ideal) (args m c).x3 (args m c).x5 (args m c).x7 (args m c).x8 (args m c).x9 := by
  entry_read
  rfl

/-- The vectors' rows. -/
def vecs (m : (ℓ : Loc nD τ sig) → Buf (Elt Ideal) ℓ) (c : Dev nD) : FVec Ideal S8x1024 .f32 :=
  concatenate S8x1024 0 [⟨S1x1024, (broadcastInDim S1x1024 ![1] bcast_S1024_S1x1024_1 (m ((c : Thread nD τ).loc main_arg7)) : FVec Ideal S1x1024 .f32)⟩,
    ⟨S1x1024, (broadcastInDim S1x1024 ![1] bcast_S1024_S1x1024_1 (m ((c : Thread nD τ).loc main_arg8)) : FVec Ideal S1x1024 .f32)⟩,
    ⟨S1x1024, (broadcastInDim S1x1024 ![1] bcast_S1024_S1x1024_1 (m ((c : Thread nD τ).loc main_arg9)) : FVec Ideal S1x1024 .f32)⟩,
    ⟨S5x1024, (broadcastInDim S5x1024 ![] bcast_S_S5x1024 (constant (F := Ideal) S_ .f32 0x00000000#32) : FVec Ideal S5x1024 .f32)⟩]
    concatenates_S1x1024_S1x1024_S1x1024_S5x1024_S8x1024_d0

theorem entry40 : (V m c main_v40 : FVec Ideal S8x1024 .f32) = vecs m c := by
  rfl

/-- Row 1 is the norm's scale, -/
theorem vecs_scale (k : Fin 1024) : vecs m c (ix2 1 k) = (args m c).x8 (ix1 k) := by
  pointwise [vecs]
  rfl

/-- and row 2 its shift. -/
theorem vecs_shift (k : Fin 1024) : vecs m c (ix2 2 k) = (args m c).x9 (ix1 k) := by
  pointwise [vecs]
  rfl

/-- The block maps: the row blocks follow the grid, the weights and the vectors stay. -/
theorem idx : ∀ t : Fin cfg0.N, win0_0.index t = ![t.val, 0] ∧ win0_1.index t = ![t.val, 5] ∧ win0_2.index t = ![t.val, 6]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0]
    ∧ win0_11.index t = ![0, 0] ∧ win0_12.index t = ![0, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![0, 0] :=
  (by decide +kernel : ∀ t : Fin grid0.N, _)

end Cert.Merge

end
-- ==== Proof.Reads.lean ====
/- What grid point `t` reads: rows `256 t … 256 t + 255` of the arrays, the weights and the vectors whole. -/
module

public import proofs.«01_k».proof.Proof.Entry

@[expose] public section

set_option maxRecDepth 16384

noncomputable section

namespace Cert.Merge

open Idealize.ShloMosaic Idealize.ShloMosaic.TcCoe
open Cert.KernelIdeal Cert.KernelIdeal.Gen Cert.ReferenceIdeal.Read
open scoped BigOperators

variable (m : (ℓ : Loc nD τ sig) → Buf (Elt Ideal) ℓ) (c : Dev nD) (t : Fin cfg0.N)

/-- Grid point `t`'s rows. -/
def rows (r : Fin 256) : Fin 8192 := ⟨256 * t.val + r.val, by have ht : t.val < 32 := lt_of_lt_of_eq t.isLt N_0; omega⟩

theorem at0 (r : Fin 256) (k : Fin 1024) :
    (show FVec Ideal S256x1024 .bf16 from iblk m c 0 t) (ix2 r k)
      = (show FVec Ideal S8192x1024 .f32 from m ((c : Thread nD τ).loc main_arg0)) (ix2 (rows t r) k) := by
  unfold rows
  blk_simp [iblk, idx t]
  entry_read
  pointwise
  blk_ext [idx t]

theorem at1 (r : Fin 256) (k : Fin 1024) :
    (show FVec Ideal S256x1024 .bf16 from iblk m c 1 t) (ix2 r k)
      = (show FVec Ideal S8192x7168 .f32 from m ((c : Thread nD τ).loc main_arg1)) (ix2 (rows t r) ⟨5120 + k.val, by omega⟩) := by
  unfold rows
  blk_simp [iblk, idx t]
  entry_read
  pointwise
  blk_ext [idx t]

theorem at2 (r : Fin 256) (k : Fin 1024) :
    (show FVec Ideal S256x1024 .bf16 from iblk m c 2 t) (ix2 r k)
      = (show FVec Ideal S8192x7168 .f32 from m ((c : Thread nD τ).loc main_arg1)) (ix2 (rows t r) ⟨6144 + k.val, by omega⟩) := by
  unfold rows
  blk_simp [iblk, idx t]
  entry_read
  pointwise
  blk_ext [idx t]

theorem at3 (r : Fin 256) (k : Fin 1024) :
    (show FVec Ideal S256x1024 .bf16 from iblk m c 3 t) (ix2 r k)
      = (show FVec Ideal S8192x7168 .f32 from m ((c : Thread nD τ).loc main_arg1)) (ix2 (rows t r) ⟨k.val, by omega⟩) := by
  unfold rows
  blk_simp [iblk, idx t]
  entry_read
  pointwise
  blk_ext [idx t]

theorem at4 (r : Fin 256) (k : Fin 1024) :
    (show FVec Ideal S256x1024 .bf16 from iblk m c 4 t) (ix2 r k)
      = (show FVec Ideal S8192x1024 .bf16 from V m c main_v43) (ix2 (rows t r) k) := by
  unfold rows
  blk_ext [iblk, idx t]

theorem at5 (r : Fin 256) (k : Fin 1024) :
    (show FVec Ideal S256x1024 .bf16 from iblk m c 5 t) (ix2 r k)
      = (show FVec Ideal S8192x1024 .bf16 from V m c main_v44) (ix2 (rows t r) k) := by
  unfold rows
  blk_ext [iblk, idx t]

theorem at7 (r : Fin 256) (k : Fin 1024) :
    (show FVec Ideal S256x1024 .f32 from iblk m c 7 t) (ix2 r k)
      = (show FVec Ideal S8192x1024 .f32 from V m c main_v18) (ix2 (rows t r) k) := by
  unfold rows
  blk_ext [iblk, idx t]

theorem at8 (r : Fin 256) :
    (show FVec Ideal S256x1 .f32 from iblk m c 8 t) (ix2 r 0)
      = (show FVec Ideal S8192x1 .f32 from V m c main_v16) (ix2 (rows t r) 0) := by
  unfold rows
  blk_ext [iblk, idx t]

theorem at6 (r : Fin 256) (k : Fin 1024) :
    (show FVec Ideal S256x1024 .f32 from iblk m c 6 t) (ix2 r k)
      = (show FVec Ideal S8192x1024 .f32 from m ((c : Thread nD τ).loc main_arg2)) (ix2 (rows t r) k) := by
  unfold rows
  blk_ext [iblk, V, idx t]

theorem at9 (k l : Fin 1024) :
    (show FVec Ideal S1024x1024 .bf16 from iblk m c 9 t) (ix2 k l)
      = (show FVec Ideal S1024x1024 .f32 from m ((c : Thread nD τ).loc main_arg4)) (ix2 k l) := by
  blk_simp [iblk, idx t]
  entry_read
  pointwise
  blk_ext [idx t]

theorem at10 (k l : Fin 1024) :
    (show FVec Ideal S1024x1024 .bf16 from iblk m c 10 t) (ix2 k l)
      = (show FVec Ideal S1024x1024 .f32 from m ((c : Thread nD τ).loc main_arg5)) (ix2 k l) := by
  blk_simp [iblk, idx t]
  entry_read
  pointwise
  blk_ext [idx t]

theorem at11 (k l : Fin 1024) :
    (show FVec Ideal S1024x1024 .bf16 from iblk m c 11 t) (ix2 k l)
      = (show FVec Ideal S1024x1024 .f32 from m ((c : Thread nD τ).loc main_arg6)) (ix2 k l) := by
  blk_simp [iblk, idx t]
  entry_read
  pointwise
  blk_ext [idx t]

theorem at12 (a : Fin 8) (k : Fin 1024) :
    (show FVec Ideal S8x1024 .f32 from iblk m c 12 t) (ix2 a k) = (show FVec Ideal S8x1024 .f32 from V m c main_v40) (ix2 a k) := by
  blk_ext [iblk, idx t]

end Cert.Merge

end
-- ==== Proof.Point.lean ====
/- The blocks of grid point `t`, and that they are rows `256 t … 256 t + 255` of what the reference reads and computes. -/
module

public import proofs.«01_k».proof.Proof.Reads

@[expose] public section

set_option maxRecDepth 16384

noncomputable section

namespace Cert.Merge

open Idealize.ShloMosaic Idealize.ShloMosaic.TcCoe
open Cert.KernelIdeal Cert.KernelIdeal.Gen Cert.ReferenceIdeal.Read
open scoped BigOperators

variable (m : (ℓ : Loc nD τ sig) → Buf (Elt Ideal) ℓ) (c : Dev nD) (t : Fin cfg0.N)

/-- The blocks grid point `t` reads; the norm's scale and shift are rows 1 and 2 of the vectors' block. -/
def blocks : Blocks where
  b0 := iblk m c 0 t
  b1 := iblk m c 1 t
  b2 := iblk m c 2 t
  b3 := iblk m c 3 t
  b4 := iblk m c 4 t
  b5 := iblk m c 5 t
  b6 := iblk m c 6 t
  b7 := iblk m c 7 t
  b8 := iblk m c 8 t
  b9 := iblk m c 9 t
  b10 := iblk m c 10 t
  b11 := iblk m c 11 t
  g := View.ld (iblk m c 12 t) (Rect.unit ![1, 0] ![1, 1024] inb_S8x1024_S1x1024_1_0)
  be := View.ld (iblk m c 12 t) (Rect.unit ![2, 0] ![1, 1024] inb_S8x1024_S1x1024_2_0)

/-- A row of the vectors' block. -/
theorem row_at (x : FVec Ideal S8x1024 .f32) (k : Fin 1024) :
    (show FVec Ideal S1x1024 .f32 from View.ld (Val := Elt Ideal) (e' := .f32) x (Rect.unit ![1, 0] ![1, 1024] inb_S8x1024_S1x1024_1_0)) (ix2 0 k) = x (ix2 1 k)
      ∧ (show FVec Ideal S1x1024 .f32 from View.ld (Val := Elt Ideal) (e' := .f32) x (Rect.unit ![2, 0] ![1, 1024] inb_S8x1024_S1x1024_2_0)) (ix2 0 k) = x (ix2 2 k) := by
  constructor
  · show x _ = x _
    refine congrArg x (Rect.emb_eq_of_coords _ _ _ fun a => ?_)
    fin_cases a <;> simp
  · show x _ = x _
    refine congrArg x (Rect.emb_eq_of_coords _ _ _ fun a => ?_)
    fin_cases a <;> simp

/-- The first segment of the projections. -/
theorem seg_at (x : FVec Ideal Cert.ReferenceIdeal.S8192x7168 .f32) (i : Fin 8192) (k : Fin 1024) :
    val_main_v0 (F := Ideal) x (ix2 i k) = x (ix2 i ⟨k.val, by omega⟩) := by
  pointwise [val_main_v0]

theorem of0 (r : Fin 256) (k : Fin 1024) :
    (blocks m c t).b0 (ix2 r k) = (args m c).x0 (ix2 (rows t r) k) :=
  at0 m c t r k

theorem of1 (r : Fin 256) (k : Fin 1024) :
    (blocks m c t).b1 (ix2 r k) = (args m c).x1 (ix2 (rows t r) ⟨5120 + k.val, by omega⟩) :=
  at1 m c t r k

theorem of2 (r : Fin 256) (k : Fin 1024) :
    (blocks m c t).b2 (ix2 r k) = (args m c).x1 (ix2 (rows t r) ⟨6144 + k.val, by omega⟩) :=
  at2 m c t r k

theorem of3 (r : Fin 256) (k : Fin 1024) :
    (blocks m c t).b3 (ix2 r k) = val_main_v0 (F := Ideal) (args m c).x1 (ix2 (rows t r) k) :=
  (at3 m c t r k).trans (seg_at _ _ _).symm

theorem of4 (r : Fin 256) (k : Fin 1024) :
    (blocks m c t).b4 (ix2 r k) = val_main_v4 (F := Ideal) (args m c).x1 (args m c).x2 (args m c).x4 (ix2 (rows t r) k) :=
  (at4 m c t r k).trans (congrFun (entry43 m c) _)

theorem of5 (r : Fin 256) (k : Fin 1024) :
    (blocks m c t).b5 (ix2 r k) = val_main_v38 (F := Ideal) (args m c).x3 (args m c).x5 (args m c).x7 (args m c).x8 (args m c).x9 (ix2 (rows t r) k) :=
  (at5 m c t r k).trans (congrFun (entry44 m c) _)

theorem of6 (r : Fin 256) (k : Fin 1024) :
    (blocks m c t).b6 (ix2 r k) = (args m c).x2 (ix2 (rows t r) k) :=
  at6 m c t r k

theorem of7 (r : Fin 256) (k : Fin 1024) :
    (blocks m c t).b7 (ix2 r k) = val_main_v30 (F := Ideal) (args m c).x3 (args m c).x7 (ix2 (rows t r) k) :=
  (at7 m c t r k).trans (congrFun (entry18 m c) _)

theorem of8 (r : Fin 256) :
    (blocks m c t).b8 (ix2 r 0) = val_main_v25 (F := Ideal) (args m c).x3 (args m c).x7 (ix2 (rows t r) 0) :=
  (at8 m c t r).trans (congrFun (entry16 m c) _)

theorem of9 (k l : Fin 1024) :
    (blocks m c t).b9 (ix2 k l) = (args m c).x4 (ix2 k l) :=
  at9 m c t k l

theorem of10 (k l : Fin 1024) :
    (blocks m c t).b10 (ix2 k l) = (args m c).x5 (ix2 k l) :=
  at10 m c t k l

theorem of11 (k l : Fin 1024) :
    (blocks m c t).b11 (ix2 k l) = (args m c).x6 (ix2 k l) :=
  at11 m c t k l

theorem ofg (k : Fin 1024) :
    (blocks m c t).g (ix2 0 k) = (args m c).x8 (ix1 k) :=
  (row_at _ k).1.trans ((at12 m c t 1 k).trans ((congrFun (entry40 m c) _).trans (vecs_scale m c k)))

theorem ofb (k : Fin 1024) :
    (blocks m c t).be (ix2 0 k) = (args m c).x9 (ix1 k) :=
  (row_at _ k).2.trans ((at12 m c t 2 k).trans ((congrFun (entry40 m c) _).trans (vecs_shift m c k)))

/-- So the blocks are those rows of what the forward pass saved. -/
theorem blocks_of : (blocks m c t).Of (args m c) (rows t) :=
  ⟨of0 m c t, of1 m c t, of2 m c t, of3 m c t, of4 m c t, of5 m c t, of6 m c t, of7 m c t, of8 m c t, of9 m c t, of10 m c t, of11 m c t, ofg m c t, ofb m c t⟩

end Cert.Merge

end
-- ==== Proof.Outs.lean ====
/- What a grid point leaves in each row output, in the program's own steps: the same at the first point and at the others. -/
module

public import proofs.«01_k».proof.Proof.Point

@[expose] public section

set_option maxRecDepth 16384

noncomputable section

namespace Cert.Merge

open Idealize.ShloMosaic Idealize.ShloMosaic.TcCoe
open Cert.KernelIdeal Cert.KernelIdeal.Gen
open scoped BigOperators

variable (m : (ℓ : Loc nD τ sig) → Buf (Elt Ideal) ℓ) (c : Dev nD) (t : Fin cfg0.N)

theorem outs13 : (outsAt0 m c t.val t.isLt).1
    = k0_pay7 (F := Ideal) (blocks m c t).b0 (blocks m c t).b11 (blocks m c t).b1 := by
  by_cases h : t.val % 32 = 0
  · rw [outsAt0_A m c t h]; frame_out; dsimp only [blocks]
  · rw [outsAt0_B m c t h]; frame_out; dsimp only [blocks]

theorem outs14 : (outsAt0 m c t.val t.isLt).2.1
    = k0_pay8 (F := Ideal) (blocks m c t).b0 (blocks m c t).b11 (blocks m c t).b2 := by
  by_cases h : t.val % 32 = 0
  · rw [outsAt0_A m c t h]; frame_out; dsimp only [blocks]
  · rw [outsAt0_B m c t h]; frame_out; dsimp only [blocks]

theorem outs16 : (outsAt0 m c t.val t.isLt).2.2.2.1
    = k0_pay12 (F := Ideal) (k0_pay7 (blocks m c t).b0 (blocks m c t).b11 (blocks m c t).b1) (blocks m c t).b9 (blocks m c t).b6 := by
  by_cases h : t.val % 32 = 0
  · rw [outsAt0_A m c t h]; frame_out; dsimp only [blocks]
  · rw [outsAt0_B m c t h]; frame_out; dsimp only [blocks]

theorem outs17 : (outsAt0 m c t.val t.isLt).2.2.2.2.1
    = k0_pay13 (F := Ideal) (k0_pay7 (blocks m c t).b0 (blocks m c t).b11 (blocks m c t).b1) (blocks m c t).b9 (blocks m c t).b3 := by
  by_cases h : t.val % 32 = 0
  · rw [outsAt0_A m c t h]; frame_out; dsimp only [blocks]
  · rw [outsAt0_B m c t h]; frame_out; dsimp only [blocks]

theorem outs18 : (outsAt0 m c t.val t.isLt).2.2.2.2.2.1
    = k0_pay1 (F := Ideal) (k0_pay15 (blocks m c t).b7) (k0_pay16 (blocks m c t).g)
        (k0_pay17 (k0_pay8 (blocks m c t).b0 (blocks m c t).b11 (blocks m c t).b2) (k0_pay14 (blocks m c t).b10)
          (blocks m c t).b7 (blocks m c t).g (blocks m c t).be) (blocks m c t).b8 := by
  by_cases h : t.val % 32 = 0
  · rw [outsAt0_A m c t h]; frame_out; dsimp only [blocks]; rfl
  · rw [outsAt0_B m c t h]; frame_out; dsimp only [blocks]; rfl

/-- The gates' gradients: the first in the left half, the second in the right. -/
def gates (r : Fin 256) (l : Fin 2048) : EReal :=
  if h : l.val < 1024 then
    k0_pay9 (F := Ideal) (k0_pay4 (blocks m c t).b0 (blocks m c t).b11) (k0_pay5 (blocks m c t).b1) (blocks m c t).b4
      (ix2 r ⟨l.val, h⟩)
  else
    k0_pay10 (F := Ideal) (k0_pay4 (blocks m c t).b0 (blocks m c t).b11) (k0_pay6 (blocks m c t).b2) (blocks m c t).b5
      (ix2 r ⟨l.val - 1024, by omega⟩)

/-- Two halves stored side by side, read back. -/
theorem halves_at (L R : FVec Ideal S256x1024 .bf16) (r : Fin 256) (l : Fin 2048) :
    View.canon (Val := Elt Ideal) (s := S256x2048) (e := .bf16) [⟨Rect.unit ![0, 1024] ![256, 1024] inb_S256x2048_S256x1024_0_1024, R⟩,
        ⟨Rect.unit ![0, 0] ![256, 1024] inb_S256x2048_S256x1024_0_0, L⟩] (ix2 r l)
      = if h : l.val < 1024 then L (ix2 r ⟨l.val, h⟩) else R (ix2 r ⟨l.val - 1024, by omega⟩) := by
  canon_tiles x hx
  · rw [dif_neg (by simp at hx1; omega)]
    have h0 : r.val = (x 0).val := hx0
    have h1 : l.val = 1024 + (x 1).val := hx1
    blk_ext <;> omega
  · rw [dif_pos (by simp at hx1; omega)]
    have h0 : r.val = (x 0).val := hx0
    have h1 : l.val = (x 1).val := hx1
    blk_ext <;> omega

theorem outs15 (r : Fin 256) (l : Fin 2048) : (outsAt0 m c t.val t.isLt).2.2.1 (ix2 r l) = gates m c t r l := by
  by_cases h : t.val % 32 = 0
  · rw [outsAt0_A m c t h]; frame_out
    dsimp only [gates, blocks]
    exact halves_at _ _ r l
  · rw [outsAt0_B m c t h]; frame_out
    dsimp only [gates, blocks]
    exact halves_at _ _ r l

end Cert.Merge

end
-- ==== Proof.Sums.lean ====
/- The three column sums: a grid point adds its rows' part to rows 0, 1 and 2 of the block the whole grid shares. -/
module

public import proofs.«01_k».proof.Proof.Point
public import Idealize.ShloMosaic.Lib.Pipeline.ReadBack
public import Idealize.ShloMosaic.Lib.WritesUnit

@[expose] public section

set_option maxRecDepth 16384

noncomputable section

namespace Cert.Merge

open Idealize.ShloMosaic Idealize.ShloMosaic.TcCoe
open Cert.KernelIdeal Cert.KernelIdeal.Gen
open scoped BigOperators

variable (m : (ℓ : Loc nD τ sig) → Buf (Elt Ideal) ℓ) (c : Dev nD) (t : Fin cfg0.N)

/-- The gradient of the norm's output over the point's rows. -/
def du2B (B : Blocks) : FVec Ideal S256x1024 .f32 :=
  k0_pay17 (F := Ideal) (k0_pay8 B.b0 B.b11 B.b2) (k0_pay14 B.b10) B.b7 B.g B.be

/-- The gradient of the convolution over the point's rows. -/
def du1B (B : Blocks) : FVec Ideal S256x1024 .f32 :=
  k0_pay1 (F := Ideal) (k0_pay15 B.b7) (k0_pay16 B.g) (du2B B) B.b8

/-- What the point adds to row `a`. -/
def part (B : Blocks) (a : Fin 8) (l : Fin 1024) : EReal :=
  if a.val = 2 then ∑ r : Fin 256, du1B B (ix2 r l)
  else if a.val = 1 then ∑ r : Fin 256, du2B B (ix2 r l)
  else if a.val = 0 then ∑ r : Fin 256, du2B B (ix2 r l) * B.b7 (ix2 r l)
  else 0

/-- Three rows stored over older contents, read back. -/
theorem rows_at {κ : Kind} {sp : Space} (v : View sig κ sp S8x1024 .f32) (f : v.ty.Contents (Elt Ideal)) (w2 w1 w0 : FVec Ideal S1x1024 .f32)
    (L : List (View.Piece (Elt Ideal) S8x1024 .f32)) (a : Fin 8) (l : Fin 1024) :
    View.read (Elt Ideal) v (v.writes (Elt Ideal) f (⟨Rect.unit ![2, 0] ![1, 1024] inb_S8x1024_S1x1024_2_0, w2⟩
        :: ⟨Rect.unit ![1, 0] ![1, 1024] inb_S8x1024_S1x1024_1_0, w1⟩ :: ⟨Rect.unit ![0, 0] ![1, 1024] inb_S8x1024_S1x1024_0_0, w0⟩ :: L)) (ix2 a l)
      = if a.val = 2 then w2 (ix2 0 l) else if a.val = 1 then w1 (ix2 0 l) else if a.val = 0 then w0 (ix2 0 l)
        else View.read (Elt Ideal) v (v.writes (Elt Ideal) f L) (ix2 a l) := by
  split
  · rename_i h
    exact View.read_writes_cons_rows_of_mem v f _ w2 _ (ix2 a l) (ix2 0 l) rfl (by simp [ix2]; omega) rfl
  rename_i h2
  refine (View.read_writes_cons_rows_of_not_mem (W := 1) v f _ w2 _ (ix2 a l) rfl rfl (by simp [ix2]; omega)).trans ?_
  split
  · rename_i h
    exact View.read_writes_cons_rows_of_mem v f _ w1 _ (ix2 a l) (ix2 0 l) rfl (by simp [ix2]; omega) rfl
  rename_i h1
  refine (View.read_writes_cons_rows_of_not_mem (W := 1) v f _ w1 _ (ix2 a l) rfl rfl (by simp [ix2]; omega)).trans ?_
  split
  · rename_i h
    exact View.read_writes_cons_rows_of_mem v f _ w0 _ (ix2 a l) (ix2 0 l) rfl (by simp [ix2]; omega) rfl
  rename_i h0
  exact View.read_writes_cons_rows_of_not_mem (W := 1) v f _ w0 _ (ix2 a l) rfl rfl (by simp [ix2]; omega)

/-- A row of the block. -/
theorem old_at (X : FVec Ideal S8x1024 .f32) (l : Fin 1024) :
    ((show FVec Ideal S1x1024 .f32 from View.ld (Val := Elt Ideal) (e' := .f32) X (Rect.unit ![0, 0] ![1, 1024] inb_S8x1024_S1x1024_0_0)) (ix2 0 l) = X (ix2 0 l)
      ∧ (show FVec Ideal S1x1024 .f32 from View.ld (Val := Elt Ideal) (e' := .f32) X (Rect.unit ![1, 0] ![1, 1024] inb_S8x1024_S1x1024_1_0)) (ix2 0 l) = X (ix2 1 l))
      ∧ (show FVec Ideal S1x1024 .f32 from View.ld (Val := Elt Ideal) (e' := .f32) X (Rect.unit ![2, 0] ![1, 1024] inb_S8x1024_S1x1024_2_0)) (ix2 0 l) = X (ix2 2 l) := by
  refine ⟨⟨?_, ?_⟩, ?_⟩
  all_goals
    show X _ = X _
    refine congrArg X (Rect.emb_eq_of_coords _ _ _ fun a => ?_)
    fin_cases a <;> simp

/-- The three stores over what the block held: each row is what it was plus the point's part. -/
theorem added2 (B : Blocks) (X : EReal) (l : Fin 1024) (o : FVec Ideal S1x1024 .f32) (h : o (ix2 0 l) = X) :
    k0_pay2 (F := Ideal) (k0_pay15 B.b7) (k0_pay16 B.g) (k0_pay17 (k0_pay8 B.b0 B.b11 B.b2) (k0_pay14 B.b10) B.b7 B.g B.be) B.b8
        o (ix2 0 l) = X + part B 2 l := by
  rw [Pay.pay2, h]
  rfl

theorem added1 (B : Blocks) (X : EReal) (l : Fin 1024) (o : FVec Ideal S1x1024 .f32) (h : o (ix2 0 l) = X) :
    k0_pay19 (F := Ideal) (k0_pay8 B.b0 B.b11 B.b2) (k0_pay14 B.b10) B.b7 B.g B.be o (ix2 0 l) = X + part B 1 l := by
  rw [Pay.pay19, h]
  rfl

theorem added0 (B : Blocks) (X : EReal) (l : Fin 1024) (o : FVec Ideal S1x1024 .f32) (h : o (ix2 0 l) = X) :
    k0_pay18 (F := Ideal) (k0_pay8 B.b0 B.b11 B.b2) (k0_pay14 B.b10) B.b7 B.g B.be o (ix2 0 l) = X + part B 0 l := by
  rw [Pay.pay18, h]
  rfl

/-- The block the first point starts from is zero. -/
theorem zeroed (y : S8x1024.Idx) : k0_pay3 (F := Ideal) y = 0 := by
  pointwise [k0_pay3]

theorem outs19_A (h : t.val % 32 = 0) (a : Fin 8) (l : Fin 1024) :
    (outsAt0 m c t.val t.isLt).2.2.2.2.2.2 (ix2 a l) = 0 + part (blocks m c t) a l := by
  rw [outsAt0_A m c t h]; frame_out
  simp (disch := decide) only [↓ View.readCov_skip, ↓ View.readCov_cons_toLoadRect, ↓ View.readCov_fill]
  rw [← View.read_writes_junk_apply_eq_canon (ms0_19 t).view]
  refine (rows_at _ _ _ _ _ _ a l).trans ?_
  have k2 := added2 (blocks m c t) 0 l (View.ld (Val := Elt Ideal) (e' := .f32) (k0_pay3 (F := Ideal)) (Rect.unit ![2, 0] ![1, 1024] inb_S8x1024_S1x1024_2_0)) ((old_at _ l).2.trans (zeroed _))
  have k1 := added1 (blocks m c t) 0 l (View.ld (Val := Elt Ideal) (e' := .f32) (k0_pay3 (F := Ideal)) (Rect.unit ![1, 0] ![1, 1024] inb_S8x1024_S1x1024_1_0)) ((old_at _ l).1.2.trans (zeroed _))
  have k0 := added0 (blocks m c t) 0 l (View.ld (Val := Elt Ideal) (e' := .f32) (k0_pay3 (F := Ideal)) (Rect.unit ![0, 0] ![1, 1024] inb_S8x1024_S1x1024_0_0)) ((old_at _ l).1.1.trans (zeroed _))
  generalize hb : part (blocks m c t) = q at k2 k1 k0 ⊢
  dsimp only [blocks] at k2 k1 k0
  split
  · rename_i h2
    obtain rfl : a = 2 := Fin.ext h2
    exact k2
  split
  · rename_i h2
    obtain rfl : a = 1 := Fin.ext h2
    exact k1
  split
  · rename_i h2
    obtain rfl : a = 0 := Fin.ext h2
    exact k0
  rename_i h2 h1 h0
  rw [← hb, part, if_neg h2, if_neg h1, if_neg h0, View.read_writes_junk_apply_eq_canon, View.canon_cons_unit_lit, zeroed, add_zero]
  decide

theorem outs19_B (h : ¬ t.val % 32 = 0) (a : Fin 8) (l : Fin 1024) :
    (outsAt0 m c t.val t.isLt).2.2.2.2.2.2 (ix2 a l)
      = (outsAt0 m c (t.val - 1) (Nat.lt_of_le_of_lt (Nat.sub_le _ _) t.isLt)).2.2.2.2.2.2 (ix2 a l) + part (blocks m c t) a l := by
  rw [outsAt0_B m c t h]; frame_out
  generalize (outsAt0 m c (t.val - 1) (Nat.lt_of_le_of_lt (Nat.sub_le _ _) t.isLt)).2.2.2.2.2.2 = X
  refine (rows_at _ _ _ _ _ _ a l).trans ?_
  have k2 := added2 (blocks m c t) (X (ix2 2 l)) l (View.ld (Val := Elt Ideal) (e' := .f32) X (Rect.unit ![2, 0] ![1, 1024] inb_S8x1024_S1x1024_2_0)) (old_at _ l).2
  have k1 := added1 (blocks m c t) (X (ix2 1 l)) l (View.ld (Val := Elt Ideal) (e' := .f32) X (Rect.unit ![1, 0] ![1, 1024] inb_S8x1024_S1x1024_1_0)) (old_at _ l).1.2
  have k0 := added0 (blocks m c t) (X (ix2 0 l)) l (View.ld (Val := Elt Ideal) (e' := .f32) X (Rect.unit ![0, 0] ![1, 1024] inb_S8x1024_S1x1024_0_0)) (old_at _ l).1.1
  generalize hb : part (blocks m c t) = q at k2 k1 k0 ⊢
  dsimp only [blocks] at k2 k1 k0
  split
  · rename_i h2
    obtain rfl : a = 2 := Fin.ext h2
    exact k2
  split
  · rename_i h2
    obtain rfl : a = 1 := Fin.ext h2
    exact k1
  split
  · rename_i h2
    obtain rfl : a = 0 := Fin.ext h2
    exact k0
  rename_i h2 h1 h0
  rw [← hb, part, if_neg h2, if_neg h1, if_neg h0, View.writes_nil]
  simp only [Memref.IsWhole.read_unread, add_zero]

end Cert.Merge

end
-- ==== Proof.RefSums.lean ====
/- The reference's two joined results at an index: the gates' gradients side by side, and the eight rows of column sums. -/
module

public import proofs.«01_k».proof.Proof.RefBase

@[expose] public section

set_option maxRecDepth 16384

noncomputable section

namespace Cert.Merge.Ref

open Idealize.ShloMosaic Idealize.ShloMosaic.TcCoe
open Cert.ReferenceIdeal Cert.ReferenceIdeal.Gen Cert.ReferenceIdeal.Read
open scoped BigOperators

variable (x0 : FVec Ideal S8192x1024 .f32) (x1 : FVec Ideal S8192x7168 .f32) (x2 x3 : FVec Ideal S8192x1024 .f32)
  (x4 x5 x6 : FVec Ideal S1024x1024 .f32) (x7 x8 x9 : FVec Ideal S1024 .f32)

theorem v121 (i : Fin 8192) (l : Fin 2048) :
    val_main_v121 (F := Ideal) x0 x1 x2 x3 x4 x5 x6 x7 x8 x9 (ix2 i l)
      = if h : l.val < 1024 then val_main_v67 (F := Ideal) x0 x1 x2 x4 x6 (ix2 i ⟨l.val, h⟩)
        else val_main_v64 (F := Ideal) x0 x1 x3 x5 x6 x7 x8 x9 (ix2 i ⟨l.val - 1024, by omega⟩) := by
  unfold val_main_v121
  generalize val_main_v67 (F := Ideal) x0 x1 x2 x4 x6 = L
  generalize val_main_v64 (F := Ideal) x0 x1 x3 x5 x6 x7 x8 x9 = R
  pointwise

/-- The sum over the rows of the gradient of the norm's output. -/
theorem v72 (l : Fin 1024) : val_main_v72 (F := Ideal) x0 x1 x3 x5 x6 x7 x8 x9 (ix1 l)
    = ∑ i : Fin 8192, val_main_v69 (F := Ideal) x0 x1 x3 x5 x6 x7 x8 x9 (ix2 i l) := by
  rw [val_main_v72_apply]
  simp only [val_main_v71_apply, val_main_v70_apply, Fin.sum_univ_one]
  pointwise [val_main_cst_12, val_main_cst_13]
  refine Finset.sum_congr rfl fun i _ => ?_
  have e : idx_main_v70 (idx_main_v71 (idx_main_v72 (ix1 l) 0)) i = ix2 i l :=
    funext fun d => Fin.ext (by match d with | ⟨0, _⟩ => rfl | ⟨1, _⟩ => simp)
  rw [e]

theorem v78 (l : Fin 1024) : val_main_v78 (F := Ideal) x0 x1 x3 x5 x6 x7 x8 x9 (ix1 l)
    = ∑ i : Fin 8192, val_main_v69 (F := Ideal) x0 x1 x3 x5 x6 x7 x8 x9 (ix2 i l) * val_main_v30 (F := Ideal) x3 x7 (ix2 i l) := by
  rw [val_main_v78_apply]
  simp only [val_main_v75_apply, val_main_v74_apply, Fin.sum_univ_one]
  pointwise [val_main_cst_14, val_main_cst_15, val_main_v73]
  refine Finset.sum_congr rfl fun i _ => ?_
  have e : idx_main_v74 (idx_main_v75 (idx_main_v78 (ix1 l) 0)) i = ix2 i l :=
    funext fun d => Fin.ext (by match d with | ⟨0, _⟩ => rfl | ⟨1, _⟩ => simp)
  rw [e, mul_comm]

theorem v105 (l : Fin 1024) : val_main_v105 (F := Ideal) x0 x1 x3 x5 x6 x7 x8 x9 (ix1 l)
    = ∑ i : Fin 8192, val_main_v102 (F := Ideal) x0 x1 x3 x5 x6 x7 x8 x9 (ix2 i l) := by
  rw [val_main_v105_apply]
  simp only [val_main_v104_apply, val_main_v103_apply, Fin.sum_univ_one]
  pointwise [val_main_cst_23, val_main_cst_24]
  refine Finset.sum_congr rfl fun i _ => ?_
  have e : idx_main_v103 (idx_main_v104 (idx_main_v105 (ix1 l) 0)) i = ix2 i l :=
    funext fun d => Fin.ext (by match d with | ⟨0, _⟩ => rfl | ⟨1, _⟩ => simp)
  rw [e]

/-- The joined rows: the norm's scale, its shift, the convolution's bias, and zeros. -/
theorem v118 (a : Fin 8) (l : Fin 1024) : val_main_v118 (F := Ideal) x0 x1 x3 x5 x6 x7 x8 x9 (ix2 a l)
    = if a.val = 2 then ∑ i : Fin 8192, val_main_v102 (F := Ideal) x0 x1 x3 x5 x6 x7 x8 x9 (ix2 i l)
      else if a.val = 1 then ∑ i : Fin 8192, val_main_v69 (F := Ideal) x0 x1 x3 x5 x6 x7 x8 x9 (ix2 i l)
      else if a.val = 0 then ∑ i : Fin 8192, val_main_v69 (F := Ideal) x0 x1 x3 x5 x6 x7 x8 x9 (ix2 i l) * val_main_v30 (F := Ideal) x3 x7 (ix2 i l)
      else 0 := by
  rw [← v72, ← v78, ← v105]
  unfold val_main_v118 val_main_v110 val_main_v111 val_main_v112
  generalize val_main_v72 (F := Ideal) x0 x1 x3 x5 x6 x7 x8 x9 = p
  generalize val_main_v78 (F := Ideal) x0 x1 x3 x5 x6 x7 x8 x9 = q
  generalize val_main_v105 (F := Ideal) x0 x1 x3 x5 x6 x7 x8 x9 = s
  pointwise [val_main_v113, val_main_v114, val_main_v115, val_main_v116, val_main_v117, val_main_v109, val_main_cst_25]
  fin_cases a <;> simp

end Cert.Merge.Ref

end
-- ==== Proof.Finals.lean ====
/- The kernel's row outputs: every grid point writes its rows, and they are the reference's gradients. -/
module

public import proofs.«01_k».proof.Proof.Outs
public import proofs.«01_k».proof.Proof.Sums
public import proofs.«01_k».proof.Proof.RefSums

@[expose] public section

set_option maxRecDepth 16384

noncomputable section

namespace Cert.Merge

open Idealize.ShloMosaic Idealize.ShloMosaic.TcCoe
open Cert.KernelIdeal Cert.KernelIdeal.Gen Cert.ReferenceIdeal.Read
open scoped BigOperators

variable (m : (ℓ : Loc nD τ sig) → Buf (Elt Ideal) ℓ) (c : Dev nD)

/-- The first branch's gradient. -/
theorem final13 : (dats m 0 c).arrAt 13 (cfgs 0).N
    = val_main_v119 (F := Ideal) (args m c).x0 (args m c).x1 (args m c).x6 := by
  refine (dats m 0 c).arrAt_eq_of_covers 13 _ (by decide +kernel) fun t _ y => ?_
  blk_simp
  rw [after0_13]
  idx_vars y
  refine (congrFun (outs13 m c t) _).trans ?_
  refine (dya (blocks_of m c t) _ _).trans ?_
  pointwise [val_main_v119]
  unfold rows
  blk_ext [idx t]

/-- The second branch's gradient. -/
theorem final14 : (dats m 0 c).arrAt 14 (cfgs 0).N
    = val_main_v120 (F := Ideal) (args m c).x0 (args m c).x1 (args m c).x6 := by
  refine (dats m 0 c).arrAt_eq_of_covers 14 _ (by decide +kernel) fun t _ y => ?_
  blk_simp
  rw [after0_14]
  idx_vars y
  refine (congrFun (outs14 m c t) _).trans ?_
  refine (dyb (blocks_of m c t) _ _).trans ?_
  pointwise [val_main_v120]
  unfold rows
  blk_ext [idx t]

/-- The gradient of the first mixer's gate. -/
theorem final16 : (dats m 0 c).arrAt 16 (cfgs 0).N
    = val_main_v123 (F := Ideal) (args m c).x0 (args m c).x1 (args m c).x2 (args m c).x4 (args m c).x6 := by
  refine (dats m 0 c).arrAt_eq_of_covers 16 _ (by decide +kernel) fun t _ y => ?_
  blk_simp
  rw [after0_16]
  idx_vars y
  refine (congrFun (outs16 m c t) _).trans ?_
  refine (dba (blocks_of m c t) _ _).trans ?_
  pointwise [val_main_v123]
  unfold rows
  blk_ext [idx t]

/-- The gradient of the first convolution. -/
theorem final17 : (dats m 0 c).arrAt 17 (cfgs 0).N
    = val_main_v107 (F := Ideal) (args m c).x0 (args m c).x1 (args m c).x4 (args m c).x6 := by
  refine (dats m 0 c).arrAt_eq_of_covers 17 _ (by decide +kernel) fun t _ y => ?_
  blk_simp
  rw [after0_17]
  idx_vars y
  refine (congrFun (outs17 m c t) _).trans ?_
  refine (dconva (blocks_of m c t) _ _).trans ?_
  skip
  unfold rows
  blk_ext [idx t]

/-- The gradient of the second convolution. -/
theorem final18 (hf : (args m c).Finite) : (dats m 0 c).arrAt 18 (cfgs 0).N
    = val_main_v102 (F := Ideal) (args m c).x0 (args m c).x1 (args m c).x3 (args m c).x5 (args m c).x6 (args m c).x7 (args m c).x8 (args m c).x9 := by
  refine (dats m 0 c).arrAt_eq_of_covers 18 _ (by decide +kernel) fun t _ y => ?_
  blk_simp
  rw [after0_18]
  idx_vars y
  refine (congrFun (outs18 m c t) _).trans ?_
  refine (du1 (blocks_of m c t) hf _ _).trans ?_
  skip
  unfold rows
  blk_ext [idx t]

/-- The gates' gradients, side by side. -/
theorem final15 : (dats m 0 c).arrAt 15 (cfgs 0).N
    = val_main_v122 (F := Ideal) (args m c).x0 (args m c).x1 (args m c).x2 (args m c).x3 (args m c).x4 (args m c).x5 (args m c).x6 (args m c).x7 (args m c).x8 (args m c).x9 := by
  refine (dats m 0 c).arrAt_eq_of_covers 15 _ (by decide +kernel) fun t _ y => ?_
  blk_simp
  rw [after0_15]
  idx_vars y
  refine (outs15 m c t _ _).trans ?_
  pointwise [val_main_v122]
  have e : ((View.whole main_v48_2).slice (win0_15.rect t)).emb (ix2 y0 y1) = ix2 (rows t y0) y1 := by
    unfold rows
    blk_ext [idx t]
  rw [e, Ref.v121, gates]
  split
  · exact dga (blocks_of m c t) _ _
  · exact dgb (blocks_of m c t) _ _

/-- What a point adds to a row, in the reference's terms. -/
theorem part_ref (hf : (args m c).Finite) (t : Fin cfg0.N) (a : Fin 8) (l : Fin 1024) :
    part (blocks m c t) a l
      = if a.val = 2 then ∑ r : Fin 256, val_main_v102 (F := Ideal) (args m c).x0 (args m c).x1 (args m c).x3 (args m c).x5 (args m c).x6 (args m c).x7 (args m c).x8 (args m c).x9 (ix2 (rows t r) l)
        else if a.val = 1 then ∑ r : Fin 256, val_main_v69 (F := Ideal) (args m c).x0 (args m c).x1 (args m c).x3 (args m c).x5 (args m c).x6 (args m c).x7 (args m c).x8 (args m c).x9 (ix2 (rows t r) l)
        else if a.val = 0 then ∑ r : Fin 256, val_main_v69 (F := Ideal) (args m c).x0 (args m c).x1 (args m c).x3 (args m c).x5 (args m c).x6 (args m c).x7 (args m c).x8 (args m c).x9 (ix2 (rows t r) l)
          * val_main_v30 (F := Ideal) (args m c).x3 (args m c).x7 (ix2 (rows t r) l)
        else 0 := by
  unfold part
  refine if_congr Iff.rfl (Finset.sum_congr rfl fun r _ => du1 (blocks_of m c t) hf r l) (if_congr Iff.rfl (Finset.sum_congr rfl fun r _ => du2 (blocks_of m c t) hf r l)
    (if_congr Iff.rfl (Finset.sum_congr rfl fun r _ => congrArg₂ (· * ·) (du2 (blocks_of m c t) hf r l) ((blocks_of m c t).h7 r l)) rfl))

/-- The column sums. -/
theorem final19 (hf : (args m c).Finite) : (dats m 0 c).arrAt 19 (cfgs 0).N = val_main_v118 (F := Ideal) (args m c).x0 (args m c).x1 (args m c).x3 (args m c).x5 (args m c).x6 (args m c).x7 (args m c).x8 (args m c).x9 := by
  refine (dats m 0 c).arrAt_eq_of_covers 19 _ (by decide +kernel) fun t hf' y => ?_
  blk_simp
  rw [after0_19]
  idx_vars y
  have e : ((View.whole main_v48_6).slice (win0_19.rect t)).emb (ix2 y0 y1) = ix2 y0 y1 := by
    blk_ext [idx t]
  rw [e, Ref.v118]
  rw [Pipeline.eq_sum_fin_of_reset_step_apply_of_flush (fun n h => (outsAt0 m c n h).2.2.2.2.2.2) 32 (fun _ => 0)
    (fun t y => part (blocks m c t) (y 0) (y 1))
    (fun n hr y => by
      idx_vars y
      exact outs19_A m c n hr _ _)
    (fun n hr y => by
      idx_vars y
      exact outs19_B m c n hr _ _) t ((flush0_19 t).mp hf') _, zero_add]
  have key (f : FVec Ideal S8192x1024 .f32) :
      ∑ s : Fin 32, ∑ r : Fin 256, f (ix2 (rows ⟨32 * (t.val / 32) + s.val, Pipeline.run_point_lt_of_flush t ((flush0_19 t).mp hf') s⟩ r) y1)
        = ∑ i : Fin 8192, f (ix2 i y1) := by
    refine Fin.sum_mul_add_congr fun s k hl => ?_
    have ht : t.val < 32 := lt_of_lt_of_eq t.isLt N_0
    refine congrArg f (congrArg (ix2 · y1) (Fin.ext ?_))
    show 256 * (32 * (t.val / 32) + s.val) + k.val = s.val * 256 + k.val
    omega
  refine (Finset.sum_congr rfl fun s _ => part_ref m c hf _ _ _).trans ?_
  show (∑ s : Fin 32, ite (y0.val = 2) _ (ite (y0.val = 1) _ (ite (y0.val = 0) _ 0)) : EReal) = _
  split
  · exact key (val_main_v102 (F := Ideal) (args m c).x0 (args m c).x1 (args m c).x3 (args m c).x5 (args m c).x6 (args m c).x7 (args m c).x8 (args m c).x9)
  split
  · exact key (val_main_v69 (F := Ideal) (args m c).x0 (args m c).x1 (args m c).x3 (args m c).x5 (args m c).x6 (args m c).x7 (args m c).x8 (args m c).x9)
  split
  · exact key (fun i => val_main_v69 (F := Ideal) (args m c).x0 (args m c).x1 (args m c).x3 (args m c).x5 (args m c).x6 (args m c).x7 (args m c).x8 (args m c).x9 i * val_main_v30 (F := Ideal) (args m c).x3 (args m c).x7 i)
  · exact Finset.sum_const_zero

end Cert.Merge

end
-- ==== Proof.Algebraic.lean ====
/- The idealized kernel and the reference end with equal results, where the gradient and the three arrays the norm's gradient is built on are finite. -/
module

public import proofs.«01_k».proof.Defs
public import proofs.«01_k».proof.Proof.Finals
public import proofs.«01_k».proof.Proof.Gen.KernelIdeal.Value
public import proofs.«01_k».proof.Proof.Gen.ReferenceIdeal.Run
public import Idealize.ShloMosaic.Lib.Claim

@[expose] public section

set_option maxRecDepth 16384

noncomputable section

namespace Cert.Merge

open Idealize.ShloMosaic Idealize.ShloMosaic.TcCoe Idealize.SL.Sem

/-- The precondition's shape relations. -/
theorem preFacts : Cert.Pre_finite.Facts where
  bcast_S_S8192x1024 := by decide
  bcast_S_S1024x1024 := by decide
  bcast_S_S1024 := by decide

/-- The word of infinity. -/
theorem w_inf : Ideal.ofBits .f32 0x7F800000#32 = (⊤ : EReal) := by
  simp [Ideal.ofBits, Ideal.ieee]

/-- A number whose size is below infinity is real. -/
theorem real_of_lt {s : Shape} (x y : FVec Ideal s .f32) (i : s.Idx) (hy : y i = ⊤) (h : cmpf .olt (Host.absf x) y i = 1#1) : ∃ r : ℝ, x i = r := by
  have h' : max (x i) (-(x i)) < (⊤ : EReal) := by
    have h2 : Ideal.cmp .olt (max (x i) (-(x i)) : EReal) (y i : EReal) = 1#1 := h
    rw [hy] at h2
    by_contra hn
    simp [Ideal.cmp, hn] at h2
  have key : ∀ v : EReal, max v (-v) < ⊤ → ∃ r : ℝ, v = r := by
    intro v hv
    induction v with
    | bot => simp at hv
    | top => simp at hv
    | coe r => exact ⟨r, rfl⟩
  exact key _ h'

theorem finite_of (m : (ℓ : Loc Cert.KernelIdeal.nD Cert.KernelIdeal.τ Cert.KernelIdeal.sig) → Buf (Elt Ideal) ℓ)
    (h : Cert.Pre_KernelIdeal_finite (hPre_finite := preFacts) m) (c : Dev Cert.KernelIdeal.nD) : (args m c).Finite := by
  obtain ⟨h0, h5, h6, h8⟩ := h c
  exact ⟨fun i => real_of_lt _ _ i (by pointwise; exact w_inf) (congrFun h0 i), fun i => real_of_lt _ _ i (by pointwise; exact w_inf) (congrFun h5 i),
    fun i => real_of_lt _ _ i (by pointwise; exact w_inf) (congrFun h6 i), fun i => real_of_lt _ _ i (by pointwise; exact w_inf) (congrFun h8 i)⟩

/-- The reference leaves its arguments as they were; it has no semaphores. -/
theorem frameRef : Cert.quiescent_ReferenceIdeal (hReferenceIdeal := Cert.ReferenceIdeal.Gen.facts) := fun m ρ _ =>
  (θ_run (Cert.ReferenceIdeal.defs (F := Ideal)) _ _).mono
    (fun r h => ⟨fun c => (h c).2.2.2.2.2.2.2, sem_eq_zero_of_no_sems (by decide) r.2⟩)
    (Cert.ReferenceIdeal.Value.run (F := Ideal) m ρ)

set_option maxHeartbeats 1600000 in
/-- The two programs' results are equal. -/
theorem algebraic : Cert.algebraic_KernelIdeal_ReferenceIdeal_pre_finite (hKernelIdeal := Cert.KernelIdeal.Gen.facts)
    (hReferenceIdeal := Cert.ReferenceIdeal.Gen.facts) (hPre_finite := preFacts) := by
  pair_intro
  · run_from Cert.KernelIdeal.Value.run_blocks m g
  · have hf := finite_of m hpre
    run_from Cert.ReferenceIdeal.Value.run m' g'
    · rw [Cert.ReferenceIdeal.Read.val_main_v119_eq]
      rw [show StableHlo.launchContents m' c (Proc.devRef .tc Cert.ReferenceIdeal.main_arg0) = (args m c).x0 from (hagree c).1]
      rw [show StableHlo.launchContents m' c (Proc.devRef .tc Cert.ReferenceIdeal.main_arg1) = (args m c).x1 from (hagree c).2.1]
      rw [show StableHlo.launchContents m' c (Proc.devRef .tc Cert.ReferenceIdeal.main_arg6) = (args m c).x6 from (hagree c).2.2.2.2.2.2.1]
      exact (final13 m c).symm
    · rw [Cert.ReferenceIdeal.Read.val_main_v120_eq]
      rw [show StableHlo.launchContents m' c (Proc.devRef .tc Cert.ReferenceIdeal.main_arg0) = (args m c).x0 from (hagree c).1]
      rw [show StableHlo.launchContents m' c (Proc.devRef .tc Cert.ReferenceIdeal.main_arg1) = (args m c).x1 from (hagree c).2.1]
      rw [show StableHlo.launchContents m' c (Proc.devRef .tc Cert.ReferenceIdeal.main_arg6) = (args m c).x6 from (hagree c).2.2.2.2.2.2.1]
      exact (final14 m c).symm
    · rw [Cert.ReferenceIdeal.Read.val_main_v122_eq]
      rw [show StableHlo.launchContents m' c (Proc.devRef .tc Cert.ReferenceIdeal.main_arg0) = (args m c).x0 from (hagree c).1]
      rw [show StableHlo.launchContents m' c (Proc.devRef .tc Cert.ReferenceIdeal.main_arg1) = (args m c).x1 from (hagree c).2.1]
      rw [show StableHlo.launchContents m' c (Proc.devRef .tc Cert.ReferenceIdeal.main_arg2) = (args m c).x2 from (hagree c).2.2.1]
      rw [show StableHlo.launchContents m' c (Proc.devRef .tc Cert.ReferenceIdeal.main_arg3) = (args m c).x3 from (hagree c).2.2.2.1]
      rw [show StableHlo.launchContents m' c (Proc.devRef .tc Cert.ReferenceIdeal.main_arg4) = (args m c).x4 from (hagree c).2.2.2.2.1]
      rw [show StableHlo.launchContents m' c (Proc.devRef .tc Cert.ReferenceIdeal.main_arg5) = (args m c).x5 from (hagree c).2.2.2.2.2.1]
      rw [show StableHlo.launchContents m' c (Proc.devRef .tc Cert.ReferenceIdeal.main_arg6) = (args m c).x6 from (hagree c).2.2.2.2.2.2.1]
      rw [show StableHlo.launchContents m' c (Proc.devRef .tc Cert.ReferenceIdeal.main_arg7) = (args m c).x7 from (hagree c).2.2.2.2.2.2.2.1]
      rw [show StableHlo.launchContents m' c (Proc.devRef .tc Cert.ReferenceIdeal.main_arg8) = (args m c).x8 from (hagree c).2.2.2.2.2.2.2.2.1]
      rw [show StableHlo.launchContents m' c (Proc.devRef .tc Cert.ReferenceIdeal.main_arg9) = (args m c).x9 from (hagree c).2.2.2.2.2.2.2.2.2]
      exact (final15 m c).symm
    · rw [← (hagree c).2.2.1]
      refine (Cert.ReferenceIdeal.Read.val_main_v123_eq (StableHlo.launchContents m' c)).trans ?_
      rw [show StableHlo.launchContents m' c (Proc.devRef .tc Cert.ReferenceIdeal.main_arg0) = (args m c).x0 from (hagree c).1]
      rw [show StableHlo.launchContents m' c (Proc.devRef .tc Cert.ReferenceIdeal.main_arg1) = (args m c).x1 from (hagree c).2.1]
      rw [show StableHlo.launchContents m' c (Proc.devRef .tc Cert.ReferenceIdeal.main_arg2) = (args m c).x2 from (hagree c).2.2.1]
      rw [show StableHlo.launchContents m' c (Proc.devRef .tc Cert.ReferenceIdeal.main_arg4) = (args m c).x4 from (hagree c).2.2.2.2.1]
      rw [show StableHlo.launchContents m' c (Proc.devRef .tc Cert.ReferenceIdeal.main_arg6) = (args m c).x6 from (hagree c).2.2.2.2.2.2.1]
      exact (final16 m c).symm
    · rw [Cert.ReferenceIdeal.Read.val_main_v107_eq]
      rw [show StableHlo.launchContents m' c (Proc.devRef .tc Cert.ReferenceIdeal.main_arg0) = (args m c).x0 from (hagree c).1]
      rw [show StableHlo.launchContents m' c (Proc.devRef .tc Cert.ReferenceIdeal.main_arg1) = (args m c).x1 from (hagree c).2.1]
      rw [show StableHlo.launchContents m' c (Proc.devRef .tc Cert.ReferenceIdeal.main_arg4) = (args m c).x4 from (hagree c).2.2.2.2.1]
      rw [show StableHlo.launchContents m' c (Proc.devRef .tc Cert.ReferenceIdeal.main_arg6) = (args m c).x6 from (hagree c).2.2.2.2.2.2.1]
      exact (final17 m c).symm
    · rw [Cert.ReferenceIdeal.Read.val_main_v102_eq]
      rw [show StableHlo.launchContents m' c (Proc.devRef .tc Cert.ReferenceIdeal.main_arg0) = (args m c).x0 from (hagree c).1]
      rw [show StableHlo.launchContents m' c (Proc.devRef .tc Cert.ReferenceIdeal.main_arg1) = (args m c).x1 from (hagree c).2.1]
      rw [show StableHlo.launchContents m' c (Proc.devRef .tc Cert.ReferenceIdeal.main_arg3) = (args m c).x3 from (hagree c).2.2.2.1]
      rw [show StableHlo.launchContents m' c (Proc.devRef .tc Cert.ReferenceIdeal.main_arg5) = (args m c).x5 from (hagree c).2.2.2.2.2.1]
      rw [show StableHlo.launchContents m' c (Proc.devRef .tc Cert.ReferenceIdeal.main_arg6) = (args m c).x6 from (hagree c).2.2.2.2.2.2.1]
      rw [show StableHlo.launchContents m' c (Proc.devRef .tc Cert.ReferenceIdeal.main_arg7) = (args m c).x7 from (hagree c).2.2.2.2.2.2.2.1]
      rw [show StableHlo.launchContents m' c (Proc.devRef .tc Cert.ReferenceIdeal.main_arg8) = (args m c).x8 from (hagree c).2.2.2.2.2.2.2.2.1]
      rw [show StableHlo.launchContents m' c (Proc.devRef .tc Cert.ReferenceIdeal.main_arg9) = (args m c).x9 from (hagree c).2.2.2.2.2.2.2.2.2]
      exact (final18 m c (hf c)).symm
    · rw [Cert.ReferenceIdeal.Read.val_main_v118_eq]
      rw [show StableHlo.launchContents m' c (Proc.devRef .tc Cert.ReferenceIdeal.main_arg0) = (args m c).x0 from (hagree c).1]
      rw [show StableHlo.launchContents m' c (Proc.devRef .tc Cert.ReferenceIdeal.main_arg1) = (args m c).x1 from (hagree c).2.1]
      rw [show StableHlo.launchContents m' c (Proc.devRef .tc Cert.ReferenceIdeal.main_arg3) = (args m c).x3 from (hagree c).2.2.2.1]
      rw [show StableHlo.launchContents m' c (Proc.devRef .tc Cert.ReferenceIdeal.main_arg5) = (args m c).x5 from (hagree c).2.2.2.2.2.1]
      rw [show StableHlo.launchContents m' c (Proc.devRef .tc Cert.ReferenceIdeal.main_arg6) = (args m c).x6 from (hagree c).2.2.2.2.2.2.1]
      rw [show StableHlo.launchContents m' c (Proc.devRef .tc Cert.ReferenceIdeal.main_arg7) = (args m c).x7 from (hagree c).2.2.2.2.2.2.2.1]
      rw [show StableHlo.launchContents m' c (Proc.devRef .tc Cert.ReferenceIdeal.main_arg8) = (args m c).x8 from (hagree c).2.2.2.2.2.2.2.2.1]
      rw [show StableHlo.launchContents m' c (Proc.devRef .tc Cert.ReferenceIdeal.main_arg9) = (args m c).x9 from (hagree c).2.2.2.2.2.2.2.2.2]
      exact (final19 m c (hf c)).symm

end Cert.Merge

end
-- ==== Proof.Down.lean ====
/- The gradient through the MLP's second product and through the square of the rectified hidden layer: the grid's tiles
   are the reference's gradient. -/
module

public import proofs.«01_k».proof.Defs
public import proofs.«01_k».proof.Proof.Scalars
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.Claim

@[expose] public section

set_option maxRecDepth 16384

noncomputable section

namespace Cert.Down

open Idealize.ShloMosaic Idealize.ShloMosaic.TcCoe Idealize.SL.Sem
open Cert.Kernel2Ideal Cert.Kernel2Ideal.Gen Cert.Reference2Ideal.Read
open scoped BigOperators

/-- One entry of a tile: the gradient's row against the weight's row, times twice the rectified value. -/
theorem pay1 (b0 : FVec Ideal S1024x1024 .bf16) (b1 : FVec Ideal S2048x1024 .bf16) (b2 : FVec Ideal S1024x2048 .bf16)
    (r : Fin 1024) (l : Fin 2048) :
    k0_pay1 (F := Ideal) b0 b1 b2 (ix2 r l) = (∑ k : Fin 1024, b0 (ix2 r k) * b1 (ix2 l k)) * (2 * b2 (ix2 r l)) := by
  pointwise [k0_pay1, Cert.Merge.w_two]
  rfl

/-- Twice a rectified value: where the value is not positive, the product with it is zero, which is what the reference selects. -/
theorem select_relu (d h : EReal) :
    (if 0 < h then d * (2 * max h 0) else 0) = d * (2 * max h 0) := by
  by_cases hp : 0 < h
  · simp [hp]
  · simp [hp, max_eq_right (not_lt.mp hp)]

variable (m : (ℓ : Loc nD τ sig) → Buf (Elt Ideal) ℓ) (c : Dev nD)

/-- The arguments as launched: the gradient coming in, the MLP's input, its two weights. -/
def x0 : FVec Ideal S8192x1024 .f32 := m ((c : Thread nD τ).loc main_arg0)
def x1 : FVec Ideal S8192x1024 .f32 := m ((c : Thread nD τ).loc main_arg1)
def x2 : FVec Ideal S1024x4096 .f32 := m ((c : Thread nD τ).loc main_arg2)
def x3 : FVec Ideal S4096x1024 .f32 := m ((c : Thread nD τ).loc main_arg3)

/-- The block maps: the tile of grid point `t` is row block `t % 8` and column block `t / 8`. -/
theorem idx : ∀ t : Fin cfg0.N, win0_0.index t = ![t.val % 8, 0] ∧ win0_1.index t = ![t.val / 8, 0]
    ∧ win0_2.index t = ![t.val % 8, t.val / 8] ∧ win0_3.index t = ![t.val % 8, t.val / 8] :=
  (by decide +kernel : ∀ t : Fin grid0.N, _)

variable (t : Fin cfg0.N)

theorem t_lt : t.val < 16 := lt_of_lt_of_eq t.isLt N_0

def row (r : Fin 1024) : Fin 8192 := ⟨1024 * (t.val % 8) + r.val, by omega⟩
def col (l : Fin 2048) : Fin 4096 := ⟨2048 * (t.val / 8) + l.val, by have := t_lt t; omega⟩

theorem at0 (r k : Fin 1024) :
    (show FVec Ideal S1024x1024 .bf16 from iblk m c 0 t) (ix2 r k) = x0 m c (ix2 (row t r) k) := by
  unfold row x0
  blk_simp [iblk, idx t]
  entry_read
  pointwise
  blk_ext [idx t]

theorem at1 (l : Fin 2048) (k : Fin 1024) :
    (show FVec Ideal S2048x1024 .bf16 from iblk m c 1 t) (ix2 l k) = x3 m c (ix2 (col t l) k) := by
  unfold col x3
  blk_simp [iblk, idx t]
  entry_read
  pointwise
  blk_ext [idx t]

/-- The rectified hidden layer on the host is the reference's. -/
theorem entry2 : (show FVec Ideal S8192x4096 .bf16 from V m c (Pipeline.arrRef spec0 2)) = val_main_v1 (F := Ideal) (x1 m c) (x2 m c) := by
  entry_read
  rfl

theorem at2 (r : Fin 1024) (l : Fin 2048) :
    (show FVec Ideal S1024x2048 .bf16 from iblk m c 2 t) (ix2 r l)
      = val_main_v1 (F := Ideal) (x1 m c) (x2 m c) (ix2 (row t r) (col t l)) := by
  rw [← entry2]
  unfold row col
  blk_ext [iblk, idx t]

/-- The reference's gradient at an entry. -/
theorem ref (a : Fin 8192) (b : Fin 4096) : val_main_v13 (F := Ideal) (x0 m c) (x1 m c) (x2 m c) (x3 m c) (ix2 a b)
    = (∑ k : Fin 1024, x0 m c (ix2 a k) * x3 m c (ix2 b k)) * (2 * val_main_v1 (F := Ideal) (x1 m c) (x2 m c) (ix2 a b)) := by
  pointwise [val_main_v13, val_main_v12, val_main_v10, val_main_v3, val_main_v7, val_main_v9, val_main_v1, val_main_call0_v0, val_main_call0_cst, val_main_v2, val_main_cst,
    val_main_v6, val_main_cst_1, val_main_v11, val_main_cst_2, Cert.Merge.w_two]
  exact select_relu _ _

theorem final3 : (dats m 0 c).arrAt 3 (cfgs 0).N = val_main_v13 (F := Ideal) (x0 m c) (x1 m c) (x2 m c) (x3 m c) := by
  refine (dats m 0 c).arrAt_eq_of_covers 3 _ (by decide +kernel) fun t _ y => ?_
  blk_simp
  rw [after0_3]
  idx_vars y
  refine Eq.trans (b := k0_pay1 (F := Ideal) (iblk m c 0 t) (iblk m c 1 t) (iblk m c 2 t) (ix2 y0 y1)) ?_ ?_
  · frame_out
  have e : ((View.whole main_v6).slice (win0_3.rect t)).emb (ix2 y0 y1) = ix2 (row t y0) (col t y1) := by
    unfold row col
    blk_ext [idx t]
  rw [e, ref, pay1]
  exact congrArg₂ (· * ·) (Finset.sum_congr rfl fun k _ => congrArg₂ (· * ·) (at0 m c t y0 k) (at1 m c t y1 k))
    (congrArg (2 * ·) (at2 m c t y0 y1))

/-- The reference leaves its arguments as they were; it has no semaphores. -/
theorem frameRef : Cert.quiescent_Reference2Ideal (hReference2Ideal := Cert.Reference2Ideal.Gen.facts) := fun m ρ _ =>
  (θ_run (Cert.Reference2Ideal.defs (F := Ideal)) _ _).mono
    (fun r h => ⟨fun c => (h c).2, sem_eq_zero_of_no_sems (by decide) r.2⟩)
    (Cert.Reference2Ideal.Value.run (F := Ideal) m ρ)

/-- The two programs' results are equal. -/
theorem algebraic : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    exact (val_main_v13_eq _ _ _ _).trans (final3 m c).symm

end Cert.Down

end
-- ==== Proof.WGrad.lean ====
/- The gradient of a mixer product's weight: the grid adds up, block of rows by block of rows, the products whose sum over
   all rows is the reference's gradient; its last point writes the rounded copy too. -/
module

public import proofs.«01_k».proof.Defs
public import proofs.«01_k».proof.Proof.Scalars
public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim

@[expose] public section

set_option maxRecDepth 16384

noncomputable section

namespace Cert.WGrad

open Idealize.ShloMosaic Idealize.ShloMosaic.TcCoe Idealize.SL.Sem
open Cert.Kernel3Ideal Cert.Kernel3Ideal.Gen Cert.Reference3Ideal.Read
open scoped BigOperators

/-- One point's step: what the block held plus the point's products. -/
theorem pay2 (X : FVec Ideal S1x1024x1024 .f32) (b0 b1 : FVec Ideal S2048x1024 .bf16) (z : Fin 1) (r l : Fin 1024) :
    k0_pay2 (F := Ideal) X b0 b1 (ix3 z r l) = X (ix3 z r l) + ∑ k : Fin 2048, b0 (ix2 k r) * b1 (ix2 k l) := by
  obtain rfl : z = 0 := Subsingleton.elim _ _
  pointwise [k0_pay2]

theorem pay3 (X : FVec Ideal S1x1024x1024 .f32) (i : S1x1024x1024.Idx) : k0_pay3 (F := Ideal) X i = X i := by
  idx_vars i
  obtain rfl : i0 = 0 := Subsingleton.elim _ _
  pointwise [k0_pay3]

theorem pay1 (i : S1x1024x1024.Idx) : k0_pay1 (F := Ideal) i = 0 := by
  pointwise [k0_pay1]

variable (m : (ℓ : Loc nD τ sig) → Buf (Elt Ideal) ℓ) (c : Dev nD)

/-- The arguments as launched: the gradient coming in and the product's left operand. -/
def x0 : FVec Ideal S8192x1024 .f32 := m ((c : Thread nD τ).loc main_arg0)
def x1 : FVec Ideal S8192x1024 .f32 := m ((c : Thread nD τ).loc main_arg1)

theorem idx : ∀ t : Fin cfg0.N, win0_0.index t = ![t.val, 0] ∧ win0_1.index t = ![t.val, 0]
    ∧ win0_2.index t = ![0, 0, 0] ∧ win0_3.index t = ![0, 0, 0] :=
  (by decide +kernel : ∀ t : Fin grid0.N, _)

variable (t : Fin cfg0.N)

theorem t_lt : t.val < 4 := lt_of_lt_of_eq t.isLt N_0

def row (r : Fin 2048) : Fin 8192 := ⟨2048 * t.val + r.val, by have := t_lt t; omega⟩

theorem at0 (r : Fin 2048) (k : Fin 1024) :
    (show FVec Ideal S2048x1024 .bf16 from iblk m c 0 t) (ix2 r k) = x1 m c (ix2 (row t r) k) := by
  unfold row x1
  blk_simp [iblk, idx t]
  entry_read
  pointwise
  blk_ext [idx t]

theorem at1 (r : Fin 2048) (k : Fin 1024) :
    (show FVec Ideal S2048x1024 .bf16 from iblk m c 1 t) (ix2 r k) = x0 m c (ix2 (row t r) k) := by
  unfold row x0
  blk_simp [iblk, idx t]
  entry_read
  pointwise
  blk_ext [idx t]

/-- What a point adds to an entry. -/
def part (r l : Fin 1024) : EReal := ∑ k : Fin 2048, x0 m c (ix2 (row t k) l) * x1 m c (ix2 (row t k) r)

theorem part_eq (r l : Fin 1024) :
    (∑ k : Fin 2048, (show FVec Ideal S2048x1024 .bf16 from iblk m c 0 t) (ix2 k r) * (show FVec Ideal S2048x1024 .bf16 from iblk m c 1 t) (ix2 k l) : EReal)
      = part m c t r l :=
  Finset.sum_congr rfl fun k _ => (congrArg₂ (· * ·) (at0 m c t k r) (at1 m c t k l)).trans (mul_comm _ _)

theorem outs_A (h : t.val % 4 = 0) (z : Fin 1) (r l : Fin 1024) : (outsAt0 m c t.val t.isLt).1 (ix3 z r l) = 0 + part m c t r l := by
  rw [outsAt0_A m c t h (by omega)]; frame_out
  exact (pay2 _ _ _ z r l).trans (congrArg₂ (· + ·) (pay1 _) (part_eq m c t r l))

theorem outs_B (h : ¬ t.val % 4 = 0) (z : Fin 1) (r l : Fin 1024) : (outsAt0 m c t.val t.isLt).1 (ix3 z r l)
      = (outsAt0 m c (t.val - 1) (Nat.lt_of_le_of_lt (Nat.sub_le _ _) t.isLt)).1 (ix3 z r l) + part m c t r l := by
  by_cases h3 : t.val % 4 = 3
  · rw [outsAt0_C m c t h h3]; frame_out
    exact (pay2 _ _ _ z r l).trans (congrArg (_ + ·) (part_eq m c t r l))
  · rw [outsAt0_B m c t h h3]; frame_out
    exact (pay2 _ _ _ z r l).trans (congrArg (_ + ·) (part_eq m c t r l))

/-- At the last point the rounded copy is the block. -/
theorem outs_C (h3 : t.val % 4 = 3) : (outsAt0 m c t.val t.isLt).2 = (outsAt0 m c t.val t.isLt).1 := by
  rw [outsAt0_C m c t (by omega) h3]
  funext i
  idx_vars i
  frame_out
  exact pay3 _ _

/-- The reference's gradient at an entry. -/
theorem ref4 (z : Fin 1) (r l : Fin 1024) : val_main_v4 (F := Ideal) (x0 m c) (x1 m c) (ix3 z r l)
    = ∑ k : Fin 8192, x0 m c (ix2 k l) * x1 m c (ix2 k r) := by
  pointwise [val_main_v4, val_main_v3, val_main_v2]

theorem ref6 (z : Fin 1) (r l : Fin 1024) : val_main_v6 (F := Ideal) (x0 m c) (x1 m c) (ix3 z r l)
    = ∑ k : Fin 8192, x0 m c (ix2 k l) * x1 m c (ix2 k r) := by
  pointwise [val_main_v6, val_main_v5, val_main_v3, val_main_v2]

/-- The whole run's sum at an entry, where the block is written back. -/
theorem total (hf : t.val % 4 = 3) (z : Fin 1) (r l : Fin 1024) : (outsAt0 m c t.val t.isLt).1 (ix3 z r l)
    = ∑ k : Fin 8192, x0 m c (ix2 k l) * x1 m c (ix2 k r) := by
  rw [Pipeline.eq_sum_fin_of_reset_step_apply_of_flush (fun n h => (outsAt0 m c n h).1) 4 (fun _ => 0)
    (fun t y => part m c t (y 1) (y 2))
    (fun n hr y => by
      idx_vars y
      exact outs_A m c n hr _ _ _)
    (fun n hr y => by
      idx_vars y
      exact outs_B m c n hr _ _ _) t hf _, zero_add]
  refine Fin.sum_mul_add_congr fun s k hl => ?_
  have ht := t_lt t
  have e : row ⟨4 * (t.val / 4) + s.val, Pipeline.run_point_lt_of_flush t hf s⟩ k = ⟨s.val * 2048 + k.val, hl⟩ := by
    refine Fin.ext ?_
    show 2048 * (4 * (t.val / 4) + s.val) + k.val = s.val * 2048 + k.val
    omega
  rw [e]
  rfl

theorem final2 : (dats m 0 c).arrAt 2 (cfgs 0).N = val_main_v4 (F := Ideal) (x0 m c) (x1 m c) := by
  refine (dats m 0 c).arrAt_eq_of_covers 2 _ (by decide +kernel) fun t hf y => ?_
  blk_simp
  rw [after0_2]
  idx_vars y
  have e : ((View.whole main_v2_0).slice (win0_2.rect t)).emb (ix3 y0 y1 y2) = ix3 y0 y1 y2 := by
    blk_ext [idx t]
  rw [e, ref4]
  exact total m c t ((flush0_2 t).mp hf) y0 y1 y2

theorem final3 : (dats m 0 c).arrAt 3 (cfgs 0).N = val_main_v6 (F := Ideal) (x0 m c) (x1 m c) := by
  refine (dats m 0 c).arrAt_eq_of_covers 3 _ (by decide +kernel) fun t hf y => ?_
  blk_simp
  rw [after0_3]
  idx_vars y
  have e : ((View.whole main_v2_1).slice (win0_3.rect t)).emb (ix3 y0 y1 y2) = ix3 y0 y1 y2 := by
    blk_ext [idx t]
  rw [e, ref6]
  exact (congrFun (outs_C m c t ((flush0_3 t).mp hf)) _).trans (total m c t ((flush0_3 t).mp hf) y0 y1 y2)

/-- The reference leaves its arguments as they were; it has no semaphores. -/
theorem frameRef : Cert.quiescent_Reference3Ideal (hReference3Ideal := Cert.Reference3Ideal.Gen.facts) := fun m ρ _ =>
  (θ_run (Cert.Reference3Ideal.defs (F := Ideal)) _ _).mono
    (fun r h => ⟨fun c => (h c).2.2, sem_eq_zero_of_no_sems (by decide) r.2⟩)
    (Cert.Reference3Ideal.Value.run (F := Ideal) m ρ)

/-- The two programs' results are equal. -/
theorem algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    · exact (val_main_v4_eq _ _).trans (final2 m c).symm
    · exact (val_main_v6_eq _ _).trans (final3 m c).symm

end Cert.WGrad

end
-- ==== Proof.Up.lean ====
/- The MLP's first product with its rectifier: the grid's tiles of the rectified hidden layer and of its square are the
   reference's. -/
module

public import proofs.«01_k».proof.Defs
public import proofs.«01_k».proof.Proof.Scalars
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

namespace Cert.Up

open Idealize.ShloMosaic Idealize.ShloMosaic.TcCoe Idealize.SL.Sem
open Cert.Kernel4Ideal Cert.Kernel4Ideal.Gen Cert.Reference4Ideal.Read
open scoped BigOperators

/-- One entry of a tile: the row against the weight's column, rectified. -/
theorem pay1 (b0 : FVec Ideal S1024x1024 .bf16) (b1 : FVec Ideal S1024x2048 .bf16) (r : Fin 1024) (l : Fin 2048) :
    k0_pay1 (F := Ideal) b0 b1 (ix2 r l) = max (∑ k : Fin 1024, b0 (ix2 r k) * b1 (ix2 k l)) 0 := by
  pointwise [k0_pay1]

theorem pay2 (b0 : FVec Ideal S1024x1024 .bf16) (b1 : FVec Ideal S1024x2048 .bf16) (r : Fin 1024) (l : Fin 2048) :
    k0_pay2 (F := Ideal) b0 b1 (ix2 r l) = max (∑ k : Fin 1024, b0 (ix2 r k) * b1 (ix2 k l)) 0 := by
  pointwise [k0_pay2, k0_pay1]

theorem pay3 (b0 : FVec Ideal S1024x1024 .bf16) (b1 : FVec Ideal S1024x2048 .bf16) (r : Fin 1024) (l : Fin 2048) :
    k0_pay3 (F := Ideal) b0 b1 (ix2 r l) = max (∑ k : Fin 1024, b0 (ix2 r k) * b1 (ix2 k l)) 0
      * max (∑ k : Fin 1024, b0 (ix2 r k) * b1 (ix2 k l)) 0 := by
  pointwise [k0_pay3, k0_pay1]

variable (m : (ℓ : Loc nD τ sig) → Buf (Elt Ideal) ℓ) (c : Dev nD)

/-- The arguments as launched: the MLP's input and its first weight. -/
def x0 : FVec Ideal S8192x1024 .f32 := m ((c : Thread nD τ).loc main_arg0)
def x1 : FVec Ideal S1024x4096 .f32 := m ((c : Thread nD τ).loc main_arg1)

/-- The block maps: the tile of grid point `t` is row block `t % 8` and column block `t / 8`. -/
theorem idx : ∀ t : Fin cfg0.N, win0_0.index t = ![t.val % 8, 0] ∧ win0_1.index t = ![0, t.val / 8]
    ∧ win0_2.index t = ![t.val % 8, t.val / 8] ∧ win0_3.index t = ![t.val % 8, t.val / 8] :=
  (by decide +kernel : ∀ t : Fin grid0.N, _)

variable (t : Fin cfg0.N)

theorem t_lt : t.val < 16 := lt_of_lt_of_eq t.isLt N_0

def row (r : Fin 1024) : Fin 8192 := ⟨1024 * (t.val % 8) + r.val, by omega⟩
def col (l : Fin 2048) : Fin 4096 := ⟨2048 * (t.val / 8) + l.val, by have := t_lt t; omega⟩

theorem at0 (r k : Fin 1024) :
    (show FVec Ideal S1024x1024 .bf16 from iblk m c 0 t) (ix2 r k) = x0 m c (ix2 (row t r) k) := by
  unfold row x0
  blk_simp [iblk, idx t]
  entry_read
  pointwise
  blk_ext [idx t]

theorem at1 (k : Fin 1024) (l : Fin 2048) :
    (show FVec Ideal S1024x2048 .bf16 from iblk m c 1 t) (ix2 k l) = x1 m c (ix2 k (col t l)) := by
  unfold col x1
  blk_simp [iblk, idx t]
  entry_read
  pointwise
  blk_ext [idx t]

/-- The tile's product is the reference's. -/
theorem tile (r : Fin 1024) (l : Fin 2048) :
    max (∑ k : Fin 1024, (show FVec Ideal S1024x1024 .bf16 from iblk m c 0 t) (ix2 r k) * (show FVec Ideal S1024x2048 .bf16 from iblk m c 1 t) (ix2 k l)) 0
      = max (∑ k : Fin 1024, x0 m c (ix2 (row t r) k) * x1 m c (ix2 k (col t l))) (0 : EReal) :=
  congrArg (max · (0 : EReal)) (Finset.sum_congr rfl fun k _ => congrArg₂ (· * ·) (at0 m c t r k) (at1 m c t k l))

/-- The reference's rectified hidden layer at an entry. -/
theorem ref2 (a : Fin 8192) (b : Fin 4096) : val_main_v2 (F := Ideal) (x0 m c) (x1 m c) (ix2 a b)
    = max (∑ k : Fin 1024, x0 m c (ix2 a k) * x1 m c (ix2 k b)) 0 := by
  pointwise [val_main_v2, val_main_v1, val_main_v0, val_main_call0_v0, val_main_call0_cst]

/-- Its square at an entry. -/
theorem ref4 (a : Fin 8192) (b : Fin 4096) : val_main_v4 (F := Ideal) (x0 m c) (x1 m c) (ix2 a b)
    = max (∑ k : Fin 1024, x0 m c (ix2 a k) * x1 m c (ix2 k b)) 0
      * max (∑ k : Fin 1024, x0 m c (ix2 a k) * x1 m c (ix2 k b)) 0 := by
  pointwise [val_main_v4, val_main_v3, val_main_v1, val_main_v0, val_main_call0_v0, val_main_call0_cst]

theorem final2 : (dats m 0 c).arrAt 2 (cfgs 0).N = val_main_v2 (F := Ideal) (x0 m c) (x1 m c) := by
  refine (dats m 0 c).arrAt_eq_of_covers 2 _ (by decide +kernel) fun t _ y => ?_
  blk_simp
  rw [after0_2]
  idx_vars y
  refine Eq.trans (b := k0_pay2 (F := Ideal) (iblk m c 0 t) (iblk m c 1 t) (ix2 y0 y1)) ?_ ?_
  · frame_out
  have e : ((View.whole main_v2_0).slice (win0_2.rect t)).emb (ix2 y0 y1) = ix2 (row t y0) (col t y1) := by
    unfold row col
    blk_ext [idx t]
  rw [e, ref2, pay2]
  exact tile m c t y0 y1

theorem final3 : (dats m 0 c).arrAt 3 (cfgs 0).N = val_main_v4 (F := Ideal) (x0 m c) (x1 m c) := by
  refine (dats m 0 c).arrAt_eq_of_covers 3 _ (by decide +kernel) fun t _ y => ?_
  blk_simp
  rw [after0_3]
  idx_vars y
  refine Eq.trans (b := k0_pay3 (F := Ideal) (iblk m c 0 t) (iblk m c 1 t) (ix2 y0 y1)) ?_ ?_
  · frame_out
  have e : ((View.whole main_v2_1).slice (win0_3.rect t)).emb (ix2 y0 y1) = ix2 (row t y0) (col t y1) := by
    unfold row col
    blk_ext [idx t]
  rw [e, ref4, pay3]
  exact congrArg₂ (· * ·) (tile m c t y0 y1) (tile m c t y0 y1)

/-- The reference leaves its arguments as they were; it has no semaphores. -/
theorem frameRef : Cert.quiescent_Reference4Ideal (hReference4Ideal := Cert.Reference4Ideal.Gen.facts) := fun m ρ _ =>
  (θ_run (Cert.Reference4Ideal.defs (F := Ideal)) _ _).mono
    (fun r h => ⟨fun c => (h c).2.2, sem_eq_zero_of_no_sems (by decide) r.2⟩)
    (Cert.Reference4Ideal.Value.run (F := Ideal) m ρ)

/-- The two programs' results are equal. -/
theorem algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    · exact (val_main_v2_eq _ _).trans (final2 m c).symm
    · exact (val_main_v4_eq _ _).trans (final3 m c).symm

end Cert.Up

end
-- ==== Proof.LossRef.lean ====
/- The MLP's second product, the last norm and the loss's gradient: what the reference computes and what one point of the
   kernel's grid computes, entry by entry. -/
module

public import proofs.«01_k».proof.Proof.Norm
public import proofs.«01_k».proof.Proof.Gen.Kernel5Ideal.Skeleton
public import proofs.«01_k».proof.Proof.Gen.Reference5Ideal.Read
public import Idealize.ShloMosaic.Lib.Pointwise

@[expose] public section

set_option maxRecDepth 16384

noncomputable section

namespace Cert.Loss

open Idealize.ShloMosaic
open Cert.Merge (mean cen vare scl xhat gradK gradR thru len w_len w_eps w_two w_half w_neg_half eps)
open scoped BigOperators

/-- The residual's factor. -/
def alpha : EReal := Ideal.ofBits .f32 0x3F9837F0#32

/-- One over the row length. -/
abbrev rlen : EReal := ((1 / 1024 : ℝ) : EReal)

/-- The word of one over the row length. -/
theorem w_rlen : Ideal.ofBits .f32 0x3A800000#32 = rlen := by
  simp [Ideal.ofBits, Ideal.ieee, -EReal.coe_mul]; norm_num

/-- Half the derivative of the square, over the row length, is the difference over the row length. -/
theorem half_twice (d : EReal) : Ideal.div ((1 / 2 : ℝ) : EReal) len * (((2 : ℝ) : EReal) * d) = d * rlen := by
  rw [Cert.Merge.div_len_coe, ← mul_assoc, ← EReal.coe_mul, mul_comm]
  norm_num

/-- The normalised row is finite, whatever the row. -/
theorem xhat_real (x : Fin 1024 → EReal) (l : Fin 1024) : ∃ r : ℝ, xhat x l = r := by
  by_cases hx : ∀ l, ∃ r : ℝ, x l = r
  · choose y hy using hx
    have hm : mean x = ((∑ k, y k) / 1024 : ℝ) := by
      rw [mean, Finset.sum_congr rfl fun k _ => hy k, Cert.Merge.sum_coe, Cert.Merge.div_len_coe]
    obtain ⟨c, hc⟩ : ∃ c : Fin 1024 → ℝ, c = fun k => y k - (∑ k, y k) / 1024 := ⟨_, rfl⟩
    have hcen : ∀ k, cen x k = (c k : EReal) := fun k => by rw [cen, hm, hy, hc, EReal.coe_sub]
    have hv : vare x = (((∑ k, c k * c k) / 1024 + eps : ℝ) : EReal) := by
      rw [vare, Cert.Merge.sum_of_coe _ (fun k => c k * c k) fun k => by rw [hcen k, ← EReal.coe_mul], Cert.Merge.div_len_coe, ← EReal.coe_add]
    have hw0 : 0 < (∑ k, c k * c k) / 1024 + eps :=
      add_pos_of_nonneg_of_pos (div_nonneg (Finset.sum_nonneg fun k _ => mul_self_nonneg _) (by norm_num)) Cert.Merge.eps_pos
    exact ⟨_, by rw [xhat, hcen, scl, hv, Ideal.rsqrt_coe, if_neg (not_lt.mpr hw0.le), if_neg hw0.ne', ← EReal.coe_mul]⟩
  · exact ⟨0, by rw [xhat, Cert.Merge.scl_zero x hx, mul_zero, EReal.coe_zero]⟩

/-- The norm's output less the target. -/
def diff (x g b t : Fin 1024 → EReal) (l : Fin 1024) : EReal := xhat x l * g l + b l - t l

/-- The gradient of the norm's output. -/
def dout (x g b t : Fin 1024 → EReal) (l : Fin 1024) : EReal := diff x g b t l * rlen

/-- The gradient of the normalised row is finite where the scale, the shift and the target are. -/
theorem din_real (x g b t : Fin 1024 → EReal) (hg : ∀ l, ∃ r : ℝ, g l = r) (hb : ∀ l, ∃ r : ℝ, b l = r) (ht : ∀ l, ∃ r : ℝ, t l = r)
    (l : Fin 1024) : ∃ r : ℝ, dout x g b t l * g l = r := by
  obtain ⟨a, ha⟩ := xhat_real x l
  obtain ⟨p, hp⟩ := hg l
  obtain ⟨q, hq⟩ := hb l
  obtain ⟨s, hs⟩ := ht l
  exact ⟨(a * p + q - s) * (1 / 1024) * p, by rw [dout, diff, ha, hp, hq, hs]; push_cast; rfl⟩

/-! ## The reference -/

namespace Ref

open Cert.Reference5Ideal Cert.Reference5Ideal.Read

variable (x0 : FVec Ideal S8192x4096 .f32) (x1 : FVec Ideal S4096x1024 .f32) (x2 x3 : FVec Ideal S8192x1024 .f32)
variable (x4 x5 x6 x7 : FVec Ideal S1024 .f32)

/-- The rows before the norm. -/
def zrow (a : Fin 8192) (b : Fin 1024) : EReal :=
  alpha * (x2 (ix2 a b) * x4 (ix1 b) + x5 (ix1 b)) + ∑ k : Fin 4096, x0 (ix2 a k) * x1 (ix2 k b)

/-- The norm's output less the target. -/
def rdiff (a : Fin 8192) (b : Fin 1024) : EReal :=
  diff (zrow x0 x1 x2 x4 x5 a) (fun l => x6 (ix1 l)) (fun l => x7 (ix1 l)) (fun l => x3 (ix2 a l)) b

/-- The gradient of the norm's output. -/
def rdout (a : Fin 8192) (b : Fin 1024) : EReal :=
  dout (zrow x0 x1 x2 x4 x5 a) (fun l => x6 (ix1 l)) (fun l => x7 (ix1 l)) (fun l => x3 (ix2 a l)) b

theorem v9 (a : Fin 8192) (b : Fin 1024) : val_main_v9 (F := Ideal) x0 x1 x2 x4 x5 (ix2 a b) = zrow x0 x1 x2 x4 x5 a b := by
  pointwise [val_main_v9, val_main_v8, val_main_v7, val_main_v6, val_main_cst, val_main_v5, val_main_v4, val_main_v3, val_main_v2, val_main_v1, val_main_v0]
  rfl

theorem v13 (a : Fin 8192) : val_main_v13 (F := Ideal) x0 x1 x2 x4 x5 (ix2 a 0) = mean (zrow x0 x1 x2 x4 x5 a) := by
  pointwise [val_main_v13, val_main_v12, val_main_cst_1, val_main_v11, val_main_v10, val_main_cst_0, w_len]
  simp only [v9]
  rfl

theorem v15 (a : Fin 8192) (b : Fin 1024) : val_main_v15 (F := Ideal) x0 x1 x2 x4 x5 (ix2 a b) = cen (zrow x0 x1 x2 x4 x5 a) b := by
  pointwise [val_main_v15, val_main_v14]
  rw [v9, v13]
  rfl

theorem v24 (a : Fin 8192) (b : Fin 1024) : val_main_v24 (F := Ideal) x0 x1 x2 x4 x5 (ix2 a b) = cen (zrow x0 x1 x2 x4 x5 a) b := by
  pointwise [val_main_v24, val_main_v23]
  rw [v9, v13]
  rfl

theorem v26 (a : Fin 8192) : val_main_v26 (F := Ideal) x0 x1 x2 x4 x5 (ix2 a 0) = vare (zrow x0 x1 x2 x4 x5 a) := by
  pointwise [val_main_v26, val_main_v25, val_main_cst_5, val_main_v22, val_main_v21, val_main_cst_4, val_main_v20, val_main_v19,
    val_main_cst_3, val_main_v16, w_len, w_eps]
  simp only [v15]
  rfl

theorem v27 (a : Fin 8192) : val_main_v27 (F := Ideal) x0 x1 x2 x4 x5 (ix2 a 0) = scl (zrow x0 x1 x2 x4 x5 a) := by
  pointwise [val_main_v27]
  rw [v26]
  rfl

theorem v32 (a : Fin 8192) (b : Fin 1024) : val_main_v32 (F := Ideal) x0 x1 x2 x4 x5 (ix2 a b) = xhat (zrow x0 x1 x2 x4 x5 a) b := by
  pointwise [val_main_v32, val_main_v31]
  rw [v24, v27]
  rfl

theorem v39 (a : Fin 8192) (b : Fin 1024) :
    val_main_v39 (F := Ideal) x0 x1 x2 x3 x4 x5 x6 x7 (ix2 a b) = rdiff x0 x1 x2 x3 x4 x5 x6 x7 a b := by
  pointwise [val_main_v39, val_main_v38, val_main_v37, val_main_v36, val_main_v35, val_main_v34, val_main_v33]
  rw [v32]
  rfl

theorem v53 (a : Fin 8192) (b : Fin 1024) :
    val_main_v53 (F := Ideal) x0 x1 x2 x3 x4 x5 x6 x7 (ix2 a b) = rdout x0 x1 x2 x3 x4 x5 x6 x7 a b := by
  pointwise [val_main_v53, val_main_v52, val_main_v51, val_main_v50, val_main_cst_14, val_main_v49, val_main_v48, val_main_cst_12,
    val_main_cst_13, val_main_v42, val_main_v41, val_main_cst_7, w_len, w_half, w_two]
  rw [v39]
  exact half_twice _

theorem v61 (a : Fin 8192) (b : Fin 1024) :
    val_main_v61 (F := Ideal) x0 x1 x2 x3 x4 x5 x6 x7 (ix2 a b) = rdout x0 x1 x2 x3 x4 x5 x6 x7 a b * x6 (ix1 b) := by
  pointwise [val_main_v61, val_main_v60, val_main_v33]
  rw [v53]

/-- The gradient of the row through its scale. -/
theorem v76 (a : Fin 8192) (b : Fin 1024) :
    val_main_v76 (F := Ideal) x0 x1 x2 x3 x4 x5 x6 x7 (ix2 a b)
      = thru (zrow x0 x1 x2 x4 x5 a) (fun k => rdout x0 x1 x2 x3 x4 x5 x6 x7 a k * x6 (ix1 k)) b := by
  pointwise [val_main_v76, val_main_v75, val_main_v74, val_main_cst_22, val_main_v73, val_main_v72, val_main_cst_21, val_main_v68,
    val_main_v65, val_main_v64, val_main_cst_19, val_main_v63, val_main_v30, val_main_v29, val_main_cst_6, val_main_v28,
    val_main_v18, val_main_v17, val_main_cst_2, w_len, w_neg_half, w_two]
  simp only [Fin.sum_univ_one, v15, v24, v26, v27, v61]
  rfl

/-- The gradient of the row: directly, through the scale and through the mean. -/
theorem v86 (a : Fin 8192) (b : Fin 1024) :
    val_main_v86 (F := Ideal) x0 x1 x2 x3 x4 x5 x6 x7 (ix2 a b)
      = gradR (zrow x0 x1 x2 x4 x5 a) (fun k => rdout x0 x1 x2 x3 x4 x5 x6 x7 a k * x6 (ix1 k)) b := by
  pointwise [val_main_v86, val_main_v85, val_main_v84, val_main_cst_25, val_main_v83, val_main_v82, val_main_cst_24,
    val_main_v81, val_main_v80, val_main_v79, val_main_v78, val_main_cst_23, val_main_v77, val_main_v71, val_main_v70,
    val_main_cst_20, val_main_v69, val_main_v67, val_main_v66, w_len]
  simp only [Fin.sum_univ_one, v27, v76, v61]
  rfl

theorem v115 (a : Fin 8192) (b : Fin 1024) :
    val_main_v115 (F := Ideal) x0 x1 x2 x3 x4 x5 x6 x7 (ix2 a b)
      = gradR (zrow x0 x1 x2 x4 x5 a) (fun k => rdout x0 x1 x2 x3 x4 x5 x6 x7 a k * x6 (ix1 k)) b := by
  pointwise [val_main_v115]
  exact v86 x0 x1 x2 x3 x4 x5 x6 x7 a b

/-! The squares' columns are summed over a second copy of the norm. -/

theorem v90 (a : Fin 8192) : val_main_v90 (F := Ideal) x0 x1 x2 x4 x5 (ix2 a 0) = mean (zrow x0 x1 x2 x4 x5 a) := by
  pointwise [val_main_v90, val_main_v89, val_main_cst_27, val_main_v88, val_main_v87, val_main_cst_26, w_len]
  simp only [v9]
  rfl

theorem v92 (a : Fin 8192) (b : Fin 1024) : val_main_v92 (F := Ideal) x0 x1 x2 x4 x5 (ix2 a b) = cen (zrow x0 x1 x2 x4 x5 a) b := by
  pointwise [val_main_v92, val_main_v91]
  rw [v9, v90]
  rfl

theorem v99 (a : Fin 8192) (b : Fin 1024) : val_main_v99 (F := Ideal) x0 x1 x2 x4 x5 (ix2 a b) = cen (zrow x0 x1 x2 x4 x5 a) b := by
  pointwise [val_main_v99, val_main_v98]
  rw [v9, v90]
  rfl

theorem v102 (a : Fin 8192) : val_main_v102 (F := Ideal) x0 x1 x2 x4 x5 (ix2 a 0) = scl (zrow x0 x1 x2 x4 x5 a) := by
  pointwise [val_main_v102, val_main_v101, val_main_v100, val_main_cst_30, val_main_v97, val_main_v96, val_main_cst_29, val_main_v95,
    val_main_v94, val_main_cst_28, val_main_v93, w_len, w_eps]
  simp only [v92]
  rfl

theorem v111 (a : Fin 8192) (b : Fin 1024) :
    val_main_v111 (F := Ideal) x0 x1 x2 x3 x4 x5 x6 x7 (ix2 a b) = rdiff x0 x1 x2 x3 x4 x5 x6 x7 a b := by
  pointwise [val_main_v111, val_main_v110, val_main_v109, val_main_v108, val_main_v107, val_main_v106, val_main_v105, val_main_v104, val_main_v103]
  rw [v99, v102]
  rfl

/-! The three column sums. -/

theorem v56 (l : Fin 1024) : val_main_v56 (F := Ideal) x0 x1 x2 x3 x4 x5 x6 x7 (ix1 l)
    = ∑ i : Fin 8192, rdout x0 x1 x2 x3 x4 x5 x6 x7 i l := by
  rw [val_main_v56_apply]
  simp only [val_main_v55_apply, val_main_v54_apply, Fin.sum_univ_one]
  pointwise [val_main_cst_15, val_main_cst_16]
  refine Finset.sum_congr rfl fun i _ => ?_
  have e : idx_main_v54 (idx_main_v55 (idx_main_v56 (ix1 l) 0)) i = ix2 i l :=
    funext fun d => Fin.ext (by match d with | ⟨0, _⟩ => rfl | ⟨1, _⟩ => simp)
  rw [e, v53]

theorem v62 (l : Fin 1024) : val_main_v62 (F := Ideal) x0 x1 x2 x3 x4 x5 x6 x7 (ix1 l)
    = ∑ i : Fin 8192, rdout x0 x1 x2 x3 x4 x5 x6 x7 i l * xhat (zrow x0 x1 x2 x4 x5 i) l := by
  rw [val_main_v62_apply]
  simp only [val_main_v59_apply, val_main_v58_apply, Fin.sum_univ_one]
  pointwise [val_main_cst_17, val_main_cst_18, val_main_v57]
  refine Finset.sum_congr rfl fun i _ => ?_
  have e : idx_main_v58 (idx_main_v59 (idx_main_v62 (ix1 l) 0)) i = ix2 i l :=
    funext fun d => Fin.ext (by match d with | ⟨0, _⟩ => rfl | ⟨1, _⟩ => simp)
  rw [e, v53, v32, mul_comm]

theorem v113 (l : Fin 1024) : val_main_v113 (F := Ideal) x0 x1 x2 x3 x4 x5 x6 x7 (ix1 l)
    = ∑ i : Fin 8192, rdiff x0 x1 x2 x3 x4 x5 x6 x7 i l * rdiff x0 x1 x2 x3 x4 x5 x6 x7 i l := by
  pointwise [val_main_v113, val_main_cst_31, val_main_v112]
  simp only [v111]

/-- The joined rows: the norm's scale, its shift, the squares, and zeros. -/
theorem v124 (a : Fin 8) (l : Fin 1024) : val_main_v124 (F := Ideal) x0 x1 x2 x3 x4 x5 x6 x7 (ix2 a l)
    = if a.val = 2 then ∑ i : Fin 8192, rdiff x0 x1 x2 x3 x4 x5 x6 x7 i l * rdiff x0 x1 x2 x3 x4 x5 x6 x7 i l
      else if a.val = 1 then ∑ i : Fin 8192, rdout x0 x1 x2 x3 x4 x5 x6 x7 i l
      else if a.val = 0 then ∑ i : Fin 8192, rdout x0 x1 x2 x3 x4 x5 x6 x7 i l * xhat (zrow x0 x1 x2 x4 x5 i) l
      else 0 := by
  rw [← v56, ← v62, ← v113]
  unfold val_main_v124 val_main_v116 val_main_v117 val_main_v118
  generalize val_main_v56 (F := Ideal) x0 x1 x2 x3 x4 x5 x6 x7 = p
  generalize val_main_v62 (F := Ideal) x0 x1 x2 x3 x4 x5 x6 x7 = q
  generalize val_main_v113 (F := Ideal) x0 x1 x2 x3 x4 x5 x6 x7 = s
  pointwise [val_main_v119, val_main_v120, val_main_v121, val_main_v122, val_main_v123, val_main_v114, val_main_cst_32]
  fin_cases a <;> simp

end Ref

/-! ## One point of the grid -/

namespace Pay

open Cert.Kernel5Ideal Cert.Kernel5Ideal.Gen

variable (b0 : FVec Ideal S512x4096 .bf16) (b1 : FVec Ideal S4096x1024 .bf16) (b2 b3 : FVec Ideal S512x1024 .f32)
variable (g1 s1 g2 s2 : FVec Ideal S1x1024 .f32)

/-- The rows before the norm. -/
def zrow (r : Fin 512) (l : Fin 1024) : EReal :=
  alpha * (b2 (ix2 r l) * g1 (ix2 0 l) + s1 (ix2 0 l)) + ∑ k : Fin 4096, b0 (ix2 r k) * b1 (ix2 k l)

theorem pay3 (r : Fin 512) (l : Fin 1024) : k0_pay3 (F := Ideal) b0 b1 b2 g1 s1 (ix2 r l) = cen (zrow b0 b1 b2 g1 s1 r) l := by
  pointwise [k0_pay3, w_len]
  rfl

theorem pay4 (r : Fin 512) : k0_pay4 (F := Ideal) b0 b1 b2 g1 s1 (ix2 r 0) = scl (zrow b0 b1 b2 g1 s1 r) := by
  pointwise [k0_pay4, w_len, w_eps]
  simp only [pay3]
  rfl

theorem pay5 (r : Fin 512) (l : Fin 1024) : k0_pay5 (F := Ideal) b0 b1 b2 g1 s1 (ix2 r l) = xhat (zrow b0 b1 b2 g1 s1 r) l := by
  pointwise [k0_pay5]
  rw [pay3, pay4]
  rfl

/-- The norm's output less the target. -/
def rdiff (r : Fin 512) (l : Fin 1024) : EReal :=
  diff (zrow b0 b1 b2 g1 s1 r) (fun l => g2 (ix2 0 l)) (fun l => s2 (ix2 0 l)) (fun l => b3 (ix2 r l)) l

/-- The gradient of the norm's output. -/
def rdout (r : Fin 512) (l : Fin 1024) : EReal :=
  dout (zrow b0 b1 b2 g1 s1 r) (fun l => g2 (ix2 0 l)) (fun l => s2 (ix2 0 l)) (fun l => b3 (ix2 r l)) l

theorem pay7 (r : Fin 512) (l : Fin 1024) :
    k0_pay7 (F := Ideal) (k0_pay5 b0 b1 b2 g1 s1) g2 s2 b3 (ix2 r l) = rdiff b0 b1 b2 b3 g1 s1 g2 s2 r l := by
  have h := pay5 b0 b1 b2 g1 s1
  generalize k0_pay5 (F := Ideal) b0 b1 b2 g1 s1 = A at h ⊢
  pointwise [k0_pay7, k0_pay6]
  rw [h]
  rfl

theorem pay8 (r : Fin 512) (l : Fin 1024) :
    k0_pay8 (F := Ideal) (k0_pay5 b0 b1 b2 g1 s1) g2 s2 b3 (ix2 r l) = rdout b0 b1 b2 b3 g1 s1 g2 s2 r l := by
  have h := pay7 b0 b1 b2 b3 g1 s1 g2 s2
  generalize k0_pay5 (F := Ideal) b0 b1 b2 g1 s1 = A at h ⊢
  pointwise [k0_pay8, w_rlen]
  rw [h]
  rfl

theorem pay12 (r : Fin 512) (l : Fin 1024) :
    k0_pay12 (F := Ideal) (k0_pay5 b0 b1 b2 g1 s1) g2 s2 b3 (ix2 r l) = rdout b0 b1 b2 b3 g1 s1 g2 s2 r l * g2 (ix2 0 l) := by
  have h := pay8 b0 b1 b2 b3 g1 s1 g2 s2
  generalize k0_pay5 (F := Ideal) b0 b1 b2 g1 s1 = A at h ⊢
  pointwise [k0_pay12, k0_pay6]
  rw [h]

theorem pay13 (r : Fin 512) :
    k0_pay13 (F := Ideal) (k0_pay5 b0 b1 b2 g1 s1) g2 s2 b3 (ix2 r 0) = ∑ k : Fin 1024, rdout b0 b1 b2 b3 g1 s1 g2 s2 r k * g2 (ix2 0 k) := by
  have h := pay12 b0 b1 b2 b3 g1 s1 g2 s2
  generalize k0_pay5 (F := Ideal) b0 b1 b2 g1 s1 = A at h ⊢
  pointwise [k0_pay13]
  simp only [h]

/-- The row length, as the kernel writes it. -/
abbrev wlen : Ideal .f32 := Ideal.ofBits .f32 0x44800000#32

/-- The gradient of the rows before the norm. -/
theorem pay1 (r : Fin 512) (l : Fin 1024) :
    k0_pay1 (F := Ideal) (k0_pay4 b0 b1 b2 g1 s1) (k0_pay5 b0 b1 b2 g1 s1) (k0_pay12 (k0_pay5 b0 b1 b2 g1 s1) g2 s2 b3)
        (k0_pay13 (k0_pay5 b0 b1 b2 g1 s1) g2 s2 b3) wlen (ix2 r l)
      = gradK (zrow b0 b1 b2 g1 s1 r) (fun k => rdout b0 b1 b2 b3 g1 s1 g2 s2 r k * g2 (ix2 0 k)) l := by
  have h4 := pay4 b0 b1 b2 g1 s1
  have h5 := pay5 b0 b1 b2 g1 s1
  have h12 := pay12 b0 b1 b2 b3 g1 s1 g2 s2
  have h13 := pay13 b0 b1 b2 b3 g1 s1 g2 s2
  generalize k0_pay12 (F := Ideal) (k0_pay5 b0 b1 b2 g1 s1) g2 s2 b3 = A at h12 ⊢
  generalize k0_pay13 (F := Ideal) (k0_pay5 b0 b1 b2 g1 s1) g2 s2 b3 = B at h13 ⊢
  generalize k0_pay5 (F := Ideal) b0 b1 b2 g1 s1 = C at h5 ⊢
  generalize k0_pay4 (F := Ideal) b0 b1 b2 g1 s1 = E at h4 ⊢
  pointwise [k0_pay1, w_len]
  simp only [h4, h5, h12, h13]
  rfl

/-- What the point adds to the three rows. -/
theorem pay9 (o : FVec Ideal S1x1024 .f32) (l : Fin 1024) :
    k0_pay9 (F := Ideal) (k0_pay5 b0 b1 b2 g1 s1) g2 s2 b3 o (ix2 0 l)
      = o (ix2 0 l) + ∑ r : Fin 512, rdout b0 b1 b2 b3 g1 s1 g2 s2 r l * xhat (zrow b0 b1 b2 g1 s1 r) l := by
  have h5 := pay5 b0 b1 b2 g1 s1
  have h8 := pay8 b0 b1 b2 b3 g1 s1 g2 s2
  unfold k0_pay9
  generalize k0_pay8 (F := Ideal) (k0_pay5 b0 b1 b2 g1 s1) g2 s2 b3 = A at h8 ⊢
  generalize k0_pay5 (F := Ideal) b0 b1 b2 g1 s1 = C at h5 ⊢
  pointwise
  simp only [h5, h8]

theorem pay10 (o : FVec Ideal S1x1024 .f32) (l : Fin 1024) :
    k0_pay10 (F := Ideal) (k0_pay5 b0 b1 b2 g1 s1) g2 s2 b3 o (ix2 0 l)
      = o (ix2 0 l) + ∑ r : Fin 512, rdout b0 b1 b2 b3 g1 s1 g2 s2 r l := by
  have h8 := pay8 b0 b1 b2 b3 g1 s1 g2 s2
  unfold k0_pay10
  generalize k0_pay8 (F := Ideal) (k0_pay5 b0 b1 b2 g1 s1) g2 s2 b3 = A at h8 ⊢
  pointwise
  simp only [h8]

theorem pay11 (o : FVec Ideal S1x1024 .f32) (l : Fin 1024) :
    k0_pay11 (F := Ideal) (k0_pay5 b0 b1 b2 g1 s1) g2 s2 b3 o (ix2 0 l)
      = o (ix2 0 l) + ∑ r : Fin 512, rdiff b0 b1 b2 b3 g1 s1 g2 s2 r l * rdiff b0 b1 b2 b3 g1 s1 g2 s2 r l := by
  have h7 := pay7 b0 b1 b2 b3 g1 s1 g2 s2
  unfold k0_pay11
  generalize k0_pay7 (F := Ideal) (k0_pay5 b0 b1 b2 g1 s1) g2 s2 b3 = A at h7 ⊢
  pointwise
  simp only [h7]

end Pay

end Cert.Loss

end
-- ==== Proof.Loss.lean ====
/- The MLP's second product, the last norm and the loss's gradient: the grid's rows and its column sums are the reference's. -/
module

public import proofs.«01_k».proof.Defs
public import proofs.«01_k».proof.Proof.LossRef
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.Loss

open Idealize.ShloMosaic Idealize.ShloMosaic.TcCoe Idealize.SL.Sem
open Cert.Kernel5Ideal Cert.Kernel5Ideal.Gen Cert.Reference5Ideal.Read
open Cert.Merge (xhat scl gradK gradR)
open scoped BigOperators

variable (m : (ℓ : Loc nD τ sig) → Buf (Elt Ideal) ℓ) (c : Dev nD)

/-- The arguments as launched. -/
def x0 : FVec Ideal S8192x4096 .f32 := m ((c : Thread nD τ).loc main_arg0)
def x1 : FVec Ideal S4096x1024 .f32 := m ((c : Thread nD τ).loc main_arg1)
def x2 : FVec Ideal S8192x1024 .f32 := m ((c : Thread nD τ).loc main_arg2)
def x3 : FVec Ideal S8192x1024 .f32 := m ((c : Thread nD τ).loc main_arg3)
def x4 : FVec Ideal S1024 .f32 := m ((c : Thread nD τ).loc main_arg4)
def x5 : FVec Ideal S1024 .f32 := m ((c : Thread nD τ).loc main_arg5)
def x6 : FVec Ideal S1024 .f32 := m ((c : Thread nD τ).loc main_arg6)
def x7 : FVec Ideal S1024 .f32 := m ((c : Thread nD τ).loc main_arg7)

/-- The vectors' rows: the first norm's scale and shift are rows 3 and 4, the last norm's rows 5 and 6. -/
def vecs : FVec Ideal S8x1024 .f32 :=
  have z : FVec Ideal S1x1024 .f32 := broadcastInDim S1x1024 ![] bcast_S_S1x1024 (constant (F := Ideal) S_ .f32 0x00000000#32)
  concatenate S8x1024 0 [⟨S1x1024, z⟩, ⟨S1x1024, z⟩, ⟨S1x1024, z⟩,
    ⟨S1x1024, (broadcastInDim S1x1024 ![1] bcast_S1024_S1x1024_1 (x4 m c) : FVec Ideal S1x1024 .f32)⟩,
    ⟨S1x1024, (broadcastInDim S1x1024 ![1] bcast_S1024_S1x1024_1 (x5 m c) : FVec Ideal S1x1024 .f32)⟩,
    ⟨S1x1024, (broadcastInDim S1x1024 ![1] bcast_S1024_S1x1024_1 (x6 m c) : FVec Ideal S1x1024 .f32)⟩,
    ⟨S1x1024, (broadcastInDim S1x1024 ![1] bcast_S1024_S1x1024_1 (x7 m c) : FVec Ideal S1x1024 .f32)⟩,
    ⟨S1x1024, z⟩]
    concatenates_S1x1024_S1x1024_S1x1024_S1x1024_S1x1024_S1x1024_S1x1024_S1x1024_S8x1024_d0

theorem entry5 : (V m c main_v5 : FVec Ideal S8x1024 .f32) = vecs m c := by
  rfl

theorem vecs3 (k : Fin 1024) : vecs m c (ix2 3 k) = x4 m c (ix1 k) := by
  pointwise [vecs]

theorem vecs4 (k : Fin 1024) : vecs m c (ix2 4 k) = x5 m c (ix1 k) := by
  pointwise [vecs]

theorem vecs5 (k : Fin 1024) : vecs m c (ix2 5 k) = x6 m c (ix1 k) := by
  pointwise [vecs]

theorem vecs6 (k : Fin 1024) : vecs m c (ix2 6 k) = x7 m c (ix1 k) := by
  pointwise [vecs]

/-- The block maps: the row blocks follow the grid, the weight, the vectors and the column sums stay. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![0, 0] :=
  (by decide +kernel : ∀ t : Fin grid0.N, _)

variable (t : Fin cfg0.N)

/-- Grid point `t`'s rows. -/
def row (r : Fin 512) : Fin 8192 := ⟨512 * t.val + r.val, by have ht : t.val < 16 := lt_of_lt_of_eq t.isLt N_0; omega⟩

theorem at0 (r : Fin 512) (k : Fin 4096) :
    (show FVec Ideal S512x4096 .bf16 from iblk m c 0 t) (ix2 r k) = x0 m c (ix2 (row t r) k) := by
  unfold row x0
  blk_simp [iblk, idx t]
  entry_read
  pointwise
  blk_ext [idx t]

theorem at1 (k : Fin 4096) (l : Fin 1024) :
    (show FVec Ideal S4096x1024 .bf16 from iblk m c 1 t) (ix2 k l) = x1 m c (ix2 k l) := by
  unfold x1
  blk_simp [iblk, idx t]
  entry_read
  pointwise
  blk_ext [idx t]

theorem at2 (r : Fin 512) (k : Fin 1024) :
    (show FVec Ideal S512x1024 .f32 from iblk m c 2 t) (ix2 r k) = x2 m c (ix2 (row t r) k) := by
  unfold row x2
  blk_ext [iblk, V, idx t]

theorem at3 (r : Fin 512) (k : Fin 1024) :
    (show FVec Ideal S512x1024 .f32 from iblk m c 3 t) (ix2 r k) = x3 m c (ix2 (row t r) k) := by
  unfold row x3
  blk_ext [iblk, V, idx t]

theorem at4 (a : Fin 8) (k : Fin 1024) : (show FVec Ideal S8x1024 .f32 from iblk m c 4 t) (ix2 a k) = vecs m c (ix2 a k) := by
  rw [← entry5]
  blk_ext [iblk, idx t]

/-! The vectors' rows as the point reads them. -/

theorem row3 (k : Fin 1024) : (show FVec Ideal S1x1024 .f32 from View.ld (Val := Elt Ideal) (e' := .f32) (iblk m c 4 t) (Rect.unit ![3, 0] ![1, 1024] inb_S8x1024_S1x1024_3_0)) (ix2 0 k)
    = x4 m c (ix1 k) := by
  refine Eq.trans ?_ ((at4 m c t 3 k).trans (vecs3 m c k))
  show iblk m c 4 t _ = iblk m c 4 t _
  refine congrArg (iblk m c 4 t) (Rect.emb_eq_of_coords _ _ _ fun a => ?_)
  fin_cases a <;> simp

theorem row4 (k : Fin 1024) : (show FVec Ideal S1x1024 .f32 from View.ld (Val := Elt Ideal) (e' := .f32) (iblk m c 4 t) (Rect.unit ![4, 0] ![1, 1024] inb_S8x1024_S1x1024_4_0)) (ix2 0 k)
    = x5 m c (ix1 k) := by
  refine Eq.trans ?_ ((at4 m c t 4 k).trans (vecs4 m c k))
  show iblk m c 4 t _ = iblk m c 4 t _
  refine congrArg (iblk m c 4 t) (Rect.emb_eq_of_coords _ _ _ fun a => ?_)
  fin_cases a <;> simp

theorem row5 (k : Fin 1024) : (show FVec Ideal S1x1024 .f32 from View.ld (Val := Elt Ideal) (e' := .f32) (iblk m c 4 t) (Rect.unit ![5, 0] ![1, 1024] inb_S8x1024_S1x1024_5_0)) (ix2 0 k)
    = x6 m c (ix1 k) := by
  refine Eq.trans ?_ ((at4 m c t 5 k).trans (vecs5 m c k))
  show iblk m c 4 t _ = iblk m c 4 t _
  refine congrArg (iblk m c 4 t) (Rect.emb_eq_of_coords _ _ _ fun a => ?_)
  fin_cases a <;> simp

theorem row6 (k : Fin 1024) : (show FVec Ideal S1x1024 .f32 from View.ld (Val := Elt Ideal) (e' := .f32) (iblk m c 4 t) (Rect.unit ![6, 0] ![1, 1024] inb_S8x1024_S1x1024_6_0)) (ix2 0 k)
    = x7 m c (ix1 k) := by
  refine Eq.trans ?_ ((at4 m c t 6 k).trans (vecs6 m c k))
  show iblk m c 4 t _ = iblk m c 4 t _
  refine congrArg (iblk m c 4 t) (Rect.emb_eq_of_coords _ _ _ fun a => ?_)
  fin_cases a <;> simp

/-- The point's rows before the norm are the reference's, -/
theorem zrow_eq (r : Fin 512) : Pay.zrow (iblk m c 0 t) (iblk m c 1 t) (iblk m c 2 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0)) r
    = Ref.zrow (x0 m c) (x1 m c) (x2 m c) (x4 m c) (x5 m c) (row t r) :=
  funext fun l => congrArg₂ (· + ·)
    (congrArg (alpha * ·) (congrArg₂ (· + ·) (congrArg₂ (· * ·) (at2 m c t r l) (row3 m c t l)) (row4 m c t l)))
    (Finset.sum_congr rfl fun k _ => congrArg₂ (· * ·) (at0 m c t r k) (at1 m c t k l))

/-- and so are the differences -/
theorem rdiff_eq (r : Fin 512) (l : Fin 1024) : Pay.rdiff (iblk m c 0 t) (iblk m c 1 t) (iblk m c 2 t) (iblk m c 3 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0)) (View.ld (Val := Elt Ideal) (e' := .f32) (iblk m c 4 t) (Rect.unit ![5, 0] ![1, 1024] inb_S8x1024_S1x1024_5_0)) (View.ld (Val := Elt Ideal) (e' := .f32) (iblk m c 4 t) (Rect.unit ![6, 0] ![1, 1024] inb_S8x1024_S1x1024_6_0)) r l
    = Ref.rdiff (x0 m c) (x1 m c) (x2 m c) (x3 m c) (x4 m c) (x5 m c) (x6 m c) (x7 m c) (row t r) l :=
  congrArg₂ (· - ·) (congrArg₂ (· + ·) (congrArg₂ (· * ·) (congrArg (xhat · l) (zrow_eq m c t r)) (row5 m c t l)) (row6 m c t l)) (at3 m c t r l)

/-- and the gradient of the norm's output. -/
theorem rdout_eq (r : Fin 512) (l : Fin 1024) : Pay.rdout (iblk m c 0 t) (iblk m c 1 t) (iblk m c 2 t) (iblk m c 3 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0)) (View.ld (Val := Elt Ideal) (e' := .f32) (iblk m c 4 t) (Rect.unit ![5, 0] ![1, 1024] inb_S8x1024_S1x1024_5_0)) (View.ld (Val := Elt Ideal) (e' := .f32) (iblk m c 4 t) (Rect.unit ![6, 0] ![1, 1024] inb_S8x1024_S1x1024_6_0)) r l
    = Ref.rdout (x0 m c) (x1 m c) (x2 m c) (x3 m c) (x4 m c) (x5 m c) (x6 m c) (x7 m c) (row t r) l :=
  congrArg (· * rlen) (rdiff_eq m c t r l)

/-- The arguments the precondition speaks of are finite. -/
structure Finite : Prop where
  h3 : ∀ i, ∃ r : ℝ, x3 m c i = r
  h6 : ∀ i, ∃ r : ℝ, x6 m c i = r
  h7 : ∀ i, ∃ r : ℝ, x7 m c i = r

/-- What the point writes to its rows, in the program's own steps: the same at the first point and at the others. -/
theorem outs5 : (outsAt0 m c t.val t.isLt).1
    = k0_pay1 (F := Ideal) (k0_pay4 (iblk m c 0 t) (iblk m c 1 t) (iblk m c 2 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0)))
        (k0_pay5 (iblk m c 0 t) (iblk m c 1 t) (iblk m c 2 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0)))
        (k0_pay12 (k0_pay5 (iblk m c 0 t) (iblk m c 1 t) (iblk m c 2 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0))) (View.ld (Val := Elt Ideal) (e' := .f32) (iblk m c 4 t) (Rect.unit ![5, 0] ![1, 1024] inb_S8x1024_S1x1024_5_0)) (View.ld (Val := Elt Ideal) (e' := .f32) (iblk m c 4 t) (Rect.unit ![6, 0] ![1, 1024] inb_S8x1024_S1x1024_6_0)) (iblk m c 3 t))
        (k0_pay13 (k0_pay5 (iblk m c 0 t) (iblk m c 1 t) (iblk m c 2 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0))) (View.ld (Val := Elt Ideal) (e' := .f32) (iblk m c 4 t) (Rect.unit ![5, 0] ![1, 1024] inb_S8x1024_S1x1024_5_0)) (View.ld (Val := Elt Ideal) (e' := .f32) (iblk m c 4 t) (Rect.unit ![6, 0] ![1, 1024] inb_S8x1024_S1x1024_6_0)) (iblk m c 3 t))
        Pay.wlen := by
  by_cases h : t.val % 16 = 0
  · rw [outsAt0_A m c t h]; frame_out; rfl
  · rw [outsAt0_B m c t h]; frame_out; rfl

/-- The gradient of the rows before the norm. -/
theorem final5 (hf : Finite m c) : (dats m 0 c).arrAt 5 (cfgs 0).N = val_main_v115 (F := Ideal) (x0 m c) (x1 m c) (x2 m c) (x3 m c) (x4 m c) (x5 m c) (x6 m c) (x7 m c) := by
  refine (dats m 0 c).arrAt_eq_of_covers 5 _ (by decide +kernel) fun t _ y => ?_
  blk_simp
  rw [after0_5]
  idx_vars y
  refine (congrFun (outs5 m c t) _).trans ?_
  have e : ((View.whole main_v8_0).slice (win0_5.rect t)).emb (ix2 y0 y1) = ix2 (row t y0) y1 := by
    unfold row
    blk_ext [idx t]
  rw [e, Ref.v115]
  refine (Pay.pay1 (iblk m c 0 t) (iblk m c 1 t) (iblk m c 2 t) (iblk m c 3 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0)) (View.ld (Val := Elt Ideal) (e' := .f32) (iblk m c 4 t) (Rect.unit ![5, 0] ![1, 1024] inb_S8x1024_S1x1024_5_0)) (View.ld (Val := Elt Ideal) (e' := .f32) (iblk m c 4 t) (Rect.unit ![6, 0] ![1, 1024] inb_S8x1024_S1x1024_6_0)) y0 y1).trans ?_
  refine Eq.trans ?_ (Cert.Merge.grad_eq _ _ (din_real _ _ _ _ (fun l => hf.h6 _) (fun l => hf.h7 _) (fun l => hf.h3 _)) y1)
  exact congrArg₂ (fun x d => gradK x d y1) (zrow_eq m c t y0)
    (funext fun k => congrArg₂ (· * ·) (rdout_eq m c t y0 k) (row5 m c t k))

/-- What a point adds to row `a` of the column sums. -/
def part (b0 : FVec Ideal S512x4096 .bf16) (b1 : FVec Ideal S4096x1024 .bf16) (b2 b3 : FVec Ideal S512x1024 .f32)
    (g1 s1 g2 s2 : FVec Ideal S1x1024 .f32) (a : Fin 8) (l : Fin 1024) : EReal :=
  if a.val = 2 then ∑ r : Fin 512, Pay.rdiff b0 b1 b2 b3 g1 s1 g2 s2 r l * Pay.rdiff b0 b1 b2 b3 g1 s1 g2 s2 r l
  else if a.val = 1 then ∑ r : Fin 512, Pay.rdout b0 b1 b2 b3 g1 s1 g2 s2 r l
  else if a.val = 0 then ∑ r : Fin 512, Pay.rdout b0 b1 b2 b3 g1 s1 g2 s2 r l * xhat (Pay.zrow b0 b1 b2 g1 s1 r) l
  else 0

/-- What grid point `t` adds. -/
def partAt (a : Fin 8) (l : Fin 1024) : EReal :=
  part (iblk m c 0 t) (iblk m c 1 t) (iblk m c 2 t) (iblk m c 3 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0)) (View.ld (Val := Elt Ideal) (e' := .f32) (iblk m c 4 t) (Rect.unit ![5, 0] ![1, 1024] inb_S8x1024_S1x1024_5_0)) (View.ld (Val := Elt Ideal) (e' := .f32) (iblk m c 4 t) (Rect.unit ![6, 0] ![1, 1024] inb_S8x1024_S1x1024_6_0)) a l

/-- Three rows stored over older contents, read back. -/
theorem rows_at {κ : Kind} {sp : Space} (v : View sig κ sp S8x1024 .f32) (f : v.ty.Contents (Elt Ideal)) (w2 w1 w0 : FVec Ideal S1x1024 .f32)
    (L : List (View.Piece (Elt Ideal) S8x1024 .f32)) (a : Fin 8) (l : Fin 1024) :
    View.read (Elt Ideal) v (v.writes (Elt Ideal) f (⟨Rect.unit ![2, 0] ![1, 1024] inb_S8x1024_S1x1024_2_0, w2⟩
        :: ⟨Rect.unit ![1, 0] ![1, 1024] inb_S8x1024_S1x1024_1_0, w1⟩ :: ⟨Rect.unit ![0, 0] ![1, 1024] inb_S8x1024_S1x1024_0_0, w0⟩ :: L)) (ix2 a l)
      = if a.val = 2 then w2 (ix2 0 l) else if a.val = 1 then w1 (ix2 0 l) else if a.val = 0 then w0 (ix2 0 l)
        else View.read (Elt Ideal) v (v.writes (Elt Ideal) f L) (ix2 a l) := by
  split
  · rename_i h
    exact View.read_writes_cons_rows_of_mem v f _ w2 _ (ix2 a l) (ix2 0 l) rfl (by simp [ix2]; omega) rfl
  rename_i h2
  refine (View.read_writes_cons_rows_of_not_mem (W := 1) v f _ w2 _ (ix2 a l) rfl rfl (by simp [ix2]; omega)).trans ?_
  split
  · rename_i h
    exact View.read_writes_cons_rows_of_mem v f _ w1 _ (ix2 a l) (ix2 0 l) rfl (by simp [ix2]; omega) rfl
  rename_i h1
  refine (View.read_writes_cons_rows_of_not_mem (W := 1) v f _ w1 _ (ix2 a l) rfl rfl (by simp [ix2]; omega)).trans ?_
  split
  · rename_i h
    exact View.read_writes_cons_rows_of_mem v f _ w0 _ (ix2 a l) (ix2 0 l) rfl (by simp [ix2]; omega) rfl
  rename_i h0
  exact View.read_writes_cons_rows_of_not_mem (W := 1) v f _ w0 _ (ix2 a l) rfl rfl (by simp [ix2]; omega)

/-- A row of the block. -/
theorem old_at (X : FVec Ideal S8x1024 .f32) (l : Fin 1024) :
    ((show FVec Ideal S1x1024 .f32 from View.ld (Val := Elt Ideal) (e' := .f32) X (Rect.unit ![0, 0] ![1, 1024] inb_S8x1024_S1x1024_0_0)) (ix2 0 l) = X (ix2 0 l)
      ∧ (show FVec Ideal S1x1024 .f32 from View.ld (Val := Elt Ideal) (e' := .f32) X (Rect.unit ![1, 0] ![1, 1024] inb_S8x1024_S1x1024_1_0)) (ix2 0 l) = X (ix2 1 l))
      ∧ (show FVec Ideal S1x1024 .f32 from View.ld (Val := Elt Ideal) (e' := .f32) X (Rect.unit ![2, 0] ![1, 1024] inb_S8x1024_S1x1024_2_0)) (ix2 0 l) = X (ix2 2 l) := by
  refine ⟨⟨?_, ?_⟩, ?_⟩
  all_goals
    show X _ = X _
    refine congrArg X (Rect.emb_eq_of_coords _ _ _ fun a => ?_)
    fin_cases a <;> simp

/-- The block the first point starts from is zero. -/
theorem zeroed (y : S8x1024.Idx) : k0_pay2 (F := Ideal) y = 0 := by
  pointwise [k0_pay2]

section
variable (b0 : FVec Ideal S512x4096 .bf16) (b1 : FVec Ideal S4096x1024 .bf16) (b2 b3 : FVec Ideal S512x1024 .f32)
variable (g1 s1 g2 s2 : FVec Ideal S1x1024 .f32) (X : EReal) (l : Fin 1024) (o : FVec Ideal S1x1024 .f32)

/-! The three stores over what the block held: each row is what it was plus the point's part. -/

theorem added2 (h : o (ix2 0 l) = X) :
    k0_pay11 (F := Ideal) (k0_pay5 b0 b1 b2 g1 s1) g2 s2 b3 o (ix2 0 l) = X + part b0 b1 b2 b3 g1 s1 g2 s2 2 l := by
  rw [Pay.pay11, h]
  rfl

theorem added1 (h : o (ix2 0 l) = X) :
    k0_pay10 (F := Ideal) (k0_pay5 b0 b1 b2 g1 s1) g2 s2 b3 o (ix2 0 l) = X + part b0 b1 b2 b3 g1 s1 g2 s2 1 l := by
  rw [Pay.pay10, h]
  rfl

theorem added0 (h : o (ix2 0 l) = X) :
    k0_pay9 (F := Ideal) (k0_pay5 b0 b1 b2 g1 s1) g2 s2 b3 o (ix2 0 l) = X + part b0 b1 b2 b3 g1 s1 g2 s2 0 l := by
  rw [Pay.pay9, h]
  rfl

end

theorem outs6_A (h : t.val % 16 = 0) (a : Fin 8) (l : Fin 1024) :
    (outsAt0 m c t.val t.isLt).2 (ix2 a l) = 0 + partAt m c t a l := by
  rw [outsAt0_A m c t h]; frame_out
  simp (disch := decide) only [↓ View.readCov_skip, ↓ View.readCov_cons_toLoadRect, ↓ View.readCov_fill]
  rw [← View.read_writes_junk_apply_eq_canon (ms0_6 t).view]
  refine (rows_at _ _ _ _ _ _ a l).trans ?_
  have k2 := added2 (iblk m c 0 t) (iblk m c 1 t) (iblk m c 2 t) (iblk m c 3 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0)) (View.ld (Val := Elt Ideal) (e' := .f32) (iblk m c 4 t) (Rect.unit ![5, 0] ![1, 1024] inb_S8x1024_S1x1024_5_0)) (View.ld (Val := Elt Ideal) (e' := .f32) (iblk m c 4 t) (Rect.unit ![6, 0] ![1, 1024] inb_S8x1024_S1x1024_6_0))
    0 l (View.ld (Val := Elt Ideal) (e' := .f32) (k0_pay2 (F := Ideal)) (Rect.unit ![2, 0] ![1, 1024] inb_S8x1024_S1x1024_2_0)) ((old_at _ l).2.trans (zeroed _))
  have k1 := added1 (iblk m c 0 t) (iblk m c 1 t) (iblk m c 2 t) (iblk m c 3 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0)) (View.ld (Val := Elt Ideal) (e' := .f32) (iblk m c 4 t) (Rect.unit ![5, 0] ![1, 1024] inb_S8x1024_S1x1024_5_0)) (View.ld (Val := Elt Ideal) (e' := .f32) (iblk m c 4 t) (Rect.unit ![6, 0] ![1, 1024] inb_S8x1024_S1x1024_6_0))
    0 l (View.ld (Val := Elt Ideal) (e' := .f32) (k0_pay2 (F := Ideal)) (Rect.unit ![1, 0] ![1, 1024] inb_S8x1024_S1x1024_1_0)) ((old_at _ l).1.2.trans (zeroed _))
  have k0 := added0 (iblk m c 0 t) (iblk m c 1 t) (iblk m c 2 t) (iblk m c 3 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0)) (View.ld (Val := Elt Ideal) (e' := .f32) (iblk m c 4 t) (Rect.unit ![5, 0] ![1, 1024] inb_S8x1024_S1x1024_5_0)) (View.ld (Val := Elt Ideal) (e' := .f32) (iblk m c 4 t) (Rect.unit ![6, 0] ![1, 1024] inb_S8x1024_S1x1024_6_0))
    0 l (View.ld (Val := Elt Ideal) (e' := .f32) (k0_pay2 (F := Ideal)) (Rect.unit ![0, 0] ![1, 1024] inb_S8x1024_S1x1024_0_0)) ((old_at _ l).1.1.trans (zeroed _))
  unfold partAt
  generalize hb : part (iblk m c 0 t) (iblk m c 1 t) (iblk m c 2 t) (iblk m c 3 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0)) (View.ld (Val := Elt Ideal) (e' := .f32) (iblk m c 4 t) (Rect.unit ![5, 0] ![1, 1024] inb_S8x1024_S1x1024_5_0)) (View.ld (Val := Elt Ideal) (e' := .f32) (iblk m c 4 t) (Rect.unit ![6, 0] ![1, 1024] inb_S8x1024_S1x1024_6_0)) = q at k2 k1 k0 ⊢
  split
  · rename_i h2
    obtain rfl : a = 2 := Fin.ext h2
    exact k2
  split
  · rename_i h2
    obtain rfl : a = 1 := Fin.ext h2
    exact k1
  split
  · rename_i h2
    obtain rfl : a = 0 := Fin.ext h2
    exact k0
  rename_i h2 h1 h0
  rw [← hb, part, if_neg h2, if_neg h1, if_neg h0, View.read_writes_junk_apply_eq_canon, View.canon_cons_unit_lit, zeroed, add_zero]
  decide

theorem outs6_B (h : ¬ t.val % 16 = 0) (a : Fin 8) (l : Fin 1024) :
    (outsAt0 m c t.val t.isLt).2 (ix2 a l)
      = (outsAt0 m c (t.val - 1) (Nat.lt_of_le_of_lt (Nat.sub_le _ _) t.isLt)).2 (ix2 a l) + partAt m c t a l := by
  rw [outsAt0_B m c t h]; frame_out
  generalize (outsAt0 m c (t.val - 1) (Nat.lt_of_le_of_lt (Nat.sub_le _ _) t.isLt)).2 = X
  refine (rows_at _ _ _ _ _ _ a l).trans ?_
  have k2 := added2 (iblk m c 0 t) (iblk m c 1 t) (iblk m c 2 t) (iblk m c 3 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0)) (View.ld (Val := Elt Ideal) (e' := .f32) (iblk m c 4 t) (Rect.unit ![5, 0] ![1, 1024] inb_S8x1024_S1x1024_5_0)) (View.ld (Val := Elt Ideal) (e' := .f32) (iblk m c 4 t) (Rect.unit ![6, 0] ![1, 1024] inb_S8x1024_S1x1024_6_0))
    (X (ix2 2 l)) l (View.ld (Val := Elt Ideal) (e' := .f32) X (Rect.unit ![2, 0] ![1, 1024] inb_S8x1024_S1x1024_2_0)) (old_at _ l).2
  have k1 := added1 (iblk m c 0 t) (iblk m c 1 t) (iblk m c 2 t) (iblk m c 3 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0)) (View.ld (Val := Elt Ideal) (e' := .f32) (iblk m c 4 t) (Rect.unit ![5, 0] ![1, 1024] inb_S8x1024_S1x1024_5_0)) (View.ld (Val := Elt Ideal) (e' := .f32) (iblk m c 4 t) (Rect.unit ![6, 0] ![1, 1024] inb_S8x1024_S1x1024_6_0))
    (X (ix2 1 l)) l (View.ld (Val := Elt Ideal) (e' := .f32) X (Rect.unit ![1, 0] ![1, 1024] inb_S8x1024_S1x1024_1_0)) (old_at _ l).1.2
  have k0 := added0 (iblk m c 0 t) (iblk m c 1 t) (iblk m c 2 t) (iblk m c 3 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0)) (View.ld (Val := Elt Ideal) (e' := .f32) (iblk m c 4 t) (Rect.unit ![5, 0] ![1, 1024] inb_S8x1024_S1x1024_5_0)) (View.ld (Val := Elt Ideal) (e' := .f32) (iblk m c 4 t) (Rect.unit ![6, 0] ![1, 1024] inb_S8x1024_S1x1024_6_0))
    (X (ix2 0 l)) l (View.ld (Val := Elt Ideal) (e' := .f32) X (Rect.unit ![0, 0] ![1, 1024] inb_S8x1024_S1x1024_0_0)) (old_at _ l).1.1
  unfold partAt
  generalize hb : part (iblk m c 0 t) (iblk m c 1 t) (iblk m c 2 t) (iblk m c 3 t) (View.ld (Val := Elt Ideal) (e' := .f32) (iblk m c 4 t) (Rect.unit ![3, 0] ![1, 1024] inb_S8x1024_S1x1024_3_0)) (View.ld (Val := Elt Ideal) (e' := .f32) (iblk m c 4 t) (Rect.unit ![4, 0] ![1, 1024] inb_S8x1024_S1x1024_4_0)) (View.ld (Val := Elt Ideal) (e' := .f32) (iblk m c 4 t) (Rect.unit ![5, 0] ![1, 1024] inb_S8x1024_S1x1024_5_0)) (View.ld (Val := Elt Ideal) (e' := .f32) (iblk m c 4 t) (Rect.unit ![6, 0] ![1, 1024] inb_S8x1024_S1x1024_6_0)) = q at k2 k1 k0 ⊢
  split
  · rename_i h2
    obtain rfl : a = 2 := Fin.ext h2
    exact k2
  split
  · rename_i h2
    obtain rfl : a = 1 := Fin.ext h2
    exact k1
  split
  · rename_i h2
    obtain rfl : a = 0 := Fin.ext h2
    exact k0
  rename_i h2 h1 h0
  rw [← hb, part, if_neg h2, if_neg h1, if_neg h0, View.writes_nil]
  simp only [Memref.IsWhole.read_unread, add_zero]

/-- What a point adds to a row, in the reference's terms. -/
theorem part_ref (a : Fin 8) (l : Fin 1024) : partAt m c t a l
    = if a.val = 2 then ∑ r : Fin 512, Ref.rdiff (x0 m c) (x1 m c) (x2 m c) (x3 m c) (x4 m c) (x5 m c) (x6 m c) (x7 m c) (row t r) l * Ref.rdiff (x0 m c) (x1 m c) (x2 m c) (x3 m c) (x4 m c) (x5 m c) (x6 m c) (x7 m c) (row t r) l
      else if a.val = 1 then ∑ r : Fin 512, Ref.rdout (x0 m c) (x1 m c) (x2 m c) (x3 m c) (x4 m c) (x5 m c) (x6 m c) (x7 m c) (row t r) l
      else if a.val = 0 then ∑ r : Fin 512, Ref.rdout (x0 m c) (x1 m c) (x2 m c) (x3 m c) (x4 m c) (x5 m c) (x6 m c) (x7 m c) (row t r) l * xhat (Ref.zrow (x0 m c) (x1 m c) (x2 m c) (x4 m c) (x5 m c) (row t r)) l
      else 0 := by
  unfold partAt part
  exact if_congr Iff.rfl (Finset.sum_congr rfl fun r _ => congrArg₂ (· * ·) (rdiff_eq m c t r l) (rdiff_eq m c t r l))
    (if_congr Iff.rfl (Finset.sum_congr rfl fun r _ => rdout_eq m c t r l)
      (if_congr Iff.rfl (Finset.sum_congr rfl fun r _ => congrArg₂ (· * ·) (rdout_eq m c t r l) (congrArg (xhat · l) (zrow_eq m c t r))) rfl))

/-- The column sums. -/
theorem final6 : (dats m 0 c).arrAt 6 (cfgs 0).N = val_main_v124 (F := Ideal) (x0 m c) (x1 m c) (x2 m c) (x3 m c) (x4 m c) (x5 m c) (x6 m c) (x7 m c) := by
  refine (dats m 0 c).arrAt_eq_of_covers 6 _ (by decide +kernel) fun t hf' y => ?_
  blk_simp
  rw [after0_6]
  idx_vars y
  have e : ((View.whole main_v8_1).slice (win0_6.rect t)).emb (ix2 y0 y1) = ix2 y0 y1 := by
    blk_ext [idx t]
  rw [e, Ref.v124]
  rw [Pipeline.eq_sum_fin_of_reset_step_apply_of_flush (fun n h => (outsAt0 m c n h).2) 16 (fun _ => 0)
    (fun t y => partAt m c t (y 0) (y 1))
    (fun n hr y => by
      idx_vars y
      exact outs6_A m c n hr _ _)
    (fun n hr y => by
      idx_vars y
      exact outs6_B m c n hr _ _) t ((flush0_6 t).mp hf') _, zero_add]
  have key (f : Fin 8192 → EReal) :
      ∑ s : Fin 16, ∑ r : Fin 512, f (row ⟨16 * (t.val / 16) + s.val, Pipeline.run_point_lt_of_flush t ((flush0_6 t).mp hf') s⟩ r)
        = ∑ i : Fin 8192, f i := by
    refine Fin.sum_mul_add_congr fun s k hl => ?_
    have ht : t.val < 16 := lt_of_lt_of_eq t.isLt N_0
    refine congrArg f (Fin.ext ?_)
    show 512 * (16 * (t.val / 16) + s.val) + k.val = s.val * 512 + k.val
    omega
  refine (Finset.sum_congr rfl fun s _ => part_ref m c _ _ _).trans ?_
  show (∑ s : Fin 16, ite (y0.val = 2) _ (ite (y0.val = 1) _ (ite (y0.val = 0) _ 0)) : EReal) = _
  split
  · exact key (fun i => Ref.rdiff (x0 m c) (x1 m c) (x2 m c) (x3 m c) (x4 m c) (x5 m c) (x6 m c) (x7 m c) i y1 * Ref.rdiff (x0 m c) (x1 m c) (x2 m c) (x3 m c) (x4 m c) (x5 m c) (x6 m c) (x7 m c) i y1)
  split
  · exact key (fun i => Ref.rdout (x0 m c) (x1 m c) (x2 m c) (x3 m c) (x4 m c) (x5 m c) (x6 m c) (x7 m c) i y1)
  split
  · exact key (fun i => Ref.rdout (x0 m c) (x1 m c) (x2 m c) (x3 m c) (x4 m c) (x5 m c) (x6 m c) (x7 m c) i y1 * xhat (Ref.zrow (x0 m c) (x1 m c) (x2 m c) (x4 m c) (x5 m c) i) y1)
  · exact Finset.sum_const_zero

/-- The precondition's shape relations. -/
theorem preFacts : Cert.Pre_finite5.Facts where
  bcast_S_S8192x1024 := by decide
  bcast_S_S1024 := by decide

/-- The word of infinity. -/
theorem w_inf : Ideal.ofBits .f32 0x7F800000#32 = (⊤ : EReal) := by
  simp [Ideal.ofBits, Ideal.ieee]

/-- A number whose size is below infinity is real. -/
theorem real_of_lt {s : Shape} (x y : FVec Ideal s .f32) (i : s.Idx) (hy : y i = ⊤) (h : cmpf .olt (Host.absf x) y i = 1#1) : ∃ r : ℝ, x i = r := by
  have h' : max (x i) (-(x i)) < (⊤ : EReal) := by
    have h2 : Ideal.cmp .olt (max (x i) (-(x i)) : EReal) (y i : EReal) = 1#1 := h
    rw [hy] at h2
    by_contra hn
    simp [Ideal.cmp, hn] at h2
  have key : ∀ v : EReal, max v (-v) < ⊤ → ∃ r : ℝ, v = r := by
    intro v hv
    induction v with
    | bot => simp at hv
    | top => simp at hv
    | coe r => exact ⟨r, rfl⟩
  exact key _ h'

theorem finite_of (h : Cert.Pre_Kernel5Ideal_finite5 (hPre_finite5 := preFacts) m) (c : Dev nD) : Finite m c := by
  obtain ⟨h3, h6, h7⟩ := h c
  exact ⟨fun i => real_of_lt _ _ i (by pointwise; exact w_inf) (congrFun h3 i), fun i => real_of_lt _ _ i (by pointwise; exact w_inf) (congrFun h6 i),
    fun i => real_of_lt _ _ i (by pointwise; exact w_inf) (congrFun h7 i)⟩

/-- The reference leaves its arguments as they were; it has no semaphores. -/
theorem frameRef : Cert.quiescent_Reference5Ideal (hReference5Ideal := Cert.Reference5Ideal.Gen.facts) := fun m ρ _ =>
  (θ_run (Cert.Reference5Ideal.defs (F := Ideal)) _ _).mono
    (fun r h => ⟨fun c => (h c).2.2, sem_eq_zero_of_no_sems (by decide) r.2⟩)
    (Cert.Reference5Ideal.Value.run (F := Ideal) m ρ)

set_option maxHeartbeats 1600000 in
/-- The two programs' results are equal. -/
theorem algebraic : Cert.algebraic_Kernel5Ideal_Reference5Ideal_pre_finite5 (hKernel5Ideal := Cert.Kernel5Ideal.Gen.facts)
    (hReference5Ideal := Cert.Reference5Ideal.Gen.facts) (hPre_finite5 := preFacts) := by
  pair_intro
  · run_from Cert.Kernel5Ideal.Value.run_blocks m g
  · have hf := finite_of m hpre
    run_from Cert.Reference5Ideal.Value.run m' g'
    · refine (val_main_v115_eq _ _).trans ?_
      rw [show m' ((c.tc : Thread nD τ).loc Cert.Reference5Ideal.main_arg0) = x0 m c from (hagree c).1]
      rw [show m' ((c.tc : Thread nD τ).loc Cert.Reference5Ideal.main_arg1) = x1 m c from (hagree c).2.1]
      rw [show m' ((c.tc : Thread nD τ).loc Cert.Reference5Ideal.main_arg2) = x2 m c from (hagree c).2.2.1]
      rw [show m' ((c.tc : Thread nD τ).loc Cert.Reference5Ideal.main_arg3) = x3 m c from (hagree c).2.2.2.1]
      rw [show m' ((c.tc : Thread nD τ).loc Cert.Reference5Ideal.main_arg4) = x4 m c from (hagree c).2.2.2.2.1]
      rw [show m' ((c.tc : Thread nD τ).loc Cert.Reference5Ideal.main_arg5) = x5 m c from (hagree c).2.2.2.2.2.1]
      rw [show m' ((c.tc : Thread nD τ).loc Cert.Reference5Ideal.main_arg6) = x6 m c from (hagree c).2.2.2.2.2.2.1]
      rw [show m' ((c.tc : Thread nD τ).loc Cert.Reference5Ideal.main_arg7) = x7 m c from (hagree c).2.2.2.2.2.2.2]
      exact (final5 m c (hf c)).symm
    · refine (val_main_v124_eq _ _).trans ?_
      rw [show m' ((c.tc : Thread nD τ).loc Cert.Reference5Ideal.main_arg0) = x0 m c from (hagree c).1]
      rw [show m' ((c.tc : Thread nD τ).loc Cert.Reference5Ideal.main_arg1) = x1 m c from (hagree c).2.1]
      rw [show m' ((c.tc : Thread nD τ).loc Cert.Reference5Ideal.main_arg2) = x2 m c from (hagree c).2.2.1]
      rw [show m' ((c.tc : Thread nD τ).loc Cert.Reference5Ideal.main_arg3) = x3 m c from (hagree c).2.2.2.1]
      rw [show m' ((c.tc : Thread nD τ).loc Cert.Reference5Ideal.main_arg4) = x4 m c from (hagree c).2.2.2.2.1]
      rw [show m' ((c.tc : Thread nD τ).loc Cert.Reference5Ideal.main_arg5) = x5 m c from (hagree c).2.2.2.2.2.1]
      rw [show m' ((c.tc : Thread nD τ).loc Cert.Reference5Ideal.main_arg6) = x6 m c from (hagree c).2.2.2.2.2.2.1]
      rw [show m' ((c.tc : Thread nD τ).loc Cert.Reference5Ideal.main_arg7) = x7 m c from (hagree c).2.2.2.2.2.2.2]
      exact (final6 m c).symm

end Cert.Loss

end
-- ==== Proof.MixRef.lean ====
/- The gated merge, its output product and the norm over each row: what the reference computes and what one point of the
   kernel's grid computes, entry by entry. -/
module

public import proofs.«01_k».proof.Proof.Norm
public import proofs.«01_k».proof.Proof.Gen.Kernel6Ideal.Skeleton
public import proofs.«01_k».proof.Proof.Gen.Reference6Ideal.Read
public import Idealize.ShloMosaic.Lib.Pointwise

@[expose] public section

set_option maxRecDepth 16384

noncomputable section

namespace Cert.Mix

open Idealize.ShloMosaic
open Cert.Merge (sg mean cen vare scl xhat half_tanh w_len w_eps)
open scoped BigOperators

/-- The residual's factor. -/
def alpha : EReal := Ideal.ofBits .f32 0x3F9837F0#32

/-! ## The reference -/

namespace Ref

open Cert.Reference6Ideal Cert.Reference6Ideal.Read

variable (x0 x1 : FVec Ideal S8192x1024 .f32) (x2 : FVec Ideal S8192x7168 .f32) (x3 : FVec Ideal S8192x1024 .f32)
variable (x4 x5 x6 : FVec Ideal S1024x1024 .f32) (x7 x8 : FVec Ideal S1024 .f32)

/-- The gated sum. -/
def merged (a : Fin 8192) (b : Fin 1024) : EReal :=
  sg (x2 (ix2 a ⟨5120 + b.val, by omega⟩)) * (∑ k : Fin 1024, x0 (ix2 a k) * x4 (ix2 k b))
    + sg (x2 (ix2 a ⟨6144 + b.val, by omega⟩)) * (∑ k : Fin 1024, x1 (ix2 a k) * x5 (ix2 k b))

/-- Its product with the output weight, and the residual. -/
def zrow (a : Fin 8192) (b : Fin 1024) : EReal :=
  alpha * x3 (ix2 a b) + ∑ k : Fin 1024, merged x0 x1 x2 x4 x5 a k * x6 (ix2 k b)

theorem v41 (a : Fin 8192) (b : Fin 1024) : val_main_v41 (F := Ideal) x0 x4 (ix2 a b) = ∑ k : Fin 1024, x0 (ix2 a k) * x4 (ix2 k b) := by
  pointwise [val_main_v41, val_main_v0]

theorem v42 (a : Fin 8192) (b : Fin 1024) : val_main_v42 (F := Ideal) x1 x5 (ix2 a b) = ∑ k : Fin 1024, x1 (ix2 a k) * x5 (ix2 k b) := by
  pointwise [val_main_v42, val_main_v1]

theorem v9 (a : Fin 8192) (b : Fin 1024) : val_main_v9 (F := Ideal) x2 (ix2 a b) = sg (x2 (ix2 a ⟨5120 + b.val, by omega⟩)) := by
  pointwise [val_main_v9, val_main_v8, val_main_v7, val_main_v6, val_main_v5, val_main_v4, val_main_v2, val_main_cst, val_main_cst_0]
  rfl

theorem v16 (a : Fin 8192) (b : Fin 1024) : val_main_v16 (F := Ideal) x2 (ix2 a b) = sg (x2 (ix2 a ⟨6144 + b.val, by omega⟩)) := by
  pointwise [val_main_v16, val_main_v15, val_main_v14, val_main_v13, val_main_v12, val_main_v11, val_main_v3, val_main_cst_1, val_main_cst_2]
  rfl

theorem v18 (a : Fin 8192) (b : Fin 1024) : val_main_v18 (F := Ideal) x0 x1 x2 x4 x5 (ix2 a b) = merged x0 x1 x2 x4 x5 a b := by
  pointwise [val_main_v18, val_main_v17, val_main_v10, val_main_v0, val_main_v1]
  rw [v9, v16]
  rfl

theorem v43 (a : Fin 8192) (b : Fin 1024) : val_main_v43 (F := Ideal) x0 x1 x2 x4 x5 (ix2 a b) = merged x0 x1 x2 x4 x5 a b := by
  pointwise [val_main_v43]
  exact v18 x0 x1 x2 x4 x5 a b

theorem v22 (a : Fin 8192) (b : Fin 1024) : val_main_v22 (F := Ideal) x0 x1 x2 x3 x4 x5 x6 (ix2 a b) = zrow x0 x1 x2 x3 x4 x5 x6 a b := by
  pointwise [val_main_v22, val_main_v21, val_main_v20, val_main_v19, val_main_cst_3]
  simp only [v18]
  rfl

theorem v26 (a : Fin 8192) : val_main_v26 (F := Ideal) x0 x1 x2 x3 x4 x5 x6 (ix2 a 0) = mean (zrow x0 x1 x2 x3 x4 x5 x6 a) := by
  pointwise [val_main_v26, val_main_v25, val_main_v24, val_main_v23, val_main_cst_4, val_main_cst_5, w_len]
  simp only [v22]
  rfl

theorem v28 (a : Fin 8192) (b : Fin 1024) : val_main_v28 (F := Ideal) x0 x1 x2 x3 x4 x5 x6 (ix2 a b) = cen (zrow x0 x1 x2 x3 x4 x5 x6 a) b := by
  pointwise [val_main_v28, val_main_v27]
  rw [v22, v26]
  rfl

theorem v38 (a : Fin 8192) (b : Fin 1024) : val_main_v38 (F := Ideal) x0 x1 x2 x3 x4 x5 x6 (ix2 a b) = cen (zrow x0 x1 x2 x3 x4 x5 x6 a) b := by
  pointwise [val_main_v38, val_main_v37]
  rw [v22, v26]
  rfl

theorem v36 (a : Fin 8192) : val_main_v36 (F := Ideal) x0 x1 x2 x3 x4 x5 x6 (ix2 a 0) = scl (zrow x0 x1 x2 x3 x4 x5 x6 a) := by
  pointwise [val_main_v36, val_main_v35, val_main_v34, val_main_v33, val_main_v32, val_main_v31, val_main_v30, val_main_v29, val_main_cst_6,
    val_main_cst_7, val_main_cst_8, w_len, w_eps]
  simp only [v28]
  rfl

theorem v40 (a : Fin 8192) (b : Fin 1024) : val_main_v40 (F := Ideal) x0 x1 x2 x3 x4 x5 x6 (ix2 a b) = xhat (zrow x0 x1 x2 x3 x4 x5 x6 a) b := by
  pointwise [val_main_v40, val_main_v39]
  rw [v38, v36]
  rfl

theorem v47 (a : Fin 8192) : val_main_v47 (F := Ideal) x0 x1 x2 x3 x4 x5 x6 (ix2 a 0) = mean (zrow x0 x1 x2 x3 x4 x5 x6 a) := by
  pointwise [val_main_v47, val_main_v46, val_main_v45, val_main_v44, val_main_cst_9, val_main_cst_10, w_len]
  simp only [v22]
  rfl

theorem v49 (a : Fin 8192) (b : Fin 1024) : val_main_v49 (F := Ideal) x0 x1 x2 x3 x4 x5 x6 (ix2 a b) = cen (zrow x0 x1 x2 x3 x4 x5 x6 a) b := by
  pointwise [val_main_v49, val_main_v48]
  rw [v22, v47]
  rfl

theorem v56 (a : Fin 8192) (b : Fin 1024) : val_main_v56 (F := Ideal) x0 x1 x2 x3 x4 x5 x6 (ix2 a b) = cen (zrow x0 x1 x2 x3 x4 x5 x6 a) b := by
  pointwise [val_main_v56, val_main_v55]
  rw [v22, v47]
  rfl

theorem v59 (a : Fin 8192) : val_main_v59 (F := Ideal) x0 x1 x2 x3 x4 x5 x6 (ix2 a 0) = scl (zrow x0 x1 x2 x3 x4 x5 x6 a) := by
  pointwise [val_main_v59, val_main_v58, val_main_v57, val_main_v54, val_main_v53, val_main_v52, val_main_v51, val_main_v50, val_main_cst_11,
    val_main_cst_12, val_main_cst_13, w_len, w_eps]
  simp only [v49]
  rfl

theorem v68 (a : Fin 8192) (b : Fin 1024) : val_main_v68 (F := Ideal) x0 x1 x2 x3 x4 x5 x6 x7 x8 (ix2 a b)
    = xhat (zrow x0 x1 x2 x3 x4 x5 x6 a) b * x7 (ix1 b) + x8 (ix1 b) := by
  pointwise [val_main_v68, val_main_v67, val_main_v66, val_main_v65, val_main_v64, val_main_v63, val_main_v62, val_main_v61, val_main_v60]
  rw [v56, v59]
  rfl

end Ref

/-! ## One point of the grid -/

namespace Pay

open Cert.Kernel6Ideal Cert.Kernel6Ideal.Gen

variable (b0 b1 b2 b3 : FVec Ideal S512x1024 .bf16) (b4 : FVec Ideal S512x1024 .f32) (b5 b6 b7 : FVec Ideal S1024x1024 .bf16)
variable (g be : FVec Ideal S1x1024 .f32)

/-- One half, as the kernel writes it. -/
abbrev half : Ideal .f32 := Ideal.ofBits .f32 0x3F000000#32

/-- The gated sum of the point's rows. -/
def merged (r : Fin 512) (l : Fin 1024) : EReal :=
  sg (b2 (ix2 r l)) * (∑ k : Fin 1024, b0 (ix2 r k) * b5 (ix2 k l)) + sg (b3 (ix2 r l)) * (∑ k : Fin 1024, b1 (ix2 r k) * b6 (ix2 k l))

/-- The rows before the norm. -/
def zrow (r : Fin 512) (l : Fin 1024) : EReal :=
  alpha * b4 (ix2 r l) + ∑ k : Fin 1024, merged b0 b1 b2 b3 b5 b6 r k * b7 (ix2 k l)

theorem pay4 (r : Fin 512) (l : Fin 1024) : k0_pay4 (F := Ideal) b0 b5 (ix2 r l) = ∑ k : Fin 1024, b0 (ix2 r k) * b5 (ix2 k l) := by
  pointwise [k0_pay4, k0_pay2]

theorem pay5 (r : Fin 512) (l : Fin 1024) : k0_pay5 (F := Ideal) b1 b6 (ix2 r l) = ∑ k : Fin 1024, b1 (ix2 r k) * b6 (ix2 k l) := by
  pointwise [k0_pay5, k0_pay3]

theorem pay8 (r : Fin 512) (l : Fin 1024) : k0_pay8 (F := Ideal) (k0_pay3 b1 b6) (k0_pay6 b0 b5 b2) (k0_pay7 b3) half (ix2 r l)
    = merged b0 b1 b2 b3 b5 b6 r l := by
  pointwise [k0_pay8, k0_pay3, k0_pay6, k0_pay7, k0_pay2]
  exact congrArg₂ (· + ·) (congrArg (· * _) (half_tanh _)) (congrArg (· * _) (half_tanh _))

theorem pay9 (r : Fin 512) (l : Fin 1024) : k0_pay9 (F := Ideal) (k0_pay3 b1 b6) (k0_pay6 b0 b5 b2) (k0_pay7 b3) half b7 b4 (ix2 r l)
    = cen (zrow b0 b1 b2 b3 b4 b5 b6 b7 r) l := by
  have h := pay8 b0 b1 b2 b3 b5 b6
  unfold k0_pay9
  generalize k0_pay8 (F := Ideal) (k0_pay3 b1 b6) (k0_pay6 b0 b5 b2) (k0_pay7 b3) half = M at h ⊢
  pointwise [w_len]
  simp only [h]
  rfl

theorem pay10 (r : Fin 512) : k0_pay10 (F := Ideal) (k0_pay3 b1 b6) (k0_pay6 b0 b5 b2) (k0_pay7 b3) half b7 b4 (ix2 r 0)
    = scl (zrow b0 b1 b2 b3 b4 b5 b6 b7 r) := by
  pointwise [k0_pay10, w_len, w_eps]
  simp only [pay9]
  rfl

theorem pay11 (r : Fin 512) (l : Fin 1024) : k0_pay11 (F := Ideal) (k0_pay3 b1 b6) (k0_pay6 b0 b5 b2) (k0_pay7 b3) half b7 b4 (ix2 r l)
    = xhat (zrow b0 b1 b2 b3 b4 b5 b6 b7 r) l := by
  pointwise [k0_pay11]
  rw [pay9, pay10]
  rfl

theorem pay1 (r : Fin 512) (l : Fin 1024) :
    k0_pay1 (F := Ideal) (k0_pay12 (k0_pay3 b1 b6) (k0_pay6 b0 b5 b2) (k0_pay7 b3) half b7 b4 g) be (ix2 r l)
      = xhat (zrow b0 b1 b2 b3 b4 b5 b6 b7 r) l * g (ix2 0 l) + be (ix2 0 l) := by
  pointwise [k0_pay1, k0_pay12]
  rw [pay11]

end Pay

end Cert.Mix

end
-- ==== Proof.Mix.lean ====
/- The gated merge and the norm after it: the grid's rows are the reference's. -/
module

public import proofs.«01_k».proof.Defs
public import proofs.«01_k».proof.Proof.MixRef
public import proofs.«01_k».proof.Proof.Gen.Kernel6Ideal.Value
public import proofs.«01_k».proof.Proof.Gen.Reference6Ideal.Run
public import Idealize.ShloMosaic.Lib.Pipeline.ValueKit
public import Idealize.ShloMosaic.Lib.Claim

@[expose] public section

set_option maxRecDepth 16384

noncomputable section

namespace Cert.Mix

open Idealize.ShloMosaic Idealize.ShloMosaic.TcCoe Idealize.SL.Sem
open Cert.Kernel6Ideal Cert.Kernel6Ideal.Gen Cert.Reference6Ideal.Read
open Cert.Merge (xhat scl)
open scoped BigOperators

variable (m : (ℓ : Loc nD τ sig) → Buf (Elt Ideal) ℓ) (c : Dev nD)

/-- The arguments as launched. -/
def x0 : FVec Ideal S8192x1024 .f32 := m ((c : Thread nD τ).loc main_arg0)
def x1 : FVec Ideal S8192x1024 .f32 := m ((c : Thread nD τ).loc main_arg1)
def x2 : FVec Ideal S8192x7168 .f32 := m ((c : Thread nD τ).loc main_arg2)
def x3 : FVec Ideal S8192x1024 .f32 := m ((c : Thread nD τ).loc main_arg3)
def x4 : FVec Ideal S1024x1024 .f32 := m ((c : Thread nD τ).loc main_arg4)
def x5 : FVec Ideal S1024x1024 .f32 := m ((c : Thread nD τ).loc main_arg5)
def x6 : FVec Ideal S1024x1024 .f32 := m ((c : Thread nD τ).loc main_arg6)
def x7 : FVec Ideal S1024 .f32 := m ((c : Thread nD τ).loc main_arg7)
def x8 : FVec Ideal S1024 .f32 := m ((c : Thread nD τ).loc main_arg8)

/-- The vectors' rows: the norm's scale is row 3 and its shift row 4. -/
def vecs : FVec Ideal S8x1024 .f32 :=
  have z : FVec Ideal S1x1024 .f32 := broadcastInDim S1x1024 ![] bcast_S_S1x1024 (constant (F := Ideal) S_ .f32 0x00000000#32)
  concatenate S8x1024 0 [⟨S1x1024, z⟩, ⟨S1x1024, z⟩, ⟨S1x1024, z⟩,
    ⟨S1x1024, (broadcastInDim S1x1024 ![1] bcast_S1024_S1x1024_1 (x7 m c) : FVec Ideal S1x1024 .f32)⟩,
    ⟨S1x1024, (broadcastInDim S1x1024 ![1] bcast_S1024_S1x1024_1 (x8 m c) : FVec Ideal S1x1024 .f32)⟩,
    ⟨S1x1024, z⟩, ⟨S1x1024, z⟩, ⟨S1x1024, z⟩]
    concatenates_S1x1024_S1x1024_S1x1024_S1x1024_S1x1024_S1x1024_S1x1024_S1x1024_S8x1024_d0

theorem entry3 : (V m c main_v3 : FVec Ideal S8x1024 .f32) = vecs m c := by
  rfl

theorem vecs_scale (k : Fin 1024) : vecs m c (ix2 3 k) = x7 m c (ix1 k) := by
  pointwise [vecs]

theorem vecs_shift (k : Fin 1024) : vecs m c (ix2 4 k) = x8 m c (ix1 k) := by
  pointwise [vecs]

/-- The block maps: the row blocks follow the grid, the weights and the vectors stay. -/
theorem idx : ∀ t : Fin cfg0.N, win0_0.index t = ![t.val, 0]
    ∧ win0_1.index t = ![t.val, 0]
    ∧ win0_2.index t = ![t.val, 5]
    ∧ win0_3.index t = ![t.val, 6]
    ∧ win0_4.index t = ![t.val, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0] :=
  (by decide +kernel : ∀ t : Fin grid0.N, _)

variable (t : Fin cfg0.N)

/-- Grid point `t`'s rows. -/
def row (r : Fin 512) : Fin 8192 := ⟨512 * t.val + r.val, by have ht : t.val < 16 := lt_of_lt_of_eq t.isLt N_0; omega⟩

theorem at0 (r : Fin 512) (k : Fin 1024) :
    (show FVec Ideal S512x1024 .bf16 from iblk m c 0 t) (ix2 r k) = x0 m c (ix2 (row t r) k) := by
  unfold row x0
  blk_simp [iblk, idx t]
  entry_read
  pointwise
  blk_ext [idx t]

theorem at1 (r : Fin 512) (k : Fin 1024) :
    (show FVec Ideal S512x1024 .bf16 from iblk m c 1 t) (ix2 r k) = x1 m c (ix2 (row t r) k) := by
  unfold row x1
  blk_simp [iblk, idx t]
  entry_read
  pointwise
  blk_ext [idx t]

theorem at2 (r : Fin 512) (k : Fin 1024) :
    (show FVec Ideal S512x1024 .bf16 from iblk m c 2 t) (ix2 r k) = x2 m c (ix2 (row t r) ⟨5120 + k.val, by omega⟩) := by
  unfold row x2
  blk_simp [iblk, idx t]
  entry_read
  pointwise
  blk_ext [idx t]

theorem at3 (r : Fin 512) (k : Fin 1024) :
    (show FVec Ideal S512x1024 .bf16 from iblk m c 3 t) (ix2 r k) = x2 m c (ix2 (row t r) ⟨6144 + k.val, by omega⟩) := by
  unfold row x2
  blk_simp [iblk, idx t]
  entry_read
  pointwise
  blk_ext [idx t]

theorem at4 (r : Fin 512) (k : Fin 1024) :
    (show FVec Ideal S512x1024 .f32 from iblk m c 4 t) (ix2 r k) = x3 m c (ix2 (row t r) k) := by
  unfold row x3
  blk_ext [iblk, V, idx t]

theorem at5 (k l : Fin 1024) :
    (show FVec Ideal S1024x1024 .bf16 from iblk m c 5 t) (ix2 k l) = x4 m c (ix2 k l) := by
  unfold x4
  blk_simp [iblk, idx t]
  entry_read
  pointwise
  blk_ext [idx t]

theorem at6 (k l : Fin 1024) :
    (show FVec Ideal S1024x1024 .bf16 from iblk m c 6 t) (ix2 k l) = x5 m c (ix2 k l) := by
  unfold x5
  blk_simp [iblk, idx t]
  entry_read
  pointwise
  blk_ext [idx t]

theorem at7 (k l : Fin 1024) :
    (show FVec Ideal S1024x1024 .bf16 from iblk m c 7 t) (ix2 k l) = x6 m c (ix2 k l) := by
  unfold x6
  blk_simp [iblk, idx t]
  entry_read
  pointwise
  blk_ext [idx t]

theorem at8 (a : Fin 8) (k : Fin 1024) : (show FVec Ideal S8x1024 .f32 from iblk m c 8 t) (ix2 a k) = vecs m c (ix2 a k) := by
  rw [← entry3]
  blk_ext [iblk, idx t]

/-- The norm's scale and shift as the point reads them. -/
theorem scale_at (k : Fin 1024) : (show FVec Ideal S1x1024 .f32 from View.ld (Val := Elt Ideal) (e' := .f32) (iblk m c 8 t) (Rect.unit ![3, 0] ![1, 1024] inb_S8x1024_S1x1024_3_0)) (ix2 0 k)
    = x7 m c (ix1 k) := by
  refine Eq.trans ?_ ((at8 m c t 3 k).trans (vecs_scale m c k))
  show iblk m c 8 t _ = iblk m c 8 t _
  refine congrArg (iblk m c 8 t) (Rect.emb_eq_of_coords _ _ _ fun a => ?_)
  fin_cases a <;> simp

theorem shift_at (k : Fin 1024) : (show FVec Ideal S1x1024 .f32 from View.ld (Val := Elt Ideal) (e' := .f32) (iblk m c 8 t) (Rect.unit ![4, 0] ![1, 1024] inb_S8x1024_S1x1024_4_0)) (ix2 0 k)
    = x8 m c (ix1 k) := by
  refine Eq.trans ?_ ((at8 m c t 4 k).trans (vecs_shift m c k))
  show iblk m c 8 t _ = iblk m c 8 t _
  refine congrArg (iblk m c 8 t) (Rect.emb_eq_of_coords _ _ _ fun a => ?_)
  fin_cases a <;> simp

/-- The point's gated sum is the reference's, row for row, -/
theorem merged_eq (r : Fin 512) (l : Fin 1024) : Pay.merged (iblk m c 0 t) (iblk m c 1 t) (iblk m c 2 t) (iblk m c 3 t) (iblk m c 5 t) (iblk m c 6 t) r l
    = Ref.merged (x0 m c) (x1 m c) (x2 m c) (x4 m c) (x5 m c) (row t r) l :=
  congrArg₂ (· + ·)
    (congrArg₂ (· * ·) (congrArg Cert.Merge.sg (at2 m c t r l)) (Finset.sum_congr rfl fun k _ => congrArg₂ (· * ·) (at0 m c t r k) (at5 m c t k l)))
    (congrArg₂ (· * ·) (congrArg Cert.Merge.sg (at3 m c t r l)) (Finset.sum_congr rfl fun k _ => congrArg₂ (· * ·) (at1 m c t r k) (at6 m c t k l)))

/-- and so are its rows before the norm. -/
theorem zrow_eq (r : Fin 512) : Pay.zrow (iblk m c 0 t) (iblk m c 1 t) (iblk m c 2 t) (iblk m c 3 t) (iblk m c 4 t) (iblk m c 5 t) (iblk m c 6 t) (iblk m c 7 t) r
    = Ref.zrow (x0 m c) (x1 m c) (x2 m c) (x3 m c) (x4 m c) (x5 m c) (x6 m c) (row t r) :=
  funext fun l => congrArg₂ (· + ·) (congrArg (alpha * ·) (at4 m c t r l))
    (Finset.sum_congr rfl fun k _ => congrArg₂ (· * ·) (merged_eq m c t r k) (at7 m c t k l))

theorem final9 : (dats m 0 c).arrAt 9 (cfgs 0).N = val_main_v41 (F := Ideal) (x0 m c) (x4 m c) := by
  refine (dats m 0 c).arrAt_eq_of_covers 9 _ (by decide +kernel) fun t _ y => ?_
  blk_simp
  rw [after0_9]
  idx_vars y
  refine Eq.trans (b := k0_pay4 (F := Ideal) (iblk m c 0 t) (iblk m c 5 t) (ix2 y0 y1)) ?_ ?_
  · frame_out
  have e : ((View.whole main_v10_0).slice (win0_9.rect t)).emb (ix2 y0 y1) = ix2 (row t y0) y1 := by
    unfold row
    blk_ext [idx t]
  rw [e, Ref.v41]
  refine (Pay.pay4 _ _  y0 y1).trans ?_
  exact Finset.sum_congr rfl fun k _ => congrArg₂ (· * ·) (at0 m c t y0 k) (at5 m c t k y1)

theorem final10 : (dats m 0 c).arrAt 10 (cfgs 0).N = val_main_v42 (F := Ideal) (x1 m c) (x5 m c) := by
  refine (dats m 0 c).arrAt_eq_of_covers 10 _ (by decide +kernel) fun t _ y => ?_
  blk_simp
  rw [after0_10]
  idx_vars y
  refine Eq.trans (b := k0_pay5 (F := Ideal) (iblk m c 1 t) (iblk m c 6 t) (ix2 y0 y1)) ?_ ?_
  · frame_out
  have e : ((View.whole main_v10_1).slice (win0_10.rect t)).emb (ix2 y0 y1) = ix2 (row t y0) y1 := by
    unfold row
    blk_ext [idx t]
  rw [e, Ref.v42]
  refine (Pay.pay5 _ _  y0 y1).trans ?_
  exact Finset.sum_congr rfl fun k _ => congrArg₂ (· * ·) (at1 m c t y0 k) (at6 m c t k y1)

theorem final11 : (dats m 0 c).arrAt 11 (cfgs 0).N = val_main_v43 (F := Ideal) (x0 m c) (x1 m c) (x2 m c) (x4 m c) (x5 m c) := by
  refine (dats m 0 c).arrAt_eq_of_covers 11 _ (by decide +kernel) fun t _ y => ?_
  blk_simp
  rw [after0_11]
  idx_vars y
  refine Eq.trans (b := k0_pay8 (F := Ideal) (k0_pay3 (iblk m c 1 t) (iblk m c 6 t)) (k0_pay6 (iblk m c 0 t) (iblk m c 5 t) (iblk m c 2 t)) (k0_pay7 (iblk m c 3 t)) Pay.half (ix2 y0 y1)) ?_ ?_
  · frame_out [k0_pay13, k0_pay14, k0_pay15]
    rfl
  have e : ((View.whole main_v10_2).slice (win0_11.rect t)).emb (ix2 y0 y1) = ix2 (row t y0) y1 := by
    unfold row
    blk_ext [idx t]
  rw [e, Ref.v43]
  refine (Pay.pay8 _ _ _ _ _ _  y0 y1).trans ?_
  exact merged_eq m c t y0 y1

theorem final12 : (dats m 0 c).arrAt 12 (cfgs 0).N = val_main_v40 (F := Ideal) (x0 m c) (x1 m c) (x2 m c) (x3 m c) (x4 m c) (x5 m c) (x6 m c) := by
  refine (dats m 0 c).arrAt_eq_of_covers 12 _ (by decide +kernel) fun t _ y => ?_
  blk_simp
  rw [after0_12]
  idx_vars y
  refine Eq.trans (b := k0_pay11 (F := Ideal) (k0_pay3 (iblk m c 1 t) (iblk m c 6 t)) (k0_pay6 (iblk m c 0 t) (iblk m c 5 t) (iblk m c 2 t)) (k0_pay7 (iblk m c 3 t)) Pay.half (iblk m c 7 t) (iblk m c 4 t) (ix2 y0 y1)) ?_ ?_
  · frame_out [k0_pay13, k0_pay14, k0_pay15]
    rfl
  have e : ((View.whole main_v10_3).slice (win0_12.rect t)).emb (ix2 y0 y1) = ix2 (row t y0) y1 := by
    unfold row
    blk_ext [idx t]
  rw [e, Ref.v40]
  refine (Pay.pay11 _ _ _ _ _ _ _ _  y0 y1).trans ?_
  exact congrArg (xhat · y1) (zrow_eq m c t y0)

theorem final13 : (dats m 0 c).arrAt 13 (cfgs 0).N = val_main_v36 (F := Ideal) (x0 m c) (x1 m c) (x2 m c) (x3 m c) (x4 m c) (x5 m c) (x6 m c) := by
  refine (dats m 0 c).arrAt_eq_of_covers 13 _ (by decide +kernel) fun t _ y => ?_
  blk_simp
  rw [after0_13]
  idx_vars y
  obtain rfl : y1 = 0 := Subsingleton.elim _ _
  refine Eq.trans (b := k0_pay10 (F := Ideal) (k0_pay3 (iblk m c 1 t) (iblk m c 6 t)) (k0_pay6 (iblk m c 0 t) (iblk m c 5 t) (iblk m c 2 t)) (k0_pay7 (iblk m c 3 t)) Pay.half (iblk m c 7 t) (iblk m c 4 t) (ix2 y0 0)) ?_ ?_
  · frame_out [k0_pay13, k0_pay14, k0_pay15]
    rfl
  have e : ((View.whole main_v10_4).slice (win0_13.rect t)).emb (ix2 y0 0) = ix2 (row t y0) 0 := by
    unfold row
    blk_ext [idx t]
  rw [e, Ref.v36]
  refine (Pay.pay10 _ _ _ _ _ _ _ _  y0).trans ?_
  exact congrArg scl (zrow_eq m c t y0)

theorem final14 : (dats m 0 c).arrAt 14 (cfgs 0).N = val_main_v68 (F := Ideal) (x0 m c) (x1 m c) (x2 m c) (x3 m c) (x4 m c) (x5 m c) (x6 m c) (x7 m c) (x8 m c) := by
  refine (dats m 0 c).arrAt_eq_of_covers 14 _ (by decide +kernel) fun t _ y => ?_
  blk_simp
  rw [after0_14]
  idx_vars y
  refine Eq.trans (b := k0_pay1 (F := Ideal) (k0_pay12 (k0_pay3 (iblk m c 1 t) (iblk m c 6 t)) (k0_pay6 (iblk m c 0 t) (iblk m c 5 t) (iblk m c 2 t)) (k0_pay7 (iblk m c 3 t)) Pay.half (iblk m c 7 t) (iblk m c 4 t) (View.ld (Val := Elt Ideal) (e' := .f32) (iblk m c 8 t) (Rect.unit ![3, 0] ![1, 1024] inb_S8x1024_S1x1024_3_0))) (View.ld (Val := Elt Ideal) (e' := .f32) (iblk m c 8 t) (Rect.unit ![4, 0] ![1, 1024] inb_S8x1024_S1x1024_4_0)) (ix2 y0 y1)) ?_ ?_
  · frame_out [k0_pay13, k0_pay14, k0_pay15]
    rfl
  have e : ((View.whole main_v10_5).slice (win0_14.rect t)).emb (ix2 y0 y1) = ix2 (row t y0) y1 := by
    unfold row
    blk_ext [idx t]
  rw [e, Ref.v68]
  refine (Pay.pay1 _ _ _ _ _ _ _ _ _ _ y0 y1).trans ?_
  exact congrArg₂ (· + ·) (congrArg₂ (· * ·) (congrArg (xhat · y1) (zrow_eq m c t y0)) (scale_at m c t y1)) (shift_at m c t y1)

/-- The reference leaves its arguments as they were; it has no semaphores. -/
theorem frameRef : Cert.quiescent_Reference6Ideal (hReference6Ideal := Cert.Reference6Ideal.Gen.facts) := fun m ρ _ =>
  (θ_run (Cert.Reference6Ideal.defs (F := Ideal)) _ _).mono
    (fun r h => ⟨fun c => (h c).2.2.2.2.2.2, sem_eq_zero_of_no_sems (by decide) r.2⟩)
    (Cert.Reference6Ideal.Value.run (F := Ideal) m ρ)

set_option maxHeartbeats 1600000 in
/-- The two programs' results are equal. -/
theorem algebraic : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · run_from Cert.Reference6Ideal.Value.run m' g'
    · exact (val_main_v41_eq _ _ ).trans (final9 m c).symm
    · exact (val_main_v42_eq _ _ ).trans (final10 m c).symm
    · exact (val_main_v43_eq _ _ _ _ _ ).trans (final11 m c).symm
    · refine (val_main_v40_eq _ _).trans ?_
      rw [show m' ((c.tc : Thread nD τ).loc Cert.Reference6Ideal.main_arg0) = x0 m c from (hagree c).1]
      rw [show m' ((c.tc : Thread nD τ).loc Cert.Reference6Ideal.main_arg1) = x1 m c from (hagree c).2.1]
      rw [show m' ((c.tc : Thread nD τ).loc Cert.Reference6Ideal.main_arg2) = x2 m c from (hagree c).2.2.1]
      rw [show m' ((c.tc : Thread nD τ).loc Cert.Reference6Ideal.main_arg3) = x3 m c from (hagree c).2.2.2.1]
      rw [show m' ((c.tc : Thread nD τ).loc Cert.Reference6Ideal.main_arg4) = x4 m c from (hagree c).2.2.2.2.1]
      rw [show m' ((c.tc : Thread nD τ).loc Cert.Reference6Ideal.main_arg5) = x5 m c from (hagree c).2.2.2.2.2.1]
      rw [show m' ((c.tc : Thread nD τ).loc Cert.Reference6Ideal.main_arg6) = x6 m c from (hagree c).2.2.2.2.2.2.1]
      exact (final12 m c).symm
    · refine (val_main_v36_eq _ _).trans ?_
      rw [show m' ((c.tc : Thread nD τ).loc Cert.Reference6Ideal.main_arg0) = x0 m c from (hagree c).1]
      rw [show m' ((c.tc : Thread nD τ).loc Cert.Reference6Ideal.main_arg1) = x1 m c from (hagree c).2.1]
      rw [show m' ((c.tc : Thread nD τ).loc Cert.Reference6Ideal.main_arg2) = x2 m c from (hagree c).2.2.1]
      rw [show m' ((c.tc : Thread nD τ).loc Cert.Reference6Ideal.main_arg3) = x3 m c from (hagree c).2.2.2.1]
      rw [show m' ((c.tc : Thread nD τ).loc Cert.Reference6Ideal.main_arg4) = x4 m c from (hagree c).2.2.2.2.1]
      rw [show m' ((c.tc : Thread nD τ).loc Cert.Reference6Ideal.main_arg5) = x5 m c from (hagree c).2.2.2.2.2.1]
      rw [show m' ((c.tc : Thread nD τ).loc Cert.Reference6Ideal.main_arg6) = x6 m c from (hagree c).2.2.2.2.2.2.1]
      exact (final13 m c).symm
    · refine (val_main_v68_eq _ _).trans ?_
      rw [show m' ((c.tc : Thread nD τ).loc Cert.Reference6Ideal.main_arg0) = x0 m c from (hagree c).1]
      rw [show m' ((c.tc : Thread nD τ).loc Cert.Reference6Ideal.main_arg1) = x1 m c from (hagree c).2.1]
      rw [show m' ((c.tc : Thread nD τ).loc Cert.Reference6Ideal.main_arg2) = x2 m c from (hagree c).2.2.1]
      rw [show m' ((c.tc : Thread nD τ).loc Cert.Reference6Ideal.main_arg3) = x3 m c from (hagree c).2.2.2.1]
      rw [show m' ((c.tc : Thread nD τ).loc Cert.Reference6Ideal.main_arg4) = x4 m c from (hagree c).2.2.2.2.1]
      rw [show m' ((c.tc : Thread nD τ).loc Cert.Reference6Ideal.main_arg5) = x5 m c from (hagree c).2.2.2.2.2.1]
      rw [show m' ((c.tc : Thread nD τ).loc Cert.Reference6Ideal.main_arg6) = x6 m c from (hagree c).2.2.2.2.2.2.1]
      rw [show m' ((c.tc : Thread nD τ).loc Cert.Reference6Ideal.main_arg7) = x7 m c from (hagree c).2.2.2.2.2.2.2.1]
      rw [show m' ((c.tc : Thread nD τ).loc Cert.Reference6Ideal.main_arg8) = x8 m c from (hagree c).2.2.2.2.2.2.2.2]
      exact (final14 m c).symm

end Cert.Mix

end
-- ==== Proof.Slab.lean ====
/- Loads and stores of one slab of a buffer, the slab's place a number that changes with the grid point: what a load reads
   after the slab was stored, and what a store leaves in the slab and beside it. -/
module

public import Idealize.ShloMosaic.Lib.Writes
public import Idealize.ShloMosaic.Lib.Pipeline.FrameBody

@[expose] public section

noncomputable section

namespace Cert.Slab

open Idealize.ShloMosaic

variable {sig : RefSig} {κ : Kind} {sp : Space} {s : Shape} {e : EltTy} {Val : EltTy → Type}

/-- The block that begins at zero and is as large as the buffer puts every index where it was. -/
theorem emb_full {off : Fin s.rank → ℕ} (inb : ∀ a, off a + s.size a ≤ s.size a) (y : s.Idx) :
    (Rect.unit (s := s) off s.size inb).emb y = y :=
  funext fun a => Fin.ext (by
    show off a + 1 * (y a).val = (y a).val
    have := inb a
    omega)

/-- A load of the whole buffer reads its contents. -/
theorem load_full (v : View sig κ sp s e) (f : v.ty.Contents Val) {X : s.Idx → Val e} (hf : v.read Val f = X) {off : Fin s.rank → ℕ}
    (inb : ∀ a, off a + s.size a ≤ s.size a) : v.readAt Val (Rect.unit (s := s) off s.size inb).toLoadRect f = X := by
  subst hf
  exact funext fun y => congrArg (v.read Val f) (emb_full inb y)

/-- A store of the whole buffer leaves what was stored. -/
theorem store_full (v : View sig κ sp s e) (f : v.ty.Contents Val) {off : Fin s.rank → ℕ} (inb : ∀ a, off a + s.size a ≤ s.size a)
    (w : s.Idx → Val e) : v.read Val (v.writes Val f [⟨Rect.unit (s := s) off s.size inb, w⟩]) = w :=
  funext fun y => View.read_writes_cons_hit v f (Rect.unit (s := s) off s.size inb) w [] y y (emb_full inb y)

/-- A load of a slab of known contents. -/
theorem load_slab (v : View sig κ sp s e) (f : v.ty.Contents Val) {X : s.Idx → Val e} (hf : v.read Val f = X) {off off' size : Fin s.rank → ℕ}
    (inb : ∀ a, off a + size a ≤ s.size a) (h : off = off') (inb' : ∀ a, off' a + size a ≤ s.size a) :
    v.readAt Val (Rect.unit (s := s) off size inb).toLoadRect f = fun y => X ((Rect.unit (s := s) off' size inb').emb y) := by
  subst h hf
  rfl

/-- A load of the slab just stored. -/
theorem load_stored [∀ e, Nonempty (Val e)] (v : View sig κ sp s e) {off off' size : Fin s.rank → ℕ}
    (inb : ∀ a, off a + size a ≤ s.size a) (h : off = off') (inb' : ∀ a, off' a + size a ≤ s.size a)
    (w : (Rect.unit (s := s) off' size inb').shape.Idx → Val e) :
    v.readCov [⟨Rect.unit (s := s) off' size inb', w⟩] (Rect.unit (s := s) off size inb).toLoadRect = w := by
  subst h
  exact View.readCov_cons_toLoadRect v _ w []

/-- What a store of one slab leaves: the slab at what was stored, everything beside it as it was. -/
def Put {off size : Fin s.rank → ℕ} (inb : ∀ a, off a + size a ≤ s.size a) (X : s.Idx → Val e)
    (w : (Rect.unit (s := s) off size inb).shape.Idx → Val e) (X' : s.Idx → Val e) : Prop :=
  (∀ y, X' ((Rect.unit (s := s) off size inb).emb y) = w y) ∧ ∀ y, y ∉ (Rect.unit (s := s) off size inb).set → X' y = X y

theorem put (v : View sig κ sp s e) (f : v.ty.Contents Val) {X : s.Idx → Val e} (hf : v.read Val f = X) {off off' size : Fin s.rank → ℕ}
    (inb : ∀ a, off a + size a ≤ s.size a) (h : off = off') (inb' : ∀ a, off' a + size a ≤ s.size a)
    (w : (Rect.unit (s := s) off' size inb').shape.Idx → Val e) :
    Put inb' X w (v.read Val (v.writes Val f [⟨Rect.unit (s := s) off size inb, w⟩])) := by
  subst h hf
  exact ⟨fun y => View.read_writes_cons_emb v f _ w [] y, fun y hy => View.read_writes_cons_miss v f _ [] y hy⟩

end Cert.Slab

end
-- ==== Proof.WDownFrame.lean ====
/- The call that multiplies the hidden layer, transposed, by the gradient coming in: its run on any floats. The scratch
   keeps one slab for each block of hidden columns; the first eight grid points fill the slabs, the last eight add the
   second half of the rows to them and write them out. -/
module

public import proofs.«01_k».proof.Defs
public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import proofs.«01_k».proof.Proof.Slab
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.WDown

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)
open Cert.Kernel7Ideal Cert.Kernel7Ideal.Gen

variable {F : FTy → Type} [FloatOps F]

local notation "𝕄" => MT nD τ sig Unit (Elt F) ℕ (UR sig nD τ) ℕ

/-- Slab `j` of the scratch. -/
theorem slab_inb (j : Fin 8) : ∀ a, (![j.val, 0, 0] : Fin 3 → Nat) a + S1x512x1024.size a ≤ S8x512x1024.size a := by
  revert j; decide

abbrev slab (j : Fin 8) : Rect S8x512x1024 := Rect.unit (s := S8x512x1024) ![j.val, 0, 0] S1x512x1024.size (slab_inb j)

set_option maxHeartbeats 1000000 in
/-- The memory references the body is called with, and its two ways to run: at a point that stores its product in a slab, -/
theorem run_fill (c : Dev nD) (E : Set ℕ) (i : grid0.Coords) (arg2 : Memref sig .tc .vmem S4096x512 .bf16) (harg2 : arg2.IsWhole)
    (arg3 : Memref sig .tc .vmem S4096x1024 .bf16) (harg3 : arg3.IsWhole) (arg4 : Memref sig .tc .vmem S1x512x1024 .f32) (harg4 : arg4.IsWhole)
    (arg5 : Memref sig .tc .vmem S1x512x1024 .bf16) (harg5 : arg5.IsWhole) (arg6 : Memref sig .tc .vmem S8x512x1024 .f32) (harg6 : arg6.IsWhole)
    (h1 : k0_cond1 i = 1#1) (h2 : ¬ k0_cond2 i = 1#1) (h3 : ¬ k0_cond3 i = 1#1)
    (x0 : Vec F S4096x512 .bf16) (x1 : Vec F S4096x1024 .bf16) (X : Vec F S8x512x1024 .f32) (K : PUnit → sProp 𝕄) :
    iprop(owns (c : Thread nD τ) arg2 fullShare x0 ∗ owns (c : Thread nD τ) arg3 fullShare x1 ∗ owns (c : Thread nD τ) arg6 fullShare X
        ∗ (iprop(owns (c : Thread nD τ) arg2 fullShare x0 ∗ owns (c : Thread nD τ) arg3 fullShare x1
            ∗ (∃ X', ⌜Cert.Slab.Put (slab_inb (i 1)) X (k0_pay2 x0 x1) X'⌝ ∗ owns (c : Thread nD τ) arg6 fullShare X')) -∗ K ⟨⟩))
      ⊢ wp frame (wpE (defs₀ (F := F)) Variants.none c none) E (cc0_grad_w_down i arg2 harg2 arg3 harg3 arg4 harg4 arg5 harg5 arg6 harg6) K := by
  simp only [cc0_grad_w_down_eq_skeleton]; unfold cc0_grad_w_down_skel
  unfold owns
  iintro ⟨⟨%f0, %hf0, H0⟩, ⟨%f1, %hf1, H1⟩, ⟨%f6, %hf6, H6⟩, Hk⟩
  sl_exec (disch := first | sl_exact h1 | sl_exact h2 | sl_exact h3)
  sl_step
  iapply Hk
  isplitl [H0]
  · iexists _; isplitr; · ipureintro; exact hf0
    iexact H0
  isplitl [H1]
  · iexists _; isplitr; · ipureintro; exact hf1
    iexact H1
  iexists _; isplitr
  swap
  · iexists _; isplitr
    swap; · iexact H6
    ipureintro; rfl
  ipureintro
  rw [Cert.Slab.load_full arg2.view f0 hf0, Cert.Slab.load_full arg3.view f1 hf1]
  exact Cert.Slab.put arg6.view f6 hf6 _ (k0_off1_eq i) _ _

set_option maxHeartbeats 1000000 in
/-- and at a point that adds its product to a slab filled before and writes the sum out. -/
theorem run_add (c : Dev nD) (E : Set ℕ) (i : grid0.Coords) (arg2 : Memref sig .tc .vmem S4096x512 .bf16) (harg2 : arg2.IsWhole)
    (arg3 : Memref sig .tc .vmem S4096x1024 .bf16) (harg3 : arg3.IsWhole) (arg4 : Memref sig .tc .vmem S1x512x1024 .f32) (harg4 : arg4.IsWhole)
    (arg5 : Memref sig .tc .vmem S1x512x1024 .bf16) (harg5 : arg5.IsWhole) (arg6 : Memref sig .tc .vmem S8x512x1024 .f32) (harg6 : arg6.IsWhole)
    (h1 : ¬ k0_cond1 i = 1#1) (h2 : k0_cond2 i = 1#1) (h3 : k0_cond3 i = 1#1)
    (x0 : Vec F S4096x512 .bf16) (x1 : Vec F S4096x1024 .bf16) (X : Vec F S8x512x1024 .f32) (s : Vec F S1x512x1024 .f32)
    (hs : (fun y => X ((slab (i 1)).emb y)) = s) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ owns (c : Thread nD τ) arg6 fullShare X
        ∗ (iprop(owns (c : Thread nD τ) arg2 fullShare x0 ∗ owns (c : Thread nD τ) arg3 fullShare x1
            ∗ owns (c : Thread nD τ) arg4 fullShare (k0_pay4 (k0_pay3 x0 x1 s)) ∗ owns (c : Thread nD τ) arg5 fullShare (k0_pay5 (k0_pay3 x0 x1 s))
            ∗ (∃ X', ⌜Cert.Slab.Put (slab_inb (i 1)) X (k0_pay3 x0 x1 s) X'⌝ ∗ owns (c : Thread nD τ) arg6 fullShare X')) -∗ K ⟨⟩))
      ⊢ wp frame (wpE (defs₀ (F := F)) Variants.none c none) E (cc0_grad_w_down i arg2 harg2 arg3 harg3 arg4 harg4 arg5 harg5 arg6 harg6) K := by
  simp only [cc0_grad_w_down_eq_skeleton]; unfold cc0_grad_w_down_skel
  unfold owns
  iintro ⟨⟨%f0, %hf0, H0⟩, ⟨%f1, %hf1, H1⟩, ⟨%d4, %f4, -, H4⟩, ⟨%d5, %f5, -, H5⟩, ⟨%f6, %hf6, H6⟩, Hk⟩
  sl_exec (disch := first | sl_exact h1 | sl_exact h2 | sl_exact h3)
  sl_step
  unfold run_add.sl.v15 run_add.sl.H6_1
  rw [Cert.Slab.load_full arg2.view f0 hf0, Cert.Slab.load_full arg3.view f1 hf1,
    Cert.Slab.load_slab arg6.view f6 hf6 _ (k0_off2_eq i) (slab_inb (i 1)), hs,
    Cert.Slab.load_stored arg6.view _ ((k0_off3_eq i).trans (k0_off2_eq i).symm) _ _]
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro; exact Cert.Slab.store_full arg4.view f4 _ _
  isplitl [H5]
  · iexists _; isplitr
    swap; · iexact H5
    ipureintro; exact Cert.Slab.store_full arg5.view f5 _ _
  iexists _; isplitr
  swap
  · iexists _; isplitr
    swap; · iexact H6
    ipureintro; rfl
  ipureintro
  exact Cert.Slab.put arg6.view f6 hf6 _ (k0_off2_eq i) _ _

/-! ## The proof data -/

variable (m : (ℓ : Loc nD τ sig) → Buf (Elt F) ℓ) (ρ : Dev nD → PrngReg)

/-- The buffers when the region is entered: the two arguments cast on the host. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host writes neither argument. -/
theorem V_arg (c : Dev nD) : V m c main_arg0 = m ((c : Thread nD τ).loc main_arg0) ∧ V m c main_arg1 = m ((c : Thread nD τ).loc main_arg1) := by
  constructor <;>
  · refine StableHlo.after_of_forall_not_mem _ _ (List.forall_iff_forall_mem.mp ?_)
    simp only [hostOps0, List.Forall, StableHlo.unary_writes, Finset.mem_singleton]
    repeat' apply And.intro
    all_goals exact StableHlo.devRef_ne_of_ne (by decide)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point of the first sweep that fills the slab point `t` works on. -/
def first (t : Fin cfg0.N) : Fin cfg0.N := ⟨t.val % 8, lt_of_lt_of_eq (by omega) N_0.symm⟩

/-- What point `t` stores in its slab in the first sweep, -/
def part (c : Dev nD) (t : Fin cfg0.N) : Vec F S1x512x1024 .f32 := k0_pay2 (iblk m c 0 t) (iblk m c 1 t)

/-- and what it leaves there in the second. -/
def total (c : Dev nD) (t : Fin cfg0.N) : Vec F S1x512x1024 .f32 := k0_pay3 (iblk m c 0 t) (iblk m c 1 t) (part m c (first t))

/-- What the scratch holds before point `n`: each slab filled and not yet added to holds its first product. -/
def Filled (c : Dev nD) (n : ℕ) (X : Vec F S8x512x1024 .f32) : Prop :=
  ∀ t : Fin cfg0.N, t.val < 8 → t.val < n → n ≤ t.val + 8 → (fun y => X ((slab (grid0.coords t 1)).emb y)) = part m c t

/-- The invariant before point `n`: the scratch so filled, the generator register at anything. -/
def Held (c : Dev nD) (n : ℕ) : sProp 𝕄 :=
  iprop((∃ X, ⌜Filled m c n X⌝ ∗ owns (c : Thread nD τ) (Memref.whole cc0_scratch0) fullShare X) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay4 (total m c t)
    | ⟨3, _⟩ => k0_pay5 (total m c t)
  Φ n := Held m c n.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay4 (total m c t) := by dsimp only [dats]
theorem after_3 (c : Dev nD) (t : Fin cfg0.N) : (dats m 0 c).after 3 t = k0_pay5 (total m c t) := by dsimp only [dats]

/-- The inputs' buffers hold their blocks at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]) t d).trans
    (by unfold Dat.fetched Dat.blockOf iblk; rw [A_eq]; try rfl)

/-! ## The body at a point -/

/-- Which branches a point takes, and that the outputs are left alone in the first sweep only. -/
theorem conds : ∀ t : Fin cfg0.N, (t.val < 8 → k0_cond1 (grid0.coords t) = 1#1 ∧ ¬ k0_cond2 (grid0.coords t) = 1#1 ∧ ¬ k0_cond3 (grid0.coords t) = 1#1)
    ∧ (8 ≤ t.val → ¬ k0_cond1 (grid0.coords t) = 1#1 ∧ k0_cond2 (grid0.coords t) = 1#1 ∧ k0_cond3 (grid0.coords t) = 1#1) :=
  (by decide +kernel : ∀ t : Fin grid0.N, _)

theorem quiet : ∀ t : Fin cfg0.N, t.val < 8 → (cfg0.win 2).flush t = false ∧ (cfg0.win 3).flush t = false :=
  (by decide +kernel : ∀ t : Fin grid0.N, t.val < 8 → win0_2.flush t = false ∧ win0_3.flush t = false)

theorem idles : ∀ t : Fin cfg0.N, (t.val < 8 → cfg0.idle 2 (cfg0.grid.coords t) = true ∧ cfg0.idle 3 (cfg0.grid.coords t) = true)
    ∧ (8 ≤ t.val → cfg0.idle 2 (cfg0.grid.coords t) = false ∧ cfg0.idle 3 (cfg0.grid.coords t) = false) :=
  (by decide +kernel : ∀ t : Fin grid0.N, (t.val < 8 → idle0 2 (grid0.coords t) = true ∧ idle0 3 (grid0.coords t) = true)
    ∧ (8 ≤ t.val → idle0 2 (grid0.coords t) = false ∧ idle0 3 (grid0.coords t) = false))

theorem coord : ∀ t : Fin cfg0.N, (grid0.coords t 1).val = t.val % 8 := (by decide +kernel : ∀ t : Fin grid0.N, _)

theorem t_lt (t : Fin cfg0.N) : t.val < 16 := lt_of_lt_of_eq t.isLt N_0

/-- Two slabs do not meet. -/
theorem apart {j k : Fin 8} (h : j.val ≠ k.val) (y : (slab j).shape.Idx) : (slab j).emb y ∉ (slab k).set := by
  refine Rect.not_mem_set_of_axis _ _ 0 k.val 1 rfl rfl rfl ?_
  have e : ((slab j).emb y 0).val = j.val + 1 * (y 0).val := rfl
  have : (y 0).val < 1 := (y 0).isLt
  omega

/-- A slab that a point does not store stays filled. -/
theorem keep {c : Dev nD} {t u : Fin cfg0.N} {X X' : Vec F S8x512x1024 .f32} {w : Vec F S1x512x1024 .f32}
    (hp : Cert.Slab.Put (slab_inb (grid0.coords t 1)) X w X') (hne : t.val % 8 ≠ u.val % 8)
    (h : (fun y => X ((slab (grid0.coords u 1)).emb y)) = part m c u) : (fun y => X' ((slab (grid0.coords u 1)).emb y)) = part m c u := by
  rw [← h]
  refine funext fun y => hp.2 _ (apart ?_ y)
  rw [coord, coord]
  exact fun e => hne e.symm

theorem filled_fill {c : Dev nD} {t : Fin cfg0.N} (ht : t.val < 8) {X X' : Vec F S8x512x1024 .f32} (h : Filled m c t.val X)
    (hp : Cert.Slab.Put (slab_inb (grid0.coords t 1)) X (part m c t) X') : Filled m c (t.val + 1) X' := by
  intro u hu hlt hle
  by_cases e : u = t
  · subst e
    exact funext hp.1
  · have : u.val ≠ t.val := fun h => e (Fin.ext h)
    exact keep m hp (by omega) (h u hu (by omega) (by omega))

theorem filled_add {c : Dev nD} {t : Fin cfg0.N} (ht : 8 ≤ t.val) {X X' : Vec F S8x512x1024 .f32} {w : Vec F S1x512x1024 .f32} (h : Filled m c t.val X)
    (hp : Cert.Slab.Put (slab_inb (grid0.coords t 1)) X w X') : Filled m c (t.val + 1) X' := by
  intro u hu hlt hle
  have := t_lt t
  exact keep m hp (by omega) (h u hu (by omega) (by omega))

theorem filled_read {c : Dev nD} {t : Fin cfg0.N} (ht : 8 ≤ t.val) {X : Vec F S8x512x1024 .f32} (h : Filled m c t.val X) :
    (fun y => X ((slab (grid0.coords t 1)).emb y)) = part m c (first t) := by
  have := t_lt t
  have hv : (first t).val = t.val % 8 := rfl
  have e : grid0.coords (first t) 1 = grid0.coords t 1 := Fin.ext (by rw [coord, coord, hv]; omega)
  rw [← e]
  exact h (first t) (by omega) (by omega) (by omega)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (dats m 0 c).leaves 2 t ∗ (dats m 0 c).leaves 3 t)

theorem leaves_2 (c : Dev nD) (t : Fin cfg0.N) (ht : 8 ≤ t.val) :
    (dats m 0 c).leaves 2 t = owns (c : Thread nD τ) (st0_2 t) fullShare (k0_pay4 (total m c t)) := by
  rw [← after_2]; unfold Dat.leaves; rw [((idles t).2 ht).1]
theorem leaves_3 (c : Dev nD) (t : Fin cfg0.N) (ht : 8 ≤ t.val) :
    (dats m 0 c).leaves 3 t = owns (c : Thread nD τ) (st0_3 t) fullShare (k0_pay5 (total m c t)) := by
  rw [← after_3]; unfold Dat.leaves; rw [((idles t).2 ht).2]

theorem phi_pre (c : Dev nD) (t : Fin cfg0.N) : (dats m 0 c).Φ t.castSucc = Held m c t.val := rfl
theorem phi_post (c : Dev nD) (t : Fin cfg0.N) : (dats m 0 c).Φ t.succ = Held m c (t.val + 1) := rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [phi_pre, phi_post, show (dats m 0 c).owesAt () t.succ = (dats m 0 c).owesAt () t.castSucc from rfl, after_0, after_1]
  unfold Held
  by_cases ht : t.val < 8
  · obtain ⟨h1, h2, h3⟩ := (conds t).1 ht
    rw [(dats m 0 c).leaves_idle 2 t ((idles t).1 ht).1 (quiet t ht).1, (dats m 0 c).leaves_idle 3 t ((idles t).1 ht).2 (quiet t ht).2]
    iintro ⟨⟨⟨%X, %hX, HX⟩, Hr⟩, Ho, ⟨%d0, H0⟩, ⟨%d1, H1⟩, H2, H3⟩
    iapply (run_fill c Set.univ (grid0.coords t) _ _ _ _ _ _ _ _ _ _ h1 h2 h3 (iblk m c 0 t) (iblk m c 1 t) X _)
    isplitl [H0]; · iexact H0
    isplitl [H1]; · iexact H1
    isplitl [HX]; · iexact HX
    iintro ⟨H0, H1, ⟨%X', %hp, HX⟩⟩
    isplitl [HX Hr]
    · isplitl [HX]
      · iexists X'; isplitr
        · ipureintro; exact filled_fill m ht hX hp
        iexact HX
      iexact Hr
    isplitl [Ho]; · iexact Ho
    isplitl [H0]; · iexact H0
    isplitl [H1]; · iexact H1
    isplitl [H2]; · iexact H2
    iexact H3
  · have ht : 8 ≤ t.val := not_lt.mp ht
    obtain ⟨h1, h2, h3⟩ := (conds t).2 ht
    rw [leaves_2 m c t ht, leaves_3 m c t ht]
    iintro ⟨⟨⟨%X, %hX, HX⟩, Hr⟩, Ho, ⟨%d0, H0⟩, ⟨%d1, H1⟩, ⟨%d2, H2⟩, ⟨%d3, H3⟩⟩
    iapply (run_add c Set.univ (grid0.coords t) _ _ _ _ _ _ _ _ _ _ h1 h2 h3 (iblk m c 0 t) (iblk m c 1 t) X (part m c (first t)) (filled_read m ht hX) _)
    isplitl [H0]; · iexact H0
    isplitl [H1]; · iexact H1
    isplitl [H2]; · iexists _; iexact H2
    isplitl [H3]; · iexists _; iexact H3
    isplitl [HX]; · iexact HX
    iintro ⟨H0, H1, H2, H3, ⟨%X', %hp, HX⟩⟩
    isplitl [HX Hr]
    · isplitl [HX]
      · iexists X'; isplitr
        · ipureintro; exact filled_add m ht hX hp
        iexact HX
      iexact Hr
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact sound_body m c t

/-! ## The run -/

theorem enter (c : Dev nD) : Pipeline.ΦA spec0 c ⊢ (dats (F := F) m 0 c).Φ 0 := by
  show _ ⊢ Held m c 0
  unfold Held Pipeline.ΦA
  rw [scopedRest0_eq]
  iintro ⟨⟨%f, H⟩, Hr⟩
  isplitl [H]
  · iexists f; isplitr
    · ipureintro; intro t _ h; exact absurd h (Nat.not_lt_zero _)
    rw [owns_whole]; iexact H
  iexact Hr

theorem exit (c : Dev nD) : (dats (F := F) m 0 c).Φ (Fin.last cfg0.N) ⊢ Pipeline.ΦA spec0 c := by
  show Held m c _ ⊢ _
  unfold Held Pipeline.ΦA
  rw [scopedRest0_eq]
  simp only [owns_whole]
  iintro ⟨⟨%X, -, H⟩, Hr⟩
  isplitl [H]
  · iexists X; iexact H
  iexact Hr

set_option backward.isDefEq.respectTransparency.types false in
set_option maxHeartbeats 800000 in
/-- Every run of the program ends with its results at what the proof data say and all counters at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := enter m) (hout := exit m)

/-- The results named, the arguments as they were, the counters at zero. -/
theorem run_blocks : θ_run defs (onTc (τ := τ) (main (F := F))) ⟨m, fun _ => 0, ρ⟩ (fun r => (∀ c : Dev nD,
      r.2.mem ((c : Thread nD τ).loc main_v2_0) = (dats m 0 c).arrAt 2 cfg0.N
      ∧ r.2.mem ((c : Thread nD τ).loc main_v2_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c).1 2, (h.1 c).1 3,
      ((h.1 c).2 main_arg0 (Pipeline.mem_restRefs_of main_arg0 (by decide) (by decide))).trans (V_arg m c).1,
      ((h.1 c).2 main_arg1 (Pipeline.mem_restRefs_of main_arg1 (by decide) (by decide))).trans (V_arg m c).2⟩, h.2⟩) (run_main m ρ)

/-- The program leaves its arguments as they were and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2.2, h.2⟩) (run_blocks m ρ)

end Cert.WDown

end
-- ==== Proof.WDown.lean ====
/- The gradient of the MLP's second weight: each block of the two results is the sum over the two halves of the rows, which is
   the reference's gradient, cut into the same blocks. -/
module

public import proofs.«01_k».proof.Defs
public import proofs.«01_k».proof.Proof.Scalars
public import proofs.«01_k».proof.Proof.WDownFrame
public import proofs.«01_k».proof.Proof.Gen.Kernel7
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384

noncomputable section

namespace Cert.WDown

open Idealize.ShloMosaic Idealize.ShloMosaic.TcCoe Idealize.SL.Sem
open Cert.Kernel7Ideal Cert.Kernel7Ideal.Gen Cert.Reference7Ideal.Read
open scoped BigOperators

theorem pay2 (b0 : FVec Ideal S4096x512 .bf16) (b1 : FVec Ideal S4096x1024 .bf16) (z : Fin 1) (r : Fin 512) (l : Fin 1024) :
    k0_pay2 (F := Ideal) b0 b1 (ix3 z r l) = ∑ k : Fin 4096, b0 (ix2 k r) * b1 (ix2 k l) := by
  obtain rfl : z = 0 := Subsingleton.elim _ _
  pointwise [k0_pay2, k0_pay1]

/-- The second sweep's step: what the slab held plus the point's products. -/
theorem pay3 (b0 : FVec Ideal S4096x512 .bf16) (b1 : FVec Ideal S4096x1024 .bf16) (X : FVec Ideal S1x512x1024 .f32) (z : Fin 1) (r : Fin 512) (l : Fin 1024) :
    k0_pay3 (F := Ideal) b0 b1 X (ix3 z r l) = X (ix3 z r l) + ∑ k : Fin 4096, b0 (ix2 k r) * b1 (ix2 k l) := by
  obtain rfl : z = 0 := Subsingleton.elim _ _
  pointwise [k0_pay3, k0_pay1]

theorem pay4 (X : FVec Ideal S1x512x1024 .f32) (z : Fin 1) (r : Fin 512) (l : Fin 1024) : k0_pay4 (F := Ideal) X (ix3 z r l) = X (ix3 z r l) := by
  obtain rfl : z = 0 := Subsingleton.elim _ _
  pointwise [k0_pay4]

theorem pay5 (X : FVec Ideal S1x512x1024 .f32) (z : Fin 1) (r : Fin 512) (l : Fin 1024) : k0_pay5 (F := Ideal) X (ix3 z r l) = X (ix3 z r l) := by
  obtain rfl : z = 0 := Subsingleton.elim _ _
  pointwise [k0_pay5]

variable (m : (ℓ : Loc nD τ sig) → Buf (Elt Ideal) ℓ) (c : Dev nD)

/-- The arguments as launched: the gradient coming in and the hidden layer. -/
def x0 : FVec Ideal S8192x1024 .f32 := m ((c : Thread nD τ).loc main_arg0)
def x1 : FVec Ideal S8192x4096 .f32 := m ((c : Thread nD τ).loc main_arg1)

/-- The block maps: half `t / 8` of the rows, block `t % 8` of the hidden columns; in the second sweep block `t % 8` of the results. -/
theorem idx : ∀ t : Fin cfg0.N, win0_0.index t = ![t.val / 8, t.val % 8] ∧ win0_1.index t = ![t.val / 8, 0] :=
  (by decide +kernel : ∀ t : Fin grid0.N, _)

theorem idxOut : ∀ t : Fin cfg0.N, 8 ≤ t.val → win0_2.index t = ![t.val % 8, 0, 0] ∧ win0_3.index t = ![t.val % 8, 0, 0] :=
  (by decide +kernel : ∀ t : Fin grid0.N, _)

variable (t : Fin cfg0.N)

def row (k : Fin 4096) : Fin 8192 := ⟨4096 * (t.val / 8) + k.val, by have := t_lt t; omega⟩
def col (r : Fin 512) : Fin 4096 := ⟨t.val % 8 * 512 + r.val, by omega⟩
def slot : Fin 8 := ⟨t.val % 8, by omega⟩

theorem at0 (k : Fin 4096) (r : Fin 512) :
    (show FVec Ideal S4096x512 .bf16 from iblk m c 0 t) (ix2 k r) = x1 m c (ix2 (row t k) (col t r)) := by
  unfold row col x1
  blk_simp [iblk, idx t]
  entry_read
  pointwise
  blk_ext [idx t]

theorem at1 (k : Fin 4096) (l : Fin 1024) :
    (show FVec Ideal S4096x1024 .bf16 from iblk m c 1 t) (ix2 k l) = x0 m c (ix2 (row t k) l) := by
  unfold row x0
  blk_simp [iblk, idx t]
  entry_read
  pointwise
  blk_ext [idx t]

theorem prod_eq (r : Fin 512) (l : Fin 1024) :
    (∑ k : Fin 4096, (show FVec Ideal S4096x512 .bf16 from iblk m c 0 t) (ix2 k r) * (show FVec Ideal S4096x1024 .bf16 from iblk m c 1 t) (ix2 k l) : EReal)
      = ∑ k : Fin 4096, x0 m c (ix2 (row t k) l) * x1 m c (ix2 (row t k) (col t r)) :=
  Finset.sum_congr rfl fun k _ => (congrArg₂ (· * ·) (at0 m c t k r) (at1 m c t k l)).trans (mul_comm _ _)

/-- What a point of the second sweep leaves in its slab: the sum over all rows. -/
theorem total_eq (ht : 8 ≤ t.val) (z : Fin 1) (r : Fin 512) (l : Fin 1024) : total (F := Ideal) m c t (ix3 z r l)
    = ∑ k : Fin 8192, x0 m c (ix2 k l) * x1 m c (ix2 k (col t r)) := by
  have hl := t_lt t
  have hv : (first t).val = t.val % 8 := rfl
  refine (pay3 _ _ _ z r l).trans ((congrArg₂ (· + ·) ((pay2 _ _ z r l).trans (prod_eq m c (first t) r l)) (prod_eq m c t r l)).trans ?_)
  refine Eq.trans (congrArg₂ (· + ·) ?_ ?_) ((Fin.sum_univ_two fun s : Fin 2 => ∑ k : Fin 4096,
    x0 m c (ix2 ⟨s.val * 4096 + k.val, by omega⟩ l) * x1 m c (ix2 ⟨s.val * 4096 + k.val, by omega⟩ (col t r))).symm.trans
    (Fin.sum_mul_add_congr fun _ _ _ => rfl))
  · refine Finset.sum_congr rfl fun k _ => ?_
    have e : row (first t) k = ⟨(0 : Fin 2).val * 4096 + k.val, by simp; omega⟩ := Fin.ext (by
      show 4096 * ((t.val % 8) / 8) + k.val = 0 * 4096 + k.val; omega)
    have e' : col (first t) r = col t r := Fin.ext (by
      show t.val % 8 % 8 * 512 + r.val = t.val % 8 * 512 + r.val; omega)
    rw [e, e']
  · refine Finset.sum_congr rfl fun k _ => ?_
    have e : row t k = ⟨(1 : Fin 2).val * 4096 + k.val, by simp; omega⟩ := Fin.ext (by
      show 4096 * (t.val / 8) + k.val = 1 * 4096 + k.val; omega)
    rw [e]

/-- The reference's gradient at an entry. -/
theorem ref4 (j : Fin 8) (r : Fin 512) (l : Fin 1024) : val_main_v4 (F := Ideal) (x0 m c) (x1 m c) (ix3 j r l)
    = ∑ k : Fin 8192, x0 m c (ix2 k l) * x1 m c (ix2 k ⟨j.val * 512 + r.val, by omega⟩) := by
  pointwise [val_main_v4, val_main_v3, val_main_v2]

theorem ref5 (j : Fin 8) (r : Fin 512) (l : Fin 1024) : val_main_v5 (F := Ideal) (x0 m c) (x1 m c) (ix3 j r l)
    = val_main_v4 (F := Ideal) (x0 m c) (x1 m c) (ix3 j r l) := by
  pointwise [val_main_v5]

/-- The results are written back in the second sweep only. -/
theorem late (hf : (cfg0.win 2).flush t = true ∨ (cfg0.win 3).flush t = true) : 8 ≤ t.val := by
  by_contra h
  have := quiet t (by omega)
  simp_all

theorem final2 : (dats m 0 c).arrAt 2 (cfgs 0).N = val_main_v4 (F := Ideal) (x0 m c) (x1 m c) := by
  refine (dats m 0 c).arrAt_eq_of_covers 2 _ (by decide +kernel) fun t hf y => ?_
  have ht := late t (.inl hf)
  blk_simp
  rw [after_2]
  idx_vars y
  have e : ((View.whole main_v2_0).slice (win0_2.rect t)).emb (ix3 y0 y1 y2) = ix3 (slot t) y1 y2 := by
    unfold slot
    blk_ext [idxOut t ht]
  rw [e, ref4]
  exact (pay4 _ _ _ _).trans (total_eq m c t ht y0 y1 y2)

theorem final3 : (dats m 0 c).arrAt 3 (cfgs 0).N = val_main_v5 (F := Ideal) (x0 m c) (x1 m c) := by
  refine (dats m 0 c).arrAt_eq_of_covers 3 _ (by decide +kernel) fun t hf y => ?_
  have ht := late t (.inr hf)
  blk_simp
  rw [after_3]
  idx_vars y
  have e : ((View.whole main_v2_1).slice (win0_3.rect t)).emb (ix3 y0 y1 y2) = ix3 (slot t) y1 y2 := by
    unfold slot
    blk_ext [idxOut t ht]
  rw [e, ref5, ref4]
  exact (pay5 _ _ _ _).trans (total_eq m c t ht y0 y1 y2)

/-- The program and its idealization have the same text, so over the same floats they run the same functions. -/
theorem body_same : Cert.Kernel7.defs₀ (F := Bits) = Cert.Kernel7Ideal.defs₀ (F := Bits) := by
  refine congrArg Defs.onTc (funext fun l => funext fun x => ?_)
  match l, x with
  | ⟨0, _⟩, (t, s) => rfl

theorem defs_same : Cert.Kernel7.defs (F := Bits) = Cert.Kernel7Ideal.defs (F := Bits) :=
  congrArg (Pipeline.defs (Cert.Kernel7Ideal.pcfgs (F := Bits))) body_same

/-- The program leaves its arguments as they were and its counters at zero, -/
theorem frameKernel : Cert.quiescent_Kernel7 (hKernel7 := Cert.Kernel7.Gen.facts) := fun m ρ _ => by
  rw [defs_same]
  exact frame (F := Bits) m ρ

/-- and so does its idealization. -/
theorem frameIdeal : Cert.quiescent_Kernel7Ideal (hKernel7Ideal := Cert.Kernel7Ideal.Gen.facts) := fun m ρ _ =>
  frame (F := Ideal) m ρ

/-- The reference leaves its arguments as they were; it has no semaphores. -/
theorem frameRef : Cert.quiescent_Reference7Ideal (hReference7Ideal := Cert.Reference7Ideal.Gen.facts) := fun m ρ _ =>
  (θ_run (Cert.Reference7Ideal.defs (F := Ideal)) _ _).mono
    (fun r h => ⟨fun c => (h c).2.2, sem_eq_zero_of_no_sems (by decide) r.2⟩)
    (Cert.Reference7Ideal.Value.run (F := Ideal) m ρ)

/-- The two programs' results are equal. -/
theorem algebraic : Cert.algebraic_Kernel7Ideal_Reference7Ideal (hKernel7Ideal := Cert.Kernel7Ideal.Gen.facts)
    (hReference7Ideal := Cert.Reference7Ideal.Gen.facts) := by
  pair_intro
  · run_from run_blocks m g
  · run_from Cert.Reference7Ideal.Value.run m' g'
    · exact (val_main_v4_eq _ _).trans (final2 m c).symm
    · exact (val_main_v5_eq _ _).trans (final3 m c).symm

end Cert.WDown

end
-- ==== Proof.WUpFrame.lean ====
/- The call that multiplies the MLP's input, transposed, by the hidden layer's gradient: its run on any floats. The scratch
   keeps one slab for each block of hidden columns; the first eight grid points fill the slabs, the last eight add the
   second half of the rows to them and write them out. -/
module

public import proofs.«01_k».proof.Defs
public import proofs.«01_k».proof.Proof.Gen.Kernel8Ideal.Launch
public import proofs.«01_k».proof.Proof.Gen.Kernel8Ideal.Skeleton
public import proofs.«01_k».proof.Proof.Gen.Kernel8Ideal.Points
public import Idealize.ShloMosaic.Lib.Pipeline.FrameBody
public import proofs.«01_k».proof.Proof.Slab
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.WUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)
open Cert.Kernel8Ideal Cert.Kernel8Ideal.Gen

variable {F : FTy → Type} [FloatOps F]

local notation "𝕄" => MT nD τ sig Unit (Elt F) ℕ (UR sig nD τ) ℕ

/-- Slab `j` of the scratch. -/
theorem slab_inb (j : Fin 8) : ∀ a, (![j.val, 0, 0] : Fin 3 → Nat) a + S1x1024x512.size a ≤ S8x1024x512.size a := by
  revert j; decide

abbrev slab (j : Fin 8) : Rect S8x1024x512 := Rect.unit (s := S8x1024x512) ![j.val, 0, 0] S1x1024x512.size (slab_inb j)

set_option maxHeartbeats 1000000 in
/-- The memory references the body is called with, and its two ways to run: at a point that stores its product in a slab, -/
theorem run_fill (c : Dev nD) (E : Set ℕ) (i : grid0.Coords) (arg2 : Memref sig .tc .vmem S4096x1024 .bf16) (harg2 : arg2.IsWhole)
    (arg3 : Memref sig .tc .vmem S4096x512 .bf16) (harg3 : arg3.IsWhole) (arg4 : Memref sig .tc .vmem S1x1024x512 .f32) (harg4 : arg4.IsWhole)
    (arg5 : Memref sig .tc .vmem S1x1024x512 .bf16) (harg5 : arg5.IsWhole) (arg6 : Memref sig .tc .vmem S8x1024x512 .f32) (harg6 : arg6.IsWhole)
    (h1 : k0_cond1 i = 1#1) (h2 : ¬ k0_cond2 i = 1#1) (h3 : ¬ k0_cond3 i = 1#1)
    (x0 : Vec F S4096x1024 .bf16) (x1 : Vec F S4096x512 .bf16) (X : Vec F S8x1024x512 .f32) (K : PUnit → sProp 𝕄) :
    iprop(owns (c : Thread nD τ) arg2 fullShare x0 ∗ owns (c : Thread nD τ) arg3 fullShare x1 ∗ owns (c : Thread nD τ) arg6 fullShare X
        ∗ (iprop(owns (c : Thread nD τ) arg2 fullShare x0 ∗ owns (c : Thread nD τ) arg3 fullShare x1
            ∗ (∃ X', ⌜Cert.Slab.Put (slab_inb (i 1)) X (k0_pay2 x0 x1) X'⌝ ∗ owns (c : Thread nD τ) arg6 fullShare X')) -∗ K ⟨⟩))
      ⊢ wp frame (wpE (defs₀ (F := F)) Variants.none c none) E (cc0_grad_w_up i arg2 harg2 arg3 harg3 arg4 harg4 arg5 harg5 arg6 harg6) K := by
  simp only [cc0_grad_w_up_eq_skeleton]; unfold cc0_grad_w_up_skel
  unfold owns
  iintro ⟨⟨%f0, %hf0, H0⟩, ⟨%f1, %hf1, H1⟩, ⟨%f6, %hf6, H6⟩, Hk⟩
  sl_exec (disch := first | sl_exact h1 | sl_exact h2 | sl_exact h3)
  sl_step
  iapply Hk
  isplitl [H0]
  · iexists _; isplitr; · ipureintro; exact hf0
    iexact H0
  isplitl [H1]
  · iexists _; isplitr; · ipureintro; exact hf1
    iexact H1
  iexists _; isplitr
  swap
  · iexists _; isplitr
    swap; · iexact H6
    ipureintro; rfl
  ipureintro
  rw [Cert.Slab.load_full arg2.view f0 hf0, Cert.Slab.load_full arg3.view f1 hf1]
  exact Cert.Slab.put arg6.view f6 hf6 _ (k0_off1_eq i) _ _

set_option maxHeartbeats 1000000 in
/-- and at a point that adds its product to a slab filled before and writes the sum out. -/
theorem run_add (c : Dev nD) (E : Set ℕ) (i : grid0.Coords) (arg2 : Memref sig .tc .vmem S4096x1024 .bf16) (harg2 : arg2.IsWhole)
    (arg3 : Memref sig .tc .vmem S4096x512 .bf16) (harg3 : arg3.IsWhole) (arg4 : Memref sig .tc .vmem S1x1024x512 .f32) (harg4 : arg4.IsWhole)
    (arg5 : Memref sig .tc .vmem S1x1024x512 .bf16) (harg5 : arg5.IsWhole) (arg6 : Memref sig .tc .vmem S8x1024x512 .f32) (harg6 : arg6.IsWhole)
    (h1 : ¬ k0_cond1 i = 1#1) (h2 : k0_cond2 i = 1#1) (h3 : k0_cond3 i = 1#1)
    (x0 : Vec F S4096x1024 .bf16) (x1 : Vec F S4096x512 .bf16) (X : Vec F S8x1024x512 .f32) (s : Vec F S1x1024x512 .f32)
    (hs : (fun y => X ((slab (i 1)).emb y)) = s) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ owns (c : Thread nD τ) arg6 fullShare X
        ∗ (iprop(owns (c : Thread nD τ) arg2 fullShare x0 ∗ owns (c : Thread nD τ) arg3 fullShare x1
            ∗ owns (c : Thread nD τ) arg4 fullShare (k0_pay4 (k0_pay3 x0 x1 s)) ∗ owns (c : Thread nD τ) arg5 fullShare (k0_pay5 (k0_pay3 x0 x1 s))
            ∗ (∃ X', ⌜Cert.Slab.Put (slab_inb (i 1)) X (k0_pay3 x0 x1 s) X'⌝ ∗ owns (c : Thread nD τ) arg6 fullShare X')) -∗ K ⟨⟩))
      ⊢ wp frame (wpE (defs₀ (F := F)) Variants.none c none) E (cc0_grad_w_up i arg2 harg2 arg3 harg3 arg4 harg4 arg5 harg5 arg6 harg6) K := by
  simp only [cc0_grad_w_up_eq_skeleton]; unfold cc0_grad_w_up_skel
  unfold owns
  iintro ⟨⟨%f0, %hf0, H0⟩, ⟨%f1, %hf1, H1⟩, ⟨%d4, %f4, -, H4⟩, ⟨%d5, %f5, -, H5⟩, ⟨%f6, %hf6, H6⟩, Hk⟩
  sl_exec (disch := first | sl_exact h1 | sl_exact h2 | sl_exact h3)
  sl_step
  unfold run_add.sl.v15 run_add.sl.H6_1
  rw [Cert.Slab.load_full arg2.view f0 hf0, Cert.Slab.load_full arg3.view f1 hf1,
    Cert.Slab.load_slab arg6.view f6 hf6 _ (k0_off2_eq i) (slab_inb (i 1)), hs,
    Cert.Slab.load_stored arg6.view _ ((k0_off3_eq i).trans (k0_off2_eq i).symm) _ _]
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro; exact Cert.Slab.store_full arg4.view f4 _ _
  isplitl [H5]
  · iexists _; isplitr
    swap; · iexact H5
    ipureintro; exact Cert.Slab.store_full arg5.view f5 _ _
  iexists _; isplitr
  swap
  · iexists _; isplitr
    swap; · iexact H6
    ipureintro; rfl
  ipureintro
  exact Cert.Slab.put arg6.view f6 hf6 _ (k0_off2_eq i) _ _

/-! ## The proof data -/

variable (m : (ℓ : Loc nD τ sig) → Buf (Elt F) ℓ) (ρ : Dev nD → PrngReg)

/-- The buffers when the region is entered: the two arguments cast on the host. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host writes neither argument. -/
theorem V_arg (c : Dev nD) : V m c main_arg0 = m ((c : Thread nD τ).loc main_arg0) ∧ V m c main_arg1 = m ((c : Thread nD τ).loc main_arg1) := by
  constructor <;>
  · refine StableHlo.after_of_forall_not_mem _ _ (List.forall_iff_forall_mem.mp ?_)
    simp only [hostOps0, List.Forall, StableHlo.unary_writes, Finset.mem_singleton]
    repeat' apply And.intro
    all_goals exact StableHlo.devRef_ne_of_ne (by decide)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point of the first sweep that fills the slab point `t` works on. -/
def first (t : Fin cfg0.N) : Fin cfg0.N := ⟨t.val % 8, lt_of_lt_of_eq (by omega) N_0.symm⟩

/-- What point `t` stores in its slab in the first sweep, -/
def part (c : Dev nD) (t : Fin cfg0.N) : Vec F S1x1024x512 .f32 := k0_pay2 (iblk m c 0 t) (iblk m c 1 t)

/-- and what it leaves there in the second. -/
def total (c : Dev nD) (t : Fin cfg0.N) : Vec F S1x1024x512 .f32 := k0_pay3 (iblk m c 0 t) (iblk m c 1 t) (part m c (first t))

/-- What the scratch holds before point `n`: each slab filled and not yet added to holds its first product. -/
def Filled (c : Dev nD) (n : ℕ) (X : Vec F S8x1024x512 .f32) : Prop :=
  ∀ t : Fin cfg0.N, t.val < 8 → t.val < n → n ≤ t.val + 8 → (fun y => X ((slab (grid0.coords t 1)).emb y)) = part m c t

/-- The invariant before point `n`: the scratch so filled, the generator register at anything. -/
def Held (c : Dev nD) (n : ℕ) : sProp 𝕄 :=
  iprop((∃ X, ⌜Filled m c n X⌝ ∗ owns (c : Thread nD τ) (Memref.whole cc0_scratch0) fullShare X) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay4 (total m c t)
    | ⟨3, _⟩ => k0_pay5 (total m c t)
  Φ n := Held m c n.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay4 (total m c t) := by dsimp only [dats]
theorem after_3 (c : Dev nD) (t : Fin cfg0.N) : (dats m 0 c).after 3 t = k0_pay5 (total m c t) := by dsimp only [dats]

/-- The inputs' buffers hold their blocks at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]) t d).trans
    (by unfold Dat.fetched Dat.blockOf iblk; rw [A_eq]; try rfl)

/-! ## The body at a point -/

/-- Which branches a point takes, and that the outputs are left alone in the first sweep only. -/
theorem conds : ∀ t : Fin cfg0.N, (t.val < 8 → k0_cond1 (grid0.coords t) = 1#1 ∧ ¬ k0_cond2 (grid0.coords t) = 1#1 ∧ ¬ k0_cond3 (grid0.coords t) = 1#1)
    ∧ (8 ≤ t.val → ¬ k0_cond1 (grid0.coords t) = 1#1 ∧ k0_cond2 (grid0.coords t) = 1#1 ∧ k0_cond3 (grid0.coords t) = 1#1) :=
  (by decide +kernel : ∀ t : Fin grid0.N, _)

theorem quiet : ∀ t : Fin cfg0.N, t.val < 8 → (cfg0.win 2).flush t = false ∧ (cfg0.win 3).flush t = false :=
  (by decide +kernel : ∀ t : Fin grid0.N, t.val < 8 → win0_2.flush t = false ∧ win0_3.flush t = false)

theorem idles : ∀ t : Fin cfg0.N, (t.val < 8 → cfg0.idle 2 (cfg0.grid.coords t) = true ∧ cfg0.idle 3 (cfg0.grid.coords t) = true)
    ∧ (8 ≤ t.val → cfg0.idle 2 (cfg0.grid.coords t) = false ∧ cfg0.idle 3 (cfg0.grid.coords t) = false) :=
  (by decide +kernel : ∀ t : Fin grid0.N, (t.val < 8 → idle0 2 (grid0.coords t) = true ∧ idle0 3 (grid0.coords t) = true)
    ∧ (8 ≤ t.val → idle0 2 (grid0.coords t) = false ∧ idle0 3 (grid0.coords t) = false))

theorem coord : ∀ t : Fin cfg0.N, (grid0.coords t 1).val = t.val % 8 := (by decide +kernel : ∀ t : Fin grid0.N, _)

theorem t_lt (t : Fin cfg0.N) : t.val < 16 := lt_of_lt_of_eq t.isLt N_0

/-- Two slabs do not meet. -/
theorem apart {j k : Fin 8} (h : j.val ≠ k.val) (y : (slab j).shape.Idx) : (slab j).emb y ∉ (slab k).set := by
  refine Rect.not_mem_set_of_axis _ _ 0 k.val 1 rfl rfl rfl ?_
  have e : ((slab j).emb y 0).val = j.val + 1 * (y 0).val := rfl
  have : (y 0).val < 1 := (y 0).isLt
  omega

/-- A slab that a point does not store stays filled. -/
theorem keep {c : Dev nD} {t u : Fin cfg0.N} {X X' : Vec F S8x1024x512 .f32} {w : Vec F S1x1024x512 .f32}
    (hp : Cert.Slab.Put (slab_inb (grid0.coords t 1)) X w X') (hne : t.val % 8 ≠ u.val % 8)
    (h : (fun y => X ((slab (grid0.coords u 1)).emb y)) = part m c u) : (fun y => X' ((slab (grid0.coords u 1)).emb y)) = part m c u := by
  rw [← h]
  refine funext fun y => hp.2 _ (apart ?_ y)
  rw [coord, coord]
  exact fun e => hne e.symm

theorem filled_fill {c : Dev nD} {t : Fin cfg0.N} (ht : t.val < 8) {X X' : Vec F S8x1024x512 .f32} (h : Filled m c t.val X)
    (hp : Cert.Slab.Put (slab_inb (grid0.coords t 1)) X (part m c t) X') : Filled m c (t.val + 1) X' := by
  intro u hu hlt hle
  by_cases e : u = t
  · subst e
    exact funext hp.1
  · have : u.val ≠ t.val := fun h => e (Fin.ext h)
    exact keep m hp (by omega) (h u hu (by omega) (by omega))

theorem filled_add {c : Dev nD} {t : Fin cfg0.N} (ht : 8 ≤ t.val) {X X' : Vec F S8x1024x512 .f32} {w : Vec F S1x1024x512 .f32} (h : Filled m c t.val X)
    (hp : Cert.Slab.Put (slab_inb (grid0.coords t 1)) X w X') : Filled m c (t.val + 1) X' := by
  intro u hu hlt hle
  have := t_lt t
  exact keep m hp (by omega) (h u hu (by omega) (by omega))

theorem filled_read {c : Dev nD} {t : Fin cfg0.N} (ht : 8 ≤ t.val) {X : Vec F S8x1024x512 .f32} (h : Filled m c t.val X) :
    (fun y => X ((slab (grid0.coords t 1)).emb y)) = part m c (first t) := by
  have := t_lt t
  have hv : (first t).val = t.val % 8 := rfl
  have e : grid0.coords (first t) 1 = grid0.coords t 1 := Fin.ext (by rw [coord, coord, hv]; omega)
  rw [← e]
  exact h (first t) (by omega) (by omega) (by omega)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (dats m 0 c).leaves 2 t ∗ (dats m 0 c).leaves 3 t)

theorem leaves_2 (c : Dev nD) (t : Fin cfg0.N) (ht : 8 ≤ t.val) :
    (dats m 0 c).leaves 2 t = owns (c : Thread nD τ) (st0_2 t) fullShare (k0_pay4 (total m c t)) := by
  rw [← after_2]; unfold Dat.leaves; rw [((idles t).2 ht).1]
theorem leaves_3 (c : Dev nD) (t : Fin cfg0.N) (ht : 8 ≤ t.val) :
    (dats m 0 c).leaves 3 t = owns (c : Thread nD τ) (st0_3 t) fullShare (k0_pay5 (total m c t)) := by
  rw [← after_3]; unfold Dat.leaves; rw [((idles t).2 ht).2]

theorem phi_pre (c : Dev nD) (t : Fin cfg0.N) : (dats m 0 c).Φ t.castSucc = Held m c t.val := rfl
theorem phi_post (c : Dev nD) (t : Fin cfg0.N) : (dats m 0 c).Φ t.succ = Held m c (t.val + 1) := rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [phi_pre, phi_post, show (dats m 0 c).owesAt () t.succ = (dats m 0 c).owesAt () t.castSucc from rfl, after_0, after_1]
  unfold Held
  by_cases ht : t.val < 8
  · obtain ⟨h1, h2, h3⟩ := (conds t).1 ht
    rw [(dats m 0 c).leaves_idle 2 t ((idles t).1 ht).1 (quiet t ht).1, (dats m 0 c).leaves_idle 3 t ((idles t).1 ht).2 (quiet t ht).2]
    iintro ⟨⟨⟨%X, %hX, HX⟩, Hr⟩, Ho, ⟨%d0, H0⟩, ⟨%d1, H1⟩, H2, H3⟩
    iapply (run_fill c Set.univ (grid0.coords t) _ _ _ _ _ _ _ _ _ _ h1 h2 h3 (iblk m c 0 t) (iblk m c 1 t) X _)
    isplitl [H0]; · iexact H0
    isplitl [H1]; · iexact H1
    isplitl [HX]; · iexact HX
    iintro ⟨H0, H1, ⟨%X', %hp, HX⟩⟩
    isplitl [HX Hr]
    · isplitl [HX]
      · iexists X'; isplitr
        · ipureintro; exact filled_fill m ht hX hp
        iexact HX
      iexact Hr
    isplitl [Ho]; · iexact Ho
    isplitl [H0]; · iexact H0
    isplitl [H1]; · iexact H1
    isplitl [H2]; · iexact H2
    iexact H3
  · have ht : 8 ≤ t.val := not_lt.mp ht
    obtain ⟨h1, h2, h3⟩ := (conds t).2 ht
    rw [leaves_2 m c t ht, leaves_3 m c t ht]
    iintro ⟨⟨⟨%X, %hX, HX⟩, Hr⟩, Ho, ⟨%d0, H0⟩, ⟨%d1, H1⟩, ⟨%d2, H2⟩, ⟨%d3, H3⟩⟩
    iapply (run_add c Set.univ (grid0.coords t) _ _ _ _ _ _ _ _ _ _ h1 h2 h3 (iblk m c 0 t) (iblk m c 1 t) X (part m c (first t)) (filled_read m ht hX) _)
    isplitl [H0]; · iexact H0
    isplitl [H1]; · iexact H1
    isplitl [H2]; · iexists _; iexact H2
    isplitl [H3]; · iexists _; iexact H3
    isplitl [HX]; · iexact HX
    iintro ⟨H0, H1, H2, H3, ⟨%X', %hp, HX⟩⟩
    isplitl [HX Hr]
    · isplitl [HX]
      · iexists X'; isplitr
        · ipureintro; exact filled_add m ht hX hp
        iexact HX
      iexact Hr
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact sound_body m c t

/-! ## The run -/

theorem enter (c : Dev nD) : Pipeline.ΦA spec0 c ⊢ (dats (F := F) m 0 c).Φ 0 := by
  show _ ⊢ Held m c 0
  unfold Held Pipeline.ΦA
  rw [scopedRest0_eq]
  iintro ⟨⟨%f, H⟩, Hr⟩
  isplitl [H]
  · iexists f; isplitr
    · ipureintro; intro t _ h; exact absurd h (Nat.not_lt_zero _)
    rw [owns_whole]; iexact H
  iexact Hr

theorem exit (c : Dev nD) : (dats (F := F) m 0 c).Φ (Fin.last cfg0.N) ⊢ Pipeline.ΦA spec0 c := by
  show Held m c _ ⊢ _
  unfold Held Pipeline.ΦA
  rw [scopedRest0_eq]
  simp only [owns_whole]
  iintro ⟨⟨%X, -, H⟩, Hr⟩
  isplitl [H]
  · iexists X; iexact H
  iexact Hr

set_option backward.isDefEq.respectTransparency.types false in
set_option maxHeartbeats 800000 in
/-- Every run of the program ends with its results at what the proof data say and all counters at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := enter m) (hout := exit m)

/-- The results named, the arguments as they were, the counters at zero. -/
theorem run_blocks : θ_run defs (onTc (τ := τ) (main (F := F))) ⟨m, fun _ => 0, ρ⟩ (fun r => (∀ c : Dev nD,
      r.2.mem ((c : Thread nD τ).loc main_v2_0) = (dats m 0 c).arrAt 2 cfg0.N
      ∧ r.2.mem ((c : Thread nD τ).loc main_v2_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c).1 2, (h.1 c).1 3,
      ((h.1 c).2 main_arg0 (Pipeline.mem_restRefs_of main_arg0 (by decide) (by decide))).trans (V_arg m c).1,
      ((h.1 c).2 main_arg1 (Pipeline.mem_restRefs_of main_arg1 (by decide) (by decide))).trans (V_arg m c).2⟩, h.2⟩) (run_main m ρ)

/-- The program leaves its arguments as they were and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2.2, h.2⟩) (run_blocks m ρ)

end Cert.WUp

end
-- ==== Proof.WUp.lean ====
/- The gradient of the MLP's first weight: each block of the two results is the sum over the two halves of the rows, which is
   the reference's gradient, its columns cut into the same blocks. -/
module

public import proofs.«01_k».proof.Defs
public import proofs.«01_k».proof.Proof.Scalars
public import proofs.«01_k».proof.Proof.WUpFrame
public import proofs.«01_k».proof.Proof.Gen.Kernel8
public import proofs.«01_k».proof.Proof.Gen.Reference8Ideal.Read
public import Idealize.ShloMosaic.Lib.Pipeline.ValueKit
public import Idealize.ShloMosaic.Lib.Pointwise
public import Idealize.ShloMosaic.Lib.Claim

@[expose] public section

set_option maxRecDepth 16384

noncomputable section

namespace Cert.WUp

open Idealize.ShloMosaic Idealize.ShloMosaic.TcCoe Idealize.SL.Sem
open Cert.Kernel8Ideal Cert.Kernel8Ideal.Gen Cert.Reference8Ideal.Read
open scoped BigOperators

theorem pay2 (b0 : FVec Ideal S4096x1024 .bf16) (b1 : FVec Ideal S4096x512 .bf16) (z : Fin 1) (r : Fin 1024) (l : Fin 512) :
    k0_pay2 (F := Ideal) b0 b1 (ix3 z r l) = ∑ k : Fin 4096, b0 (ix2 k r) * b1 (ix2 k l) := by
  obtain rfl : z = 0 := Subsingleton.elim _ _
  pointwise [k0_pay2, k0_pay1]

/-- The second sweep's step: what the slab held plus the point's products. -/
theorem pay3 (b0 : FVec Ideal S4096x1024 .bf16) (b1 : FVec Ideal S4096x512 .bf16) (X : FVec Ideal S1x1024x512 .f32) (z : Fin 1) (r : Fin 1024) (l : Fin 512) :
    k0_pay3 (F := Ideal) b0 b1 X (ix3 z r l) = X (ix3 z r l) + ∑ k : Fin 4096, b0 (ix2 k r) * b1 (ix2 k l) := by
  obtain rfl : z = 0 := Subsingleton.elim _ _
  pointwise [k0_pay3, k0_pay1]

theorem pay4 (X : FVec Ideal S1x1024x512 .f32) (z : Fin 1) (r : Fin 1024) (l : Fin 512) : k0_pay4 (F := Ideal) X (ix3 z r l) = X (ix3 z r l) := by
  obtain rfl : z = 0 := Subsingleton.elim _ _
  pointwise [k0_pay4]

theorem pay5 (X : FVec Ideal S1x1024x512 .f32) (z : Fin 1) (r : Fin 1024) (l : Fin 512) : k0_pay5 (F := Ideal) X (ix3 z r l) = X (ix3 z r l) := by
  obtain rfl : z = 0 := Subsingleton.elim _ _
  pointwise [k0_pay5]

variable (m : (ℓ : Loc nD τ sig) → Buf (Elt Ideal) ℓ) (c : Dev nD)

/-- The arguments as launched: the hidden layer's gradient and the MLP's input. -/
def x0 : FVec Ideal S8192x4096 .f32 := m ((c : Thread nD τ).loc main_arg0)
def x1 : FVec Ideal S8192x1024 .f32 := m ((c : Thread nD τ).loc main_arg1)

/-- The block maps: half `t / 8` of the rows, block `t % 8` of the hidden columns; in the second sweep block `t % 8` of the results. -/
theorem idx : ∀ t : Fin cfg0.N, win0_0.index t = ![t.val / 8, 0] ∧ win0_1.index t = ![t.val / 8, t.val % 8] :=
  (by decide +kernel : ∀ t : Fin grid0.N, _)

theorem idxOut : ∀ t : Fin cfg0.N, 8 ≤ t.val → win0_2.index t = ![t.val % 8, 0, 0] ∧ win0_3.index t = ![t.val % 8, 0, 0] :=
  (by decide +kernel : ∀ t : Fin grid0.N, _)

variable (t : Fin cfg0.N)

def row (k : Fin 4096) : Fin 8192 := ⟨4096 * (t.val / 8) + k.val, by have := t_lt t; omega⟩
def col (l : Fin 512) : Fin 4096 := ⟨t.val % 8 * 512 + l.val, by omega⟩
def slot : Fin 8 := ⟨t.val % 8, by omega⟩

theorem at0 (k : Fin 4096) (r : Fin 1024) :
    (show FVec Ideal S4096x1024 .bf16 from iblk m c 0 t) (ix2 k r) = x1 m c (ix2 (row t k) r) := by
  unfold row x1
  blk_simp [iblk, idx t]
  entry_read
  pointwise
  blk_ext [idx t]

theorem at1 (k : Fin 4096) (l : Fin 512) :
    (show FVec Ideal S4096x512 .bf16 from iblk m c 1 t) (ix2 k l) = x0 m c (ix2 (row t k) (col t l)) := by
  unfold row col x0
  blk_simp [iblk, idx t]
  entry_read
  pointwise
  blk_ext [idx t]

theorem prod_eq (r : Fin 1024) (l : Fin 512) :
    (∑ k : Fin 4096, (show FVec Ideal S4096x1024 .bf16 from iblk m c 0 t) (ix2 k r) * (show FVec Ideal S4096x512 .bf16 from iblk m c 1 t) (ix2 k l) : EReal)
      = ∑ k : Fin 4096, x0 m c (ix2 (row t k) (col t l)) * x1 m c (ix2 (row t k) r) :=
  Finset.sum_congr rfl fun k _ => (congrArg₂ (· * ·) (at0 m c t k r) (at1 m c t k l)).trans (mul_comm _ _)

/-- What a point of the second sweep leaves in its slab: the sum over all rows. -/
theorem total_eq (ht : 8 ≤ t.val) (z : Fin 1) (r : Fin 1024) (l : Fin 512) : total (F := Ideal) m c t (ix3 z r l)
    = ∑ k : Fin 8192, x0 m c (ix2 k (col t l)) * x1 m c (ix2 k r) := by
  have hl := t_lt t
  have hv : (first t).val = t.val % 8 := rfl
  refine (pay3 _ _ _ z r l).trans ((congrArg₂ (· + ·) ((pay2 _ _ z r l).trans (prod_eq m c (first t) r l)) (prod_eq m c t r l)).trans ?_)
  refine Eq.trans (congrArg₂ (· + ·) ?_ ?_) ((Fin.sum_univ_two fun s : Fin 2 => ∑ k : Fin 4096,
    x0 m c (ix2 ⟨s.val * 4096 + k.val, by omega⟩ (col t l)) * x1 m c (ix2 ⟨s.val * 4096 + k.val, by omega⟩ r)).symm.trans
    (Fin.sum_mul_add_congr fun _ _ _ => rfl))
  · refine Finset.sum_congr rfl fun k _ => ?_
    have e : row (first t) k = ⟨(0 : Fin 2).val * 4096 + k.val, by simp; omega⟩ := Fin.ext (by
      show 4096 * ((t.val % 8) / 8) + k.val = 0 * 4096 + k.val; omega)
    have e' : col (first t) l = col t l := Fin.ext (by
      show t.val % 8 % 8 * 512 + l.val = t.val % 8 * 512 + l.val; omega)
    rw [e, e']
  · refine Finset.sum_congr rfl fun k _ => ?_
    have e : row t k = ⟨(1 : Fin 2).val * 4096 + k.val, by simp; omega⟩ := Fin.ext (by
      show 4096 * (t.val / 8) + k.val = 1 * 4096 + k.val; omega)
    rw [e]

/-- The reference's gradient at an entry. -/
theorem ref5 (j : Fin 8) (r : Fin 1024) (l : Fin 512) : val_main_v5 (F := Ideal) (x0 m c) (x1 m c) (ix3 j r l)
    = ∑ k : Fin 8192, x0 m c (ix2 k ⟨j.val * 512 + l.val, by omega⟩) * x1 m c (ix2 k r) := by
  pointwise [val_main_v5, val_main_v4, val_main_v3, val_main_v2]

theorem ref6 (j : Fin 8) (r : Fin 1024) (l : Fin 512) : val_main_v6 (F := Ideal) (x0 m c) (x1 m c) (ix3 j r l)
    = val_main_v5 (F := Ideal) (x0 m c) (x1 m c) (ix3 j r l) := by
  pointwise [val_main_v6]

/-- The results are written back in the second sweep only. -/
theorem late (hf : (cfg0.win 2).flush t = true ∨ (cfg0.win 3).flush t = true) : 8 ≤ t.val := by
  by_contra h
  have := quiet t (by omega)
  simp_all

theorem final2 : (dats m 0 c).arrAt 2 (cfgs 0).N = val_main_v5 (F := Ideal) (x0 m c) (x1 m c) := by
  refine (dats m 0 c).arrAt_eq_of_covers 2 _ (by decide +kernel) fun t hf y => ?_
  have ht := late t (.inl hf)
  blk_simp
  rw [after_2]
  idx_vars y
  have e : ((View.whole main_v2_0).slice (win0_2.rect t)).emb (ix3 y0 y1 y2) = ix3 (slot t) y1 y2 := by
    unfold slot
    blk_ext [idxOut t ht]
  rw [e, ref5]
  exact (pay4 _ _ _ _).trans (total_eq m c t ht y0 y1 y2)

theorem final3 : (dats m 0 c).arrAt 3 (cfgs 0).N = val_main_v6 (F := Ideal) (x0 m c) (x1 m c) := by
  refine (dats m 0 c).arrAt_eq_of_covers 3 _ (by decide +kernel) fun t hf y => ?_
  have ht := late t (.inr hf)
  blk_simp
  rw [after_3]
  idx_vars y
  have e : ((View.whole main_v2_1).slice (win0_3.rect t)).emb (ix3 y0 y1 y2) = ix3 (slot t) y1 y2 := by
    unfold slot
    blk_ext [idxOut t ht]
  rw [e, ref6, ref5]
  exact (pay5 _ _ _ _).trans (total_eq m c t ht y0 y1 y2)

/-- The program and its idealization have the same text, so over the same floats they run the same functions. -/
theorem body_same : Cert.Kernel8.defs₀ (F := Bits) = Cert.Kernel8Ideal.defs₀ (F := Bits) := by
  refine congrArg Defs.onTc (funext fun l => funext fun x => ?_)
  match l, x with
  | ⟨0, _⟩, (t, s) => rfl

theorem defs_same : Cert.Kernel8.defs (F := Bits) = Cert.Kernel8Ideal.defs (F := Bits) :=
  congrArg (Pipeline.defs (Cert.Kernel8Ideal.pcfgs (F := Bits))) body_same

/-- The program leaves its arguments as they were and its counters at zero, -/
theorem frameKernel : Cert.quiescent_Kernel8 (hKernel8 := Cert.Kernel8.Gen.facts) := fun m ρ _ => by
  rw [defs_same]
  exact frame (F := Bits) m ρ

/-- and so does its idealization. -/
theorem frameIdeal : Cert.quiescent_Kernel8Ideal (hKernel8Ideal := Cert.Kernel8Ideal.Gen.facts) := fun m ρ _ =>
  frame (F := Ideal) m ρ

/-- The reference leaves its arguments as they were; it has no semaphores. -/
theorem frameRef : Cert.quiescent_Reference8Ideal (hReference8Ideal := Cert.Reference8Ideal.Gen.facts) := fun m ρ _ =>
  (θ_run (Cert.Reference8Ideal.defs (F := Ideal)) _ _).mono
    (fun r h => ⟨fun c => (h c).2.2, sem_eq_zero_of_no_sems (by decide) r.2⟩)
    (Cert.Reference8Ideal.Value.run (F := Ideal) m ρ)

/-- The two programs' results are equal. -/
theorem algebraic : Cert.algebraic_Kernel8Ideal_Reference8Ideal (hKernel8Ideal := Cert.Kernel8Ideal.Gen.facts)
    (hReference8Ideal := Cert.Reference8Ideal.Gen.facts) := by
  pair_intro
  · run_from run_blocks m g
  · run_from Cert.Reference8Ideal.Value.run m' g'
    · exact (val_main_v5_eq _ _).trans (final2 m c).symm
    · exact (val_main_v6_eq _ _).trans (final3 m c).symm

end Cert.WUp

end
-- ==== Proof.AdamStep.lean ====
/- One AdamW step on one weight: the moments and the update, of the gradient and the old values. -/
module

public import Idealize.ShloMosaic.Lib.IdealHost

@[expose] public section

noncomputable section

namespace Cert.Adam

open Idealize.ShloMosaic
open scoped BigOperators

/-- The first moment's running mean, -/
def mom (g m : EReal) : EReal := Ideal.ofBits .f32 0x3F666666#32 * m + Ideal.ofBits .f32 0x3DCCCCCD#32 * g

/-- the second's, -/
def vel (g v : EReal) : EReal := Ideal.ofBits .f32 0x3F7FBE77#32 * v + Ideal.ofBits .f32 0x3A83126F#32 * (g * g)

/-- and the update, with the two means corrected for their start and the weight decayed. -/
def upd (g w m v : EReal) : EReal :=
  Ideal.ofBits .f32 0xBA83126F#32
    * (Ideal.div (Ideal.div (mom g m) (Ideal.ofBits .f32 0x3F26BD02#32))
        (Ideal.sqrt (Ideal.div (vel g v) (Ideal.ofBits .f32 0x3C231ACC#32)) + Ideal.ofBits .f32 0x322BCC77#32)
      + Ideal.ofBits .f32 0x3C23D70A#32 * w)

/-- The own gradient and seven others added one by one, or the seven summed first. -/
theorem sum7 (o : EReal) (f : Fin 7 → EReal) : o + f 0 + f 1 + f 2 + f 3 + f 4 + f 5 + f 6 = o + ∑ k, f k := by
  rw [Fin.sum_univ_seven]
  simp only [add_assoc]

/-- The same with the seven in two groups. -/
theorem sum43 (o : EReal) (f : Fin 4 → EReal) (g : Fin 3 → EReal) :
    o + f 0 + f 1 + f 2 + f 3 + g 0 + g 1 + g 2 = o + (∑ k, f k + ∑ k, g k) := by
  rw [Fin.sum_univ_four, Fin.sum_univ_three]
  simp only [add_assoc]

theorem mom_congr {g g' m m' : EReal} (hg : g = g') (hm : m = m') : mom g m = mom g' m' := by rw [hg, hm]

theorem vel_congr {g g' v v' : EReal} (hg : g = g') (hv : v = v') : vel g v = vel g' v' := by rw [hg, hv]

theorem upd_congr {g g' w w' m m' v v' : EReal} (hg : g = g') (hw : w = w') (hm : m = m') (hv : v = v') : upd g w m v = upd g' w' m' v' := by
  rw [hg, hw, hm, hv]

end Cert.Adam

end
-- ==== Proof.AdamDown.lean ====
/- AdamW on the MLP's second weight: each block of rows is updated from the sum of the devices' gradients. -/
module

public import proofs.«01_k».proof.Defs
public import proofs.«01_k».proof.Proof.AdamStep
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

namespace Cert.AdamDown

open Idealize.ShloMosaic Idealize.ShloMosaic.TcCoe Idealize.SL.Sem
open Cert.Kernel9Ideal Cert.Kernel9Ideal.Gen Cert.Reference9Ideal.Read
open Cert.Adam
open scoped BigOperators

/-! ## What a point stores -/

theorem pay1 (g m : FVec Ideal S256x1024 .f32) (r : Fin 256) (l : Fin 1024) :
    k0_pay1 (F := Ideal) g m (ix2 r l) = mom (g (ix2 r l)) (m (ix2 r l)) := by
  pointwise [k0_pay1, mom]

theorem pay2 (g v : FVec Ideal S256x1024 .f32) (r : Fin 256) (l : Fin 1024) :
    k0_pay2 (F := Ideal) g v (ix2 r l) = vel (g (ix2 r l)) (v (ix2 r l)) := by
  pointwise [k0_pay2, vel]

theorem pay3 (g w m v : FVec Ideal S256x1024 .f32) (r : Fin 256) (l : Fin 1024) :
    k0_pay3 (F := Ideal) g w m v (ix2 r l) = upd (g (ix2 r l)) (w (ix2 r l)) (m (ix2 r l)) (v (ix2 r l)) := by
  pointwise [k0_pay3, k0_pay1, k0_pay2, upd, mom, vel]

theorem pay4 (o : FVec Ideal S1x256x1024 .f32) (f : Fin 7 → FVec Ideal S1x256x1024 .bf16) (r : Fin 256) (l : Fin 1024) :
    k0_pay4 (F := Ideal) o (f 0) (f 1) (f 2) (f 3) (f 4) (f 5) (f 6) (ix2 r l) = o (ix3 0 r l) + ∑ k, f k (ix3 0 r l) := by
  rw [← sum7]
  pointwise [k0_pay4]

/-! ## What the reference computes -/

theorem ref5 (x3 : FVec Ideal S8x512x1024 .f32) (x4 : FVec Ideal S7x512x1024 .f32) (i : Fin 512) (l : Fin 1024) :
    val_main_v5 (F := Ideal) x3 x4 (ix2 i l) = x3 (ix3 0 i l) + ∑ k : Fin 7, x4 (ix3 k i l) := by
  pointwise [val_main_v5, val_main_v4, val_main_v3, val_main_v2, val_main_v1, val_main_v0, val_main_cst]

theorem ref10 (x1 : FVec Ideal S512x1024 .f32) (x3 : FVec Ideal S8x512x1024 .f32) (x4 : FVec Ideal S7x512x1024 .f32) (i : Fin 512) (l : Fin 1024) :
    val_main_v10 (F := Ideal) x1 x3 x4 (ix2 i l) = mom (val_main_v5 (F := Ideal) x3 x4 (ix2 i l)) (x1 (ix2 i l)) := by
  rfl

theorem ref16 (x2 : FVec Ideal S512x1024 .f32) (x3 : FVec Ideal S8x512x1024 .f32) (x4 : FVec Ideal S7x512x1024 .f32) (i : Fin 512) (l : Fin 1024) :
    val_main_v16 (F := Ideal) x2 x3 x4 (ix2 i l) = vel (val_main_v5 (F := Ideal) x3 x4 (ix2 i l)) (x2 (ix2 i l)) := by
  rfl

theorem ref29 (x0 x1 x2 : FVec Ideal S512x1024 .f32) (x3 : FVec Ideal S8x512x1024 .f32) (x4 : FVec Ideal S7x512x1024 .f32) (i : Fin 512) (l : Fin 1024) :
    val_main_v29 (F := Ideal) x0 x1 x2 x3 x4 (ix2 i l) = upd (val_main_v5 (F := Ideal) x3 x4 (ix2 i l)) (x0 (ix2 i l)) (x1 (ix2 i l)) (x2 (ix2 i l)) := by
  rfl

/-! ## The device's own block -/

section Table

variable {F : FTy → Type} [FloatOps F]

/-- The one word of the table: the first device's. -/
def zeroTable : pre0.Contents (Elt F) := fun | ⟨0, _⟩ => fun _ => 0#32 | ⟨_ + 1, h⟩ => absurd h (by simp)

theorem tbl_eq (m : (ℓ : Loc nD τ sig) → Buf (Elt F) ℓ) : tbl m = zeroTable := by
  funext j x
  match j with
  | ⟨0, _⟩ => rfl

/-- The own gradient's block: the first device's, the point's rows. -/
theorem own_index : ∀ i : grid0.Coords, cc0_transform_3 (F := F) Facts₀.inb_S1_S1_0 Facts₀.numel1_S1 zeroTable i = ![0, (i 0).val, 0] := by
  intro i
  funext a
  fin_cases a
  · rfl
  · simp [cc0_transform_3]; omega
  · rfl

theorem ok (m : (ℓ : Loc nD τ sig) → Buf (Elt F) ℓ) : Ok m := by
  unfold Ok ok0
  rw [tbl_eq]
  intro i
  refine ⟨fun a => ?_, .inl rfl⟩
  rw [own_index]
  have h : (i 0).val < 2 := (i 0).isLt
  fin_cases a
  · show (0 + 1) * 1 ≤ 8; omega
  · show ((i 0).val + 1) * 256 ≤ 512; omega
  · show (0 + 1) * 1024 ≤ 1024; omega

end Table

/-! ## A point's blocks -/

variable (m : (ℓ : Loc nD τ sig) → Buf (Elt Ideal) ℓ) (c : Dev nD)

/-- The arguments as launched: the weight, its two moments, the device's own gradients and the others'. -/
def x0 : FVec Ideal S512x1024 .f32 := m ((c : Thread nD τ).loc main_arg0)
def x1 : FVec Ideal S512x1024 .f32 := m ((c : Thread nD τ).loc main_arg1)
def x2 : FVec Ideal S512x1024 .f32 := m ((c : Thread nD τ).loc main_arg2)
def x3 : FVec Ideal S8x512x1024 .f32 := m ((c : Thread nD τ).loc main_arg3)
def x4 : FVec Ideal S7x512x1024 .f32 := m ((c : Thread nD τ).loc main_arg4)

/-- The point's coordinate is its number. -/
theorem coord : ∀ t : Fin grid0.N, (grid0.coords t 0).val = t.val := by decide +kernel

variable (t : Fin (cfgM m (ok m)).N)

/-- The block maps: the row blocks follow the grid. -/
theorem idx : ((cfgM m (ok m)).win 0).index t = ![t.val, 0]
    ∧ ((cfgM m (ok m)).win 1).index t = ![t.val, 0]
    ∧ ((cfgM m (ok m)).win 2).index t = ![t.val, 0]
    ∧ ((cfgM m (ok m)).win 3).index t = ![0, t.val, 0]
    ∧ ((cfgM m (ok m)).win 4).index t = ![0, t.val, 0]
    ∧ ((cfgM m (ok m)).win 5).index t = ![t.val, 0]
    ∧ ((cfgM m (ok m)).win 6).index t = ![t.val, 0]
    ∧ ((cfgM m (ok m)).win 7).index t = ![t.val, 0]
    ∧ ((cfgM m (ok m)).win 8).index t = ![t.val, 0] := by
  have h := (by decide +kernel : ∀ t : Fin grid0.N, cc0_transform_0 (grid0.coords t) = ![t.val, 0]
    ∧ cc0_transform_4 (grid0.coords t) = ![0, t.val, 0]) t
  have h3 : cc0_transform_3 Facts₀.inb_S1_S1_0 Facts₀.numel1_S1 (tbl m) (grid0.coords t) = ![0, t.val, 0] := by
    rw [tbl_eq, own_index, coord t]
  exact ⟨h.1, h.1, h.1, h3, h.2, h.1, h.1, h.1, h.1⟩

/-- Grid point `t`'s rows. -/
def row (r : Fin 256) : Fin 512 := ⟨256 * t.val + r.val, by have ht : t.val < 2 := lt_of_lt_of_eq t.isLt N_0; omega⟩

theorem at0 (r : Fin 256) (l : Fin 1024) :
    (show FVec Ideal S256x1024 .f32 from iblk m (ok m) c 0 t) (ix2 r l) = x0 m c (ix2 (row m t r) l) := by
  unfold row x0
  blk_ext [iblk, V, idx m t]

theorem at1 (r : Fin 256) (l : Fin 1024) :
    (show FVec Ideal S256x1024 .f32 from iblk m (ok m) c 1 t) (ix2 r l) = x1 m c (ix2 (row m t r) l) := by
  unfold row x1
  blk_ext [iblk, V, idx m t]

theorem at2 (r : Fin 256) (l : Fin 1024) :
    (show FVec Ideal S256x1024 .f32 from iblk m (ok m) c 2 t) (ix2 r l) = x2 m c (ix2 (row m t r) l) := by
  unfold row x2
  blk_ext [iblk, V, idx m t]

theorem at3 (r : Fin 256) (l : Fin 1024) :
    (show FVec Ideal S1x256x1024 .f32 from iblk m (ok m) c 3 t) (ix3 0 r l) = x3 m c (ix3 0 (row m t r) l) := by
  unfold row x3
  blk_ext [iblk, V, idx m t]

theorem at4 (k : Fin 7) (r : Fin 256) (l : Fin 1024) :
    (show FVec Ideal S7x256x1024 .bf16 from iblk m (ok m) c 4 t) (ix3 k r l) = x4 m c (ix3 k (row m t r) l) := by
  refine Eq.trans (b := (show FVec Ideal S7x512x1024 .bf16 from V m c main_v0) (ix3 k (row m t r) l)) ?_ ?_
  · unfold row
    blk_ext [iblk, idx m t]
  · rfl

/-- One of the seven landed blocks. -/
def land (x : FVec Ideal S7x256x1024 .bf16) (k : Fin 7) : FVec Ideal S1x256x1024 .bf16 := View.ld (Val := Elt Ideal) (e' := .bf16) x
  (Rect.unit (s := S7x256x1024) ![k.val, 0, 0] ![1, 256, 1024] (fun a => by
    fin_cases a
    · show k.val + 1 ≤ 7; omega
    · show 0 + 256 ≤ 256; omega
    · show 0 + 1024 ≤ 1024; omega))

theorem land_at (x : FVec Ideal S7x256x1024 .bf16) (k : Fin 7) (r : Fin 256) (l : Fin 1024) : land x k (ix3 0 r l) = x (ix3 k r l) := by
  refine congrArg x (Rect.emb_eq_of_coords _ _ _ fun a => ?_)
  fin_cases a <;> simp

/-- A point's gradient: its own block and the seven landed ones. -/
def grad (y3 : FVec Ideal S1x256x1024 .f32) (y4 : FVec Ideal S7x256x1024 .bf16) : FVec Ideal S256x1024 .f32 :=
  k0_pay4 (F := Ideal) y3 (land y4 0) (land y4 1) (land y4 2) (land y4 3) (land y4 4) (land y4 5) (land y4 6)

/-- The five input blocks at grid point `t`, -/
def b0 : FVec Ideal S256x1024 .f32 := iblk m (ok m) c 0 t
def b1 : FVec Ideal S256x1024 .f32 := iblk m (ok m) c 1 t
def b2 : FVec Ideal S256x1024 .f32 := iblk m (ok m) c 2 t
def b3 : FVec Ideal S1x256x1024 .f32 := iblk m (ok m) c 3 t
def b4 : FVec Ideal S7x256x1024 .bf16 := iblk m (ok m) c 4 t

/-- and the gradient there. -/
def gradAt : FVec Ideal S256x1024 .f32 := grad (b3 m c t) (b4 m c t)

theorem grad_at (r : Fin 256) (l : Fin 1024) : gradAt m c t (ix2 r l) = val_main_v5 (F := Ideal) (x3 m c) (x4 m c) (ix2 (row m t r) l) := by
  rw [ref5]
  exact (pay4 _ (land (b4 m c t)) r l).trans (congrArg₂ (· + ·) (at3 m c t r l)
    (Finset.sum_congr rfl fun k _ => (land_at _ k r l).trans (at4 m c t k r l)))

section Body

variable (i : grid0.Coords) {a2 a3 a4 a7 a8 a9 a10 : Memref sig .tc .vmem S256x1024 .f32} {a5 : Memref sig .tc .vmem S1x256x1024 .f32}
  {a6 : Memref sig .tc .vmem S7x256x1024 .bf16} (h2 : a2.IsWhole) (h3 : a3.IsWhole) (h4 : a4.IsWhole) (h5 : a5.IsWhole) (h6 : a6.IsWhole)
  (h7 : a7.IsWhole) (h8 : a8.IsWhole) (h9 : a9.IsWhole) (h10 : a10.IsWhole)
  (y0 y1 y2 : FVec Ideal S256x1024 .f32) (y3 : FVec Ideal S1x256x1024 .f32) (y4 : FVec Ideal S7x256x1024 .bf16) (tb : TbBuf0 (F := Ideal) c tbM0_0)

theorem left5 : out0_A_5 c i a2 h2 a3 h3 a4 h4 a5 h5 a6 h6 a7 h7 a8 h8 a9 h9 a10 h10 y0 y1 y2 y3 y4 tb = grad y3 y4 := by
  frame_out
  rfl

theorem left6 : out0_A_6 c i a2 h2 a3 h3 a4 h4 a5 h5 a6 h6 a7 h7 a8 h8 a9 h9 a10 h10 y0 y1 y2 y3 y4 tb = k0_pay3 (grad y3 y4) y0 y1 y2 := by
  frame_out
  rfl

theorem left7 : out0_A_7 c i a2 h2 a3 h3 a4 h4 a5 h5 a6 h6 a7 h7 a8 h8 a9 h9 a10 h10 y0 y1 y2 y3 y4 tb = k0_pay1 (grad y3 y4) y1 := by
  frame_out
  rfl

theorem left8 : out0_A_8 c i a2 h2 a3 h3 a4 h4 a5 h5 a6 h6 a7 h7 a8 h8 a9 h9 a10 h10 y0 y1 y2 y3 y4 tb = k0_pay2 (grad y3 y4) y2 := by
  frame_out
  rfl

end Body

/-- What the body leaves in the four outputs. -/
theorem outs : outsAt0 m (ok m) c t = (gradAt m c t, k0_pay3 (gradAt m c t) (b0 m c t) (b1 m c t) (b2 m c t),
    k0_pay1 (gradAt m c t) (b1 m c t), k0_pay2 (gradAt m c t) (b2 m c t)) := by
  unfold outsAt0
  exact congrArg₂ Prod.mk (left5 ..) (congrArg₂ Prod.mk (left6 ..) (congrArg₂ Prod.mk (left7 ..) (left8 ..)))

/-! ## The results -/

/-- The points' row blocks are the arrays'. -/
theorem onto : ∀ β : (a : Fin 2) → Fin ((S512x1024.size a + S256x1024.size a - 1) / S256x1024.size a),
    ∃ t : Fin grid0.N, ∀ a, cc0_transform_5 (grid0.coords t) a = β a := by
  decide +kernel

theorem nonempty : ∀ a : Fin 2, 0 < S256x1024.size a := by decide

theorem place (y0 : Fin 256) (y1 : Fin 1024) :
    ((View.whole main_v2_0).slice (((cfgM m (ok m)).win 5).rect t)).emb (ix2 y0 y1) = ix2 (row m t y0) y1 := by
  unfold row
  blk_ext [idx m t]

theorem final5 : (dats m (ok m) 0 c).arrAt 5 (cfgM m (ok m)).N = val_main_v5 (F := Ideal) (x3 m c) (x4 m c) := by
  refine (dats m (ok m) 0 c).arrAt_eq_of_covers 5 _ (Pipeline.Window.covers_of_index_surj _ rfl nonempty onto) fun t _ (y : S256x1024.Idx) => ?_
  blk_simp
  rw [after0_5, outs]
  idx_vars y
  exact (grad_at m c t y0 y1).trans (congrArg (val_main_v5 (F := Ideal) (x3 m c) (x4 m c)) (place m t y0 y1)).symm

theorem final6 : (dats m (ok m) 0 c).arrAt 6 (cfgM m (ok m)).N = val_main_v29 (F := Ideal) (x0 m c) (x1 m c) (x2 m c) (x3 m c) (x4 m c) := by
  refine (dats m (ok m) 0 c).arrAt_eq_of_covers 6 _ (Pipeline.Window.covers_of_index_surj _ rfl nonempty onto) fun t _ (y : S256x1024.Idx) => ?_
  blk_simp
  rw [after0_6, outs]
  idx_vars y
  refine Eq.trans ?_ (congrArg (val_main_v29 (F := Ideal) (x0 m c) (x1 m c) (x2 m c) (x3 m c) (x4 m c)) (place m t y0 y1)).symm
  rw [ref29]
  exact (pay3 _ _ _ _ y0 y1).trans (upd_congr (grad_at m c t y0 y1) (at0 m c t y0 y1) (at1 m c t y0 y1) (at2 m c t y0 y1))

theorem final7 : (dats m (ok m) 0 c).arrAt 7 (cfgM m (ok m)).N = val_main_v10 (F := Ideal) (x1 m c) (x3 m c) (x4 m c) := by
  refine (dats m (ok m) 0 c).arrAt_eq_of_covers 7 _ (Pipeline.Window.covers_of_index_surj _ rfl nonempty onto) fun t _ (y : S256x1024.Idx) => ?_
  blk_simp
  rw [after0_7, outs]
  idx_vars y
  refine Eq.trans ?_ (congrArg (val_main_v10 (F := Ideal) (x1 m c) (x3 m c) (x4 m c)) (place m t y0 y1)).symm
  rw [ref10]
  exact (pay1 _ _ y0 y1).trans (mom_congr (grad_at m c t y0 y1) (at1 m c t y0 y1))

theorem final8 : (dats m (ok m) 0 c).arrAt 8 (cfgM m (ok m)).N = val_main_v16 (F := Ideal) (x2 m c) (x3 m c) (x4 m c) := by
  refine (dats m (ok m) 0 c).arrAt_eq_of_covers 8 _ (Pipeline.Window.covers_of_index_surj _ rfl nonempty onto) fun t _ (y : S256x1024.Idx) => ?_
  blk_simp
  rw [after0_8, outs]
  idx_vars y
  refine Eq.trans ?_ (congrArg (val_main_v16 (F := Ideal) (x2 m c) (x3 m c) (x4 m c)) (place m t y0 y1)).symm
  rw [ref16]
  exact (pay2 _ _ y0 y1).trans (vel_congr (grad_at m c t y0 y1) (at2 m c t y0 y1))

/-- The run, with the results named and the arguments unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v2_0) = val_main_v5 (F := Ideal) (x3 m c) (x4 m c)
      ∧ r.2.mem ((c : Thread nD τ).loc main_v2_1) = val_main_v29 (F := Ideal) (x0 m c) (x1 m c) (x2 m c) (x3 m c) (x4 m c)
      ∧ r.2.mem ((c : Thread nD τ).loc main_v2_2) = val_main_v10 (F := Ideal) (x1 m c) (x3 m c) (x4 m c)
      ∧ r.2.mem ((c : Thread nD τ).loc main_v2_3) = val_main_v16 (F := Ideal) (x2 m c) (x3 m c) (x4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 5).trans (final5 m c), ((h.1 c).1 6).trans (final6 m c), ((h.1 c).1 7).trans (final7 m c),
      ((h.1 c).1 8).trans (final8 m c), h.2 c⟩)
    (θ_run_and (run_main m ρ (ok m)) (unchanged m ρ (ok m)))

/-- The program leaves its arguments as they were and its counters at zero, -/
theorem frameKernel : Cert.quiescent_Kernel9 (hKernel9 := Cert.Kernel9.Gen.facts) := fun m ρ _ =>
  Cert.Kernel9.Gen.frame (F := Bits) m ρ (ok (F := Bits) m)

/-- and so does its idealization. -/
theorem frameIdeal : Cert.quiescent_Kernel9Ideal (hKernel9Ideal := Cert.Kernel9Ideal.Gen.facts) := fun m ρ _ =>
  frame (F := Ideal) m ρ (ok m)

/-- The reference leaves its arguments as they were; it has no semaphores. -/
theorem frameRef : Cert.quiescent_Reference9Ideal (hReference9Ideal := Cert.Reference9Ideal.Gen.facts) := fun m ρ _ =>
  (θ_run (Cert.Reference9Ideal.defs (F := Ideal)) _ _).mono
    (fun r h => ⟨fun c => (h c).2.2.2.2, sem_eq_zero_of_no_sems (by decide) r.2⟩)
    (Cert.Reference9Ideal.Value.run (F := Ideal) m ρ)

set_option maxHeartbeats 1600000 in
/-- The two programs' results are equal. -/
theorem algebraic : Cert.algebraic_Kernel9Ideal_Reference9Ideal (hKernel9Ideal := Cert.Kernel9Ideal.Gen.facts)
    (hReference9Ideal := Cert.Reference9Ideal.Gen.facts) := by
  pair_intro
  · run_from run m g
  · run_from Cert.Reference9Ideal.Value.run m' g'
    · exact val_main_v5_eq _ _
    · exact val_main_v29_eq _ _ _ _ _
    · exact val_main_v10_eq _ _ _
    · exact val_main_v16_eq _ _ _

end Cert.AdamDown

end
-- ==== Proof.AdamUp.lean ====
/- AdamW on the MLP's first weight: each block of rows is updated from the sum of the devices' gradients. -/
module

public import proofs.«01_k».proof.Defs
public import proofs.«01_k».proof.Proof.AdamStep
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

namespace Cert.AdamUp

open Idealize.ShloMosaic Idealize.ShloMosaic.TcCoe Idealize.SL.Sem
open Cert.Kernel10Ideal Cert.Kernel10Ideal.Gen Cert.Reference10Ideal.Read
open Cert.Adam
open scoped BigOperators

/-! ## What a point stores -/

theorem pay1 (g m : FVec Ideal S256x512 .f32) (r : Fin 256) (l : Fin 512) :
    k0_pay1 (F := Ideal) g m (ix2 r l) = mom (g (ix2 r l)) (m (ix2 r l)) := by
  pointwise [k0_pay1, mom]

theorem pay2 (g v : FVec Ideal S256x512 .f32) (r : Fin 256) (l : Fin 512) :
    k0_pay2 (F := Ideal) g v (ix2 r l) = vel (g (ix2 r l)) (v (ix2 r l)) := by
  pointwise [k0_pay2, vel]

theorem pay3 (g w m v : FVec Ideal S256x512 .f32) (r : Fin 256) (l : Fin 512) :
    k0_pay3 (F := Ideal) g w m v (ix2 r l) = upd (g (ix2 r l)) (w (ix2 r l)) (m (ix2 r l)) (v (ix2 r l)) := by
  pointwise [k0_pay3, k0_pay1, k0_pay2, upd, mom, vel]

theorem pay4 (o : FVec Ideal S1x256x512 .f32) (f : Fin 7 → FVec Ideal S1x256x512 .bf16) (r : Fin 256) (l : Fin 512) :
    k0_pay4 (F := Ideal) o (f 0) (f 1) (f 2) (f 3) (f 4) (f 5) (f 6) (ix2 r l) = o (ix3 0 r l) + ∑ k, f k (ix3 0 r l) := by
  rw [← sum7]
  pointwise [k0_pay4]

/-! ## What the reference computes -/

theorem ref5 (x3 : FVec Ideal S8x1024x512 .f32) (x4 : FVec Ideal S7x1024x512 .f32) (i : Fin 1024) (l : Fin 512) :
    val_main_v5 (F := Ideal) x3 x4 (ix2 i l) = x3 (ix3 0 i l) + ∑ k : Fin 7, x4 (ix3 k i l) := by
  pointwise [val_main_v5, val_main_v4, val_main_v3, val_main_v2, val_main_v1, val_main_v0, val_main_cst]

theorem ref10 (x1 : FVec Ideal S1024x512 .f32) (x3 : FVec Ideal S8x1024x512 .f32) (x4 : FVec Ideal S7x1024x512 .f32) (i : Fin 1024) (l : Fin 512) :
    val_main_v10 (F := Ideal) x1 x3 x4 (ix2 i l) = mom (val_main_v5 (F := Ideal) x3 x4 (ix2 i l)) (x1 (ix2 i l)) := by
  rfl

theorem ref16 (x2 : FVec Ideal S1024x512 .f32) (x3 : FVec Ideal S8x1024x512 .f32) (x4 : FVec Ideal S7x1024x512 .f32) (i : Fin 1024) (l : Fin 512) :
    val_main_v16 (F := Ideal) x2 x3 x4 (ix2 i l) = vel (val_main_v5 (F := Ideal) x3 x4 (ix2 i l)) (x2 (ix2 i l)) := by
  rfl

theorem ref29 (x0 x1 x2 : FVec Ideal S1024x512 .f32) (x3 : FVec Ideal S8x1024x512 .f32) (x4 : FVec Ideal S7x1024x512 .f32) (i : Fin 1024) (l : Fin 512) :
    val_main_v29 (F := Ideal) x0 x1 x2 x3 x4 (ix2 i l) = upd (val_main_v5 (F := Ideal) x3 x4 (ix2 i l)) (x0 (ix2 i l)) (x1 (ix2 i l)) (x2 (ix2 i l)) := by
  rfl

/-! ## The device's own block -/

section Table

variable {F : FTy → Type} [FloatOps F]

/-- The one word of the table: the first device's. -/
def zeroTable : pre0.Contents (Elt F) := fun | ⟨0, _⟩ => fun _ => 0#32 | ⟨_ + 1, h⟩ => absurd h (by simp)

theorem tbl_eq (m : (ℓ : Loc nD τ sig) → Buf (Elt F) ℓ) : tbl m = zeroTable := by
  funext j x
  match j with
  | ⟨0, _⟩ => rfl

/-- The own gradient's block: the first device's, the point's rows. -/
theorem own_index : ∀ i : grid0.Coords, cc0_transform_3 (F := F) Facts₀.inb_S1_S1_0 Facts₀.numel1_S1 zeroTable i = ![0, (i 0).val, 0] := by
  intro i
  funext a
  fin_cases a
  · rfl
  · simp [cc0_transform_3]; omega
  · rfl

theorem ok (m : (ℓ : Loc nD τ sig) → Buf (Elt F) ℓ) : Ok m := by
  unfold Ok ok0
  rw [tbl_eq]
  intro i
  refine ⟨fun a => ?_, .inl rfl⟩
  rw [own_index]
  have h : (i 0).val < 4 := (i 0).isLt
  fin_cases a
  · show (0 + 1) * 1 ≤ 8; omega
  · show ((i 0).val + 1) * 256 ≤ 1024; omega
  · show (0 + 1) * 512 ≤ 512; omega

end Table

/-! ## A point's blocks -/

variable (m : (ℓ : Loc nD τ sig) → Buf (Elt Ideal) ℓ) (c : Dev nD)

/-- The arguments as launched: the weight, its two moments, the device's own gradients and the others'. -/
def x0 : FVec Ideal S1024x512 .f32 := m ((c : Thread nD τ).loc main_arg0)
def x1 : FVec Ideal S1024x512 .f32 := m ((c : Thread nD τ).loc main_arg1)
def x2 : FVec Ideal S1024x512 .f32 := m ((c : Thread nD τ).loc main_arg2)
def x3 : FVec Ideal S8x1024x512 .f32 := m ((c : Thread nD τ).loc main_arg3)
def x4 : FVec Ideal S7x1024x512 .f32 := m ((c : Thread nD τ).loc main_arg4)

/-- The point's coordinate is its number. -/
theorem coord : ∀ t : Fin grid0.N, (grid0.coords t 0).val = t.val := by decide +kernel

variable (t : Fin (cfgM m (ok m)).N)

/-- The block maps: the row blocks follow the grid. -/
theorem idx : ((cfgM m (ok m)).win 0).index t = ![t.val, 0]
    ∧ ((cfgM m (ok m)).win 1).index t = ![t.val, 0]
    ∧ ((cfgM m (ok m)).win 2).index t = ![t.val, 0]
    ∧ ((cfgM m (ok m)).win 3).index t = ![0, t.val, 0]
    ∧ ((cfgM m (ok m)).win 4).index t = ![0, t.val, 0]
    ∧ ((cfgM m (ok m)).win 5).index t = ![t.val, 0]
    ∧ ((cfgM m (ok m)).win 6).index t = ![t.val, 0]
    ∧ ((cfgM m (ok m)).win 7).index t = ![t.val, 0]
    ∧ ((cfgM m (ok m)).win 8).index t = ![t.val, 0] := by
  have h := (by decide +kernel : ∀ t : Fin grid0.N, cc0_transform_0 (grid0.coords t) = ![t.val, 0]
    ∧ cc0_transform_4 (grid0.coords t) = ![0, t.val, 0]) t
  have h3 : cc0_transform_3 Facts₀.inb_S1_S1_0 Facts₀.numel1_S1 (tbl m) (grid0.coords t) = ![0, t.val, 0] := by
    rw [tbl_eq, own_index, coord t]
  exact ⟨h.1, h.1, h.1, h3, h.2, h.1, h.1, h.1, h.1⟩

/-- Grid point `t`'s rows. -/
def row (r : Fin 256) : Fin 1024 := ⟨256 * t.val + r.val, by have ht : t.val < 4 := lt_of_lt_of_eq t.isLt N_0; omega⟩

theorem at0 (r : Fin 256) (l : Fin 512) :
    (show FVec Ideal S256x512 .f32 from iblk m (ok m) c 0 t) (ix2 r l) = x0 m c (ix2 (row m t r) l) := by
  unfold row x0
  blk_ext [iblk, V, idx m t]

theorem at1 (r : Fin 256) (l : Fin 512) :
    (show FVec Ideal S256x512 .f32 from iblk m (ok m) c 1 t) (ix2 r l) = x1 m c (ix2 (row m t r) l) := by
  unfold row x1
  blk_ext [iblk, V, idx m t]

theorem at2 (r : Fin 256) (l : Fin 512) :
    (show FVec Ideal S256x512 .f32 from iblk m (ok m) c 2 t) (ix2 r l) = x2 m c (ix2 (row m t r) l) := by
  unfold row x2
  blk_ext [iblk, V, idx m t]

theorem at3 (r : Fin 256) (l : Fin 512) :
    (show FVec Ideal S1x256x512 .f32 from iblk m (ok m) c 3 t) (ix3 0 r l) = x3 m c (ix3 0 (row m t r) l) := by
  unfold row x3
  blk_ext [iblk, V, idx m t]

theorem at4 (k : Fin 7) (r : Fin 256) (l : Fin 512) :
    (show FVec Ideal S7x256x512 .bf16 from iblk m (ok m) c 4 t) (ix3 k r l) = x4 m c (ix3 k (row m t r) l) := by
  refine Eq.trans (b := (show FVec Ideal S7x1024x512 .bf16 from V m c main_v0) (ix3 k (row m t r) l)) ?_ ?_
  · unfold row
    blk_ext [iblk, idx m t]
  · rfl

/-- One of the seven landed blocks. -/
def land (x : FVec Ideal S7x256x512 .bf16) (k : Fin 7) : FVec Ideal S1x256x512 .bf16 := View.ld (Val := Elt Ideal) (e' := .bf16) x
  (Rect.unit (s := S7x256x512) ![k.val, 0, 0] ![1, 256, 512] (fun a => by
    fin_cases a
    · show k.val + 1 ≤ 7; omega
    · show 0 + 256 ≤ 256; omega
    · show 0 + 512 ≤ 512; omega))

theorem land_at (x : FVec Ideal S7x256x512 .bf16) (k : Fin 7) (r : Fin 256) (l : Fin 512) : land x k (ix3 0 r l) = x (ix3 k r l) := by
  refine congrArg x (Rect.emb_eq_of_coords _ _ _ fun a => ?_)
  fin_cases a <;> simp

/-- A point's gradient: its own block and the seven landed ones. -/
def grad (y3 : FVec Ideal S1x256x512 .f32) (y4 : FVec Ideal S7x256x512 .bf16) : FVec Ideal S256x512 .f32 :=
  k0_pay4 (F := Ideal) y3 (land y4 0) (land y4 1) (land y4 2) (land y4 3) (land y4 4) (land y4 5) (land y4 6)

/-- The five input blocks at grid point `t`, -/
def b0 : FVec Ideal S256x512 .f32 := iblk m (ok m) c 0 t
def b1 : FVec Ideal S256x512 .f32 := iblk m (ok m) c 1 t
def b2 : FVec Ideal S256x512 .f32 := iblk m (ok m) c 2 t
def b3 : FVec Ideal S1x256x512 .f32 := iblk m (ok m) c 3 t
def b4 : FVec Ideal S7x256x512 .bf16 := iblk m (ok m) c 4 t

/-- and the gradient there. -/
def gradAt : FVec Ideal S256x512 .f32 := grad (b3 m c t) (b4 m c t)

theorem grad_at (r : Fin 256) (l : Fin 512) : gradAt m c t (ix2 r l) = val_main_v5 (F := Ideal) (x3 m c) (x4 m c) (ix2 (row m t r) l) := by
  rw [ref5]
  exact (pay4 _ (land (b4 m c t)) r l).trans (congrArg₂ (· + ·) (at3 m c t r l)
    (Finset.sum_congr rfl fun k _ => (land_at _ k r l).trans (at4 m c t k r l)))

section Body

variable (i : grid0.Coords) {a2 a3 a4 a7 a8 a9 a10 : Memref sig .tc .vmem S256x512 .f32} {a5 : Memref sig .tc .vmem S1x256x512 .f32}
  {a6 : Memref sig .tc .vmem S7x256x512 .bf16} (h2 : a2.IsWhole) (h3 : a3.IsWhole) (h4 : a4.IsWhole) (h5 : a5.IsWhole) (h6 : a6.IsWhole)
  (h7 : a7.IsWhole) (h8 : a8.IsWhole) (h9 : a9.IsWhole) (h10 : a10.IsWhole)
  (y0 y1 y2 : FVec Ideal S256x512 .f32) (y3 : FVec Ideal S1x256x512 .f32) (y4 : FVec Ideal S7x256x512 .bf16) (tb : TbBuf0 (F := Ideal) c tbM0_0)

theorem left5 : out0_A_5 c i a2 h2 a3 h3 a4 h4 a5 h5 a6 h6 a7 h7 a8 h8 a9 h9 a10 h10 y0 y1 y2 y3 y4 tb = grad y3 y4 := by
  frame_out
  rfl

theorem left6 : out0_A_6 c i a2 h2 a3 h3 a4 h4 a5 h5 a6 h6 a7 h7 a8 h8 a9 h9 a10 h10 y0 y1 y2 y3 y4 tb = k0_pay3 (grad y3 y4) y0 y1 y2 := by
  frame_out
  rfl

theorem left7 : out0_A_7 c i a2 h2 a3 h3 a4 h4 a5 h5 a6 h6 a7 h7 a8 h8 a9 h9 a10 h10 y0 y1 y2 y3 y4 tb = k0_pay1 (grad y3 y4) y1 := by
  frame_out
  rfl

theorem left8 : out0_A_8 c i a2 h2 a3 h3 a4 h4 a5 h5 a6 h6 a7 h7 a8 h8 a9 h9 a10 h10 y0 y1 y2 y3 y4 tb = k0_pay2 (grad y3 y4) y2 := by
  frame_out
  rfl

end Body

/-- What the body leaves in the four outputs. -/
theorem outs : outsAt0 m (ok m) c t = (gradAt m c t, k0_pay3 (gradAt m c t) (b0 m c t) (b1 m c t) (b2 m c t),
    k0_pay1 (gradAt m c t) (b1 m c t), k0_pay2 (gradAt m c t) (b2 m c t)) := by
  unfold outsAt0
  exact congrArg₂ Prod.mk (left5 ..) (congrArg₂ Prod.mk (left6 ..) (congrArg₂ Prod.mk (left7 ..) (left8 ..)))

/-! ## The results -/

/-- The points' row blocks are the arrays'. -/
theorem onto : ∀ β : (a : Fin 2) → Fin ((S1024x512.size a + S256x512.size a - 1) / S256x512.size a),
    ∃ t : Fin grid0.N, ∀ a, cc0_transform_5 (grid0.coords t) a = β a := by
  decide +kernel

theorem nonempty : ∀ a : Fin 2, 0 < S256x512.size a := by decide

theorem place (y0 : Fin 256) (y1 : Fin 512) :
    ((View.whole main_v2_0).slice (((cfgM m (ok m)).win 5).rect t)).emb (ix2 y0 y1) = ix2 (row m t y0) y1 := by
  unfold row
  blk_ext [idx m t]

theorem final5 : (dats m (ok m) 0 c).arrAt 5 (cfgM m (ok m)).N = val_main_v5 (F := Ideal) (x3 m c) (x4 m c) := by
  refine (dats m (ok m) 0 c).arrAt_eq_of_covers 5 _ (Pipeline.Window.covers_of_index_surj _ rfl nonempty onto) fun t _ (y : S256x512.Idx) => ?_
  blk_simp
  rw [after0_5, outs]
  idx_vars y
  exact (grad_at m c t y0 y1).trans (congrArg (val_main_v5 (F := Ideal) (x3 m c) (x4 m c)) (place m t y0 y1)).symm

theorem final6 : (dats m (ok m) 0 c).arrAt 6 (cfgM m (ok m)).N = val_main_v29 (F := Ideal) (x0 m c) (x1 m c) (x2 m c) (x3 m c) (x4 m c) := by
  refine (dats m (ok m) 0 c).arrAt_eq_of_covers 6 _ (Pipeline.Window.covers_of_index_surj _ rfl nonempty onto) fun t _ (y : S256x512.Idx) => ?_
  blk_simp
  rw [after0_6, outs]
  idx_vars y
  refine Eq.trans ?_ (congrArg (val_main_v29 (F := Ideal) (x0 m c) (x1 m c) (x2 m c) (x3 m c) (x4 m c)) (place m t y0 y1)).symm
  rw [ref29]
  exact (pay3 _ _ _ _ y0 y1).trans (upd_congr (grad_at m c t y0 y1) (at0 m c t y0 y1) (at1 m c t y0 y1) (at2 m c t y0 y1))

theorem final7 : (dats m (ok m) 0 c).arrAt 7 (cfgM m (ok m)).N = val_main_v10 (F := Ideal) (x1 m c) (x3 m c) (x4 m c) := by
  refine (dats m (ok m) 0 c).arrAt_eq_of_covers 7 _ (Pipeline.Window.covers_of_index_surj _ rfl nonempty onto) fun t _ (y : S256x512.Idx) => ?_
  blk_simp
  rw [after0_7, outs]
  idx_vars y
  refine Eq.trans ?_ (congrArg (val_main_v10 (F := Ideal) (x1 m c) (x3 m c) (x4 m c)) (place m t y0 y1)).symm
  rw [ref10]
  exact (pay1 _ _ y0 y1).trans (mom_congr (grad_at m c t y0 y1) (at1 m c t y0 y1))

theorem final8 : (dats m (ok m) 0 c).arrAt 8 (cfgM m (ok m)).N = val_main_v16 (F := Ideal) (x2 m c) (x3 m c) (x4 m c) := by
  refine (dats m (ok m) 0 c).arrAt_eq_of_covers 8 _ (Pipeline.Window.covers_of_index_surj _ rfl nonempty onto) fun t _ (y : S256x512.Idx) => ?_
  blk_simp
  rw [after0_8, outs]
  idx_vars y
  refine Eq.trans ?_ (congrArg (val_main_v16 (F := Ideal) (x2 m c) (x3 m c) (x4 m c)) (place m t y0 y1)).symm
  rw [ref16]
  exact (pay2 _ _ y0 y1).trans (vel_congr (grad_at m c t y0 y1) (at2 m c t y0 y1))

/-- The run, with the results named and the arguments unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v2_0) = val_main_v5 (F := Ideal) (x3 m c) (x4 m c)
      ∧ r.2.mem ((c : Thread nD τ).loc main_v2_1) = val_main_v29 (F := Ideal) (x0 m c) (x1 m c) (x2 m c) (x3 m c) (x4 m c)
      ∧ r.2.mem ((c : Thread nD τ).loc main_v2_2) = val_main_v10 (F := Ideal) (x1 m c) (x3 m c) (x4 m c)
      ∧ r.2.mem ((c : Thread nD τ).loc main_v2_3) = val_main_v16 (F := Ideal) (x2 m c) (x3 m c) (x4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 5).trans (final5 m c), ((h.1 c).1 6).trans (final6 m c), ((h.1 c).1 7).trans (final7 m c),
      ((h.1 c).1 8).trans (final8 m c), h.2 c⟩)
    (θ_run_and (run_main m ρ (ok m)) (unchanged m ρ (ok m)))

/-- The program leaves its arguments as they were and its counters at zero, -/
theorem frameKernel : Cert.quiescent_Kernel10 (hKernel10 := Cert.Kernel10.Gen.facts) := fun m ρ _ =>
  Cert.Kernel10.Gen.frame (F := Bits) m ρ (ok (F := Bits) m)

/-- and so does its idealization. -/
theorem frameIdeal : Cert.quiescent_Kernel10Ideal (hKernel10Ideal := Cert.Kernel10Ideal.Gen.facts) := fun m ρ _ =>
  frame (F := Ideal) m ρ (ok m)

/-- The reference leaves its arguments as they were; it has no semaphores. -/
theorem frameRef : Cert.quiescent_Reference10Ideal (hReference10Ideal := Cert.Reference10Ideal.Gen.facts) := fun m ρ _ =>
  (θ_run (Cert.Reference10Ideal.defs (F := Ideal)) _ _).mono
    (fun r h => ⟨fun c => (h c).2.2.2.2, sem_eq_zero_of_no_sems (by decide) r.2⟩)
    (Cert.Reference10Ideal.Value.run (F := Ideal) m ρ)

set_option maxHeartbeats 1600000 in
/-- The two programs' results are equal. -/
theorem algebraic : Cert.algebraic_Kernel10Ideal_Reference10Ideal (hKernel10Ideal := Cert.Kernel10Ideal.Gen.facts)
    (hReference10Ideal := Cert.Reference10Ideal.Gen.facts) := by
  pair_intro
  · run_from run m g
  · run_from Cert.Reference10Ideal.Value.run m' g'
    · exact val_main_v5_eq _ _
    · exact val_main_v29_eq _ _ _ _ _
    · exact val_main_v10_eq _ _ _
    · exact val_main_v16_eq _ _ _

end Cert.AdamUp

end
-- ==== Proof.AdamOut.lean ====
/- AdamW on an output projection of the mixers, one point: the rows are updated from the sum of the devices' gradients. -/
module

public import proofs.«01_k».proof.Defs
public import proofs.«01_k».proof.Proof.AdamStep
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

namespace Cert.AdamOut

open Idealize.ShloMosaic Idealize.ShloMosaic.TcCoe Idealize.SL.Sem
open Cert.Kernel11Ideal Cert.Kernel11Ideal.Gen Cert.Reference11Ideal.Read
open Cert.Adam
open scoped BigOperators

/-! ## What a point stores -/

theorem pay1 (g m : FVec Ideal S128x1024 .f32) (r : Fin 128) (l : Fin 1024) :
    k0_pay1 (F := Ideal) g m (ix2 r l) = mom (g (ix2 r l)) (m (ix2 r l)) := by
  pointwise [k0_pay1, mom]

theorem pay2 (g v : FVec Ideal S128x1024 .f32) (r : Fin 128) (l : Fin 1024) :
    k0_pay2 (F := Ideal) g v (ix2 r l) = vel (g (ix2 r l)) (v (ix2 r l)) := by
  pointwise [k0_pay2, vel]

theorem pay3 (g w m v : FVec Ideal S128x1024 .f32) (r : Fin 128) (l : Fin 1024) :
    k0_pay3 (F := Ideal) g w m v (ix2 r l) = upd (g (ix2 r l)) (w (ix2 r l)) (m (ix2 r l)) (v (ix2 r l)) := by
  pointwise [k0_pay3, k0_pay1, k0_pay2, upd, mom, vel]

theorem pay4 (o : FVec Ideal S1x128x1024 .f32) (f : Fin 7 → FVec Ideal S1x128x1024 .bf16) (r : Fin 128) (l : Fin 1024) :
    k0_pay4 (F := Ideal) o (f 0) (f 1) (f 2) (f 3) (f 4) (f 5) (f 6) (ix2 r l) = o (ix3 0 r l) + ∑ k, f k (ix3 0 r l) := by
  rw [← sum7]
  pointwise [k0_pay4]

/-! ## What the reference computes -/

theorem ref5 (x3 : FVec Ideal S8x128x1024 .f32) (x4 : FVec Ideal S7x128x1024 .f32) (i : Fin 128) (l : Fin 1024) :
    val_main_v5 (F := Ideal) x3 x4 (ix2 i l) = x3 (ix3 0 i l) + ∑ k : Fin 7, x4 (ix3 k i l) := by
  pointwise [val_main_v5, val_main_v4, val_main_v3, val_main_v2, val_main_v1, val_main_v0, val_main_cst]

theorem ref10 (x1 : FVec Ideal S128x1024 .f32) (x3 : FVec Ideal S8x128x1024 .f32) (x4 : FVec Ideal S7x128x1024 .f32) (i : Fin 128) (l : Fin 1024) :
    val_main_v10 (F := Ideal) x1 x3 x4 (ix2 i l) = mom (val_main_v5 (F := Ideal) x3 x4 (ix2 i l)) (x1 (ix2 i l)) := by
  rfl

theorem ref16 (x2 : FVec Ideal S128x1024 .f32) (x3 : FVec Ideal S8x128x1024 .f32) (x4 : FVec Ideal S7x128x1024 .f32) (i : Fin 128) (l : Fin 1024) :
    val_main_v16 (F := Ideal) x2 x3 x4 (ix2 i l) = vel (val_main_v5 (F := Ideal) x3 x4 (ix2 i l)) (x2 (ix2 i l)) := by
  rfl

theorem ref29 (x0 x1 x2 : FVec Ideal S128x1024 .f32) (x3 : FVec Ideal S8x128x1024 .f32) (x4 : FVec Ideal S7x128x1024 .f32) (i : Fin 128) (l : Fin 1024) :
    val_main_v29 (F := Ideal) x0 x1 x2 x3 x4 (ix2 i l) = upd (val_main_v5 (F := Ideal) x3 x4 (ix2 i l)) (x0 (ix2 i l)) (x1 (ix2 i l)) (x2 (ix2 i l)) := by
  rfl

/-! ## The device's own block -/

section Table

variable {F : FTy → Type} [FloatOps F]

/-- The one word of the table: the first device's. -/
def zeroTable : pre0.Contents (Elt F) := fun | ⟨0, _⟩ => fun _ => 0#32 | ⟨_ + 1, h⟩ => absurd h (by simp)

theorem tbl_eq (m : (ℓ : Loc nD τ sig) → Buf (Elt F) ℓ) : tbl m = zeroTable := by
  funext j x
  match j with
  | ⟨0, _⟩ => rfl

/-- The own gradient's block: the first device's, the point's rows. -/
theorem own_index : ∀ i : grid0.Coords, cc0_transform_3 (F := F) Facts₀.inb_S1_S1_0 Facts₀.numel1_S1 zeroTable i = ![0, (i 0).val, 0] := by
  intro i
  funext a
  fin_cases a
  · rfl
  · simp [cc0_transform_3]
  · rfl

theorem ok (m : (ℓ : Loc nD τ sig) → Buf (Elt F) ℓ) : Ok m := by
  unfold Ok ok0
  rw [tbl_eq]
  intro i
  refine ⟨fun a => ?_, .inl rfl⟩
  rw [own_index]
  have h : (i 0).val < 1 := (i 0).isLt
  fin_cases a
  · show (0 + 1) * 1 ≤ 8; omega
  · show ((i 0).val + 1) * 128 ≤ 128; omega
  · show (0 + 1) * 1024 ≤ 1024; omega

end Table

/-! ## A point's blocks -/

variable (m : (ℓ : Loc nD τ sig) → Buf (Elt Ideal) ℓ) (c : Dev nD)

/-- The arguments as launched: the weight, its two moments, the device's own gradients and the others'. -/
def x0 : FVec Ideal S128x1024 .f32 := m ((c : Thread nD τ).loc main_arg0)
def x1 : FVec Ideal S128x1024 .f32 := m ((c : Thread nD τ).loc main_arg1)
def x2 : FVec Ideal S128x1024 .f32 := m ((c : Thread nD τ).loc main_arg2)
def x3 : FVec Ideal S8x128x1024 .f32 := m ((c : Thread nD τ).loc main_arg3)
def x4 : FVec Ideal S7x128x1024 .f32 := m ((c : Thread nD τ).loc main_arg4)

/-- The point's coordinate is its number. -/
theorem coord : ∀ t : Fin grid0.N, (grid0.coords t 0).val = t.val := by decide +kernel

variable (t : Fin (cfgM m (ok m)).N)

/-- The block maps: the row blocks follow the grid. -/
theorem idx : ((cfgM m (ok m)).win 0).index t = ![t.val, 0]
    ∧ ((cfgM m (ok m)).win 1).index t = ![t.val, 0]
    ∧ ((cfgM m (ok m)).win 2).index t = ![t.val, 0]
    ∧ ((cfgM m (ok m)).win 3).index t = ![0, t.val, 0]
    ∧ ((cfgM m (ok m)).win 4).index t = ![0, t.val, 0]
    ∧ ((cfgM m (ok m)).win 5).index t = ![t.val, 0]
    ∧ ((cfgM m (ok m)).win 6).index t = ![t.val, 0]
    ∧ ((cfgM m (ok m)).win 7).index t = ![t.val, 0]
    ∧ ((cfgM m (ok m)).win 8).index t = ![t.val, 0] := by
  have h := (by decide +kernel : ∀ t : Fin grid0.N, cc0_transform_0 (grid0.coords t) = ![t.val, 0]
    ∧ cc0_transform_4 (grid0.coords t) = ![0, t.val, 0]) t
  have h3 : cc0_transform_3 Facts₀.inb_S1_S1_0 Facts₀.numel1_S1 (tbl m) (grid0.coords t) = ![0, t.val, 0] := by
    rw [tbl_eq, own_index, coord t]
  exact ⟨h.1, h.1, h.1, h3, h.2, h.1, h.1, h.1, h.1⟩

/-- Grid point `t`'s rows. -/
def row (r : Fin 128) : Fin 128 := ⟨128 * t.val + r.val, by have ht : t.val < 1 := lt_of_lt_of_eq t.isLt N_0; omega⟩

theorem at0 (r : Fin 128) (l : Fin 1024) :
    (show FVec Ideal S128x1024 .f32 from iblk m (ok m) c 0 t) (ix2 r l) = x0 m c (ix2 (row m t r) l) := by
  unfold row x0
  blk_ext [iblk, V, idx m t]

theorem at1 (r : Fin 128) (l : Fin 1024) :
    (show FVec Ideal S128x1024 .f32 from iblk m (ok m) c 1 t) (ix2 r l) = x1 m c (ix2 (row m t r) l) := by
  unfold row x1
  blk_ext [iblk, V, idx m t]

theorem at2 (r : Fin 128) (l : Fin 1024) :
    (show FVec Ideal S128x1024 .f32 from iblk m (ok m) c 2 t) (ix2 r l) = x2 m c (ix2 (row m t r) l) := by
  unfold row x2
  blk_ext [iblk, V, idx m t]

theorem at3 (r : Fin 128) (l : Fin 1024) :
    (show FVec Ideal S1x128x1024 .f32 from iblk m (ok m) c 3 t) (ix3 0 r l) = x3 m c (ix3 0 (row m t r) l) := by
  unfold row x3
  blk_ext [iblk, V, idx m t]

theorem at4 (k : Fin 7) (r : Fin 128) (l : Fin 1024) :
    (show FVec Ideal S7x128x1024 .bf16 from iblk m (ok m) c 4 t) (ix3 k r l) = x4 m c (ix3 k (row m t r) l) := by
  refine Eq.trans (b := (show FVec Ideal S7x128x1024 .bf16 from V m c main_v0) (ix3 k (row m t r) l)) ?_ ?_
  · unfold row
    blk_ext [iblk, idx m t]
  · rfl

/-- One of the seven landed blocks. -/
def land (x : FVec Ideal S7x128x1024 .bf16) (k : Fin 7) : FVec Ideal S1x128x1024 .bf16 := View.ld (Val := Elt Ideal) (e' := .bf16) x
  (Rect.unit (s := S7x128x1024) ![k.val, 0, 0] ![1, 128, 1024] (fun a => by
    fin_cases a
    · show k.val + 1 ≤ 7; omega
    · show 0 + 128 ≤ 128; omega
    · show 0 + 1024 ≤ 1024; omega))

theorem land_at (x : FVec Ideal S7x128x1024 .bf16) (k : Fin 7) (r : Fin 128) (l : Fin 1024) : land x k (ix3 0 r l) = x (ix3 k r l) := by
  refine congrArg x (Rect.emb_eq_of_coords _ _ _ fun a => ?_)
  fin_cases a <;> simp

/-- A point's gradient: its own block and the seven landed ones. -/
def grad (y3 : FVec Ideal S1x128x1024 .f32) (y4 : FVec Ideal S7x128x1024 .bf16) : FVec Ideal S128x1024 .f32 :=
  k0_pay4 (F := Ideal) y3 (land y4 0) (land y4 1) (land y4 2) (land y4 3) (land y4 4) (land y4 5) (land y4 6)

/-- The five input blocks at grid point `t`, -/
def b0 : FVec Ideal S128x1024 .f32 := iblk m (ok m) c 0 t
def b1 : FVec Ideal S128x1024 .f32 := iblk m (ok m) c 1 t
def b2 : FVec Ideal S128x1024 .f32 := iblk m (ok m) c 2 t
def b3 : FVec Ideal S1x128x1024 .f32 := iblk m (ok m) c 3 t
def b4 : FVec Ideal S7x128x1024 .bf16 := iblk m (ok m) c 4 t

/-- and the gradient there. -/
def gradAt : FVec Ideal S128x1024 .f32 := grad (b3 m c t) (b4 m c t)

theorem grad_at (r : Fin 128) (l : Fin 1024) : gradAt m c t (ix2 r l) = val_main_v5 (F := Ideal) (x3 m c) (x4 m c) (ix2 (row m t r) l) := by
  rw [ref5]
  exact (pay4 _ (land (b4 m c t)) r l).trans (congrArg₂ (· + ·) (at3 m c t r l)
    (Finset.sum_congr rfl fun k _ => (land_at _ k r l).trans (at4 m c t k r l)))

section Body

variable (i : grid0.Coords) {a2 a3 a4 a7 a8 a9 a10 : Memref sig .tc .vmem S128x1024 .f32} {a5 : Memref sig .tc .vmem S1x128x1024 .f32}
  {a6 : Memref sig .tc .vmem S7x128x1024 .bf16} (h2 : a2.IsWhole) (h3 : a3.IsWhole) (h4 : a4.IsWhole) (h5 : a5.IsWhole) (h6 : a6.IsWhole)
  (h7 : a7.IsWhole) (h8 : a8.IsWhole) (h9 : a9.IsWhole) (h10 : a10.IsWhole)
  (y0 y1 y2 : FVec Ideal S128x1024 .f32) (y3 : FVec Ideal S1x128x1024 .f32) (y4 : FVec Ideal S7x128x1024 .bf16) (tb : TbBuf0 (F := Ideal) c tbM0_0)

theorem left5 : out0_A_5 c i a2 h2 a3 h3 a4 h4 a5 h5 a6 h6 a7 h7 a8 h8 a9 h9 a10 h10 y0 y1 y2 y3 y4 tb = grad y3 y4 := by
  frame_out
  rfl

theorem left6 : out0_A_6 c i a2 h2 a3 h3 a4 h4 a5 h5 a6 h6 a7 h7 a8 h8 a9 h9 a10 h10 y0 y1 y2 y3 y4 tb = k0_pay3 (grad y3 y4) y0 y1 y2 := by
  frame_out
  rfl

theorem left7 : out0_A_7 c i a2 h2 a3 h3 a4 h4 a5 h5 a6 h6 a7 h7 a8 h8 a9 h9 a10 h10 y0 y1 y2 y3 y4 tb = k0_pay1 (grad y3 y4) y1 := by
  frame_out
  rfl

theorem left8 : out0_A_8 c i a2 h2 a3 h3 a4 h4 a5 h5 a6 h6 a7 h7 a8 h8 a9 h9 a10 h10 y0 y1 y2 y3 y4 tb = k0_pay2 (grad y3 y4) y2 := by
  frame_out
  rfl

end Body

/-- What the body leaves in the four outputs. -/
theorem outs : outsAt0 m (ok m) c t = (gradAt m c t, k0_pay3 (gradAt m c t) (b0 m c t) (b1 m c t) (b2 m c t),
    k0_pay1 (gradAt m c t) (b1 m c t), k0_pay2 (gradAt m c t) (b2 m c t)) := by
  unfold outsAt0
  exact congrArg₂ Prod.mk (left5 ..) (congrArg₂ Prod.mk (left6 ..) (congrArg₂ Prod.mk (left7 ..) (left8 ..)))

/-! ## The results -/

/-- The points' row blocks are the arrays'. -/
theorem onto : ∀ β : (a : Fin 2) → Fin ((S128x1024.size a + S128x1024.size a - 1) / S128x1024.size a),
    ∃ t : Fin grid0.N, ∀ a, cc0_transform_5 (grid0.coords t) a = β a := by
  decide +kernel

theorem nonempty : ∀ a : Fin 2, 0 < S128x1024.size a := by decide

theorem place (y0 : Fin 128) (y1 : Fin 1024) :
    ((View.whole main_v2_0).slice (((cfgM m (ok m)).win 5).rect t)).emb (ix2 y0 y1) = ix2 (row m t y0) y1 := by
  unfold row
  blk_ext [idx m t]

theorem final5 : (dats m (ok m) 0 c).arrAt 5 (cfgM m (ok m)).N = val_main_v5 (F := Ideal) (x3 m c) (x4 m c) := by
  refine (dats m (ok m) 0 c).arrAt_eq_of_covers 5 _ (Pipeline.Window.covers_of_index_surj _ rfl nonempty onto) fun t _ (y : S128x1024.Idx) => ?_
  blk_simp
  rw [after0_5, outs]
  idx_vars y
  exact (grad_at m c t y0 y1).trans (congrArg (val_main_v5 (F := Ideal) (x3 m c) (x4 m c)) (place m t y0 y1)).symm

theorem final6 : (dats m (ok m) 0 c).arrAt 6 (cfgM m (ok m)).N = val_main_v29 (F := Ideal) (x0 m c) (x1 m c) (x2 m c) (x3 m c) (x4 m c) := by
  refine (dats m (ok m) 0 c).arrAt_eq_of_covers 6 _ (Pipeline.Window.covers_of_index_surj _ rfl nonempty onto) fun t _ (y : S128x1024.Idx) => ?_
  blk_simp
  rw [after0_6, outs]
  idx_vars y
  refine Eq.trans ?_ (congrArg (val_main_v29 (F := Ideal) (x0 m c) (x1 m c) (x2 m c) (x3 m c) (x4 m c)) (place m t y0 y1)).symm
  rw [ref29]
  exact (pay3 _ _ _ _ y0 y1).trans (upd_congr (grad_at m c t y0 y1) (at0 m c t y0 y1) (at1 m c t y0 y1) (at2 m c t y0 y1))

theorem final7 : (dats m (ok m) 0 c).arrAt 7 (cfgM m (ok m)).N = val_main_v10 (F := Ideal) (x1 m c) (x3 m c) (x4 m c) := by
  refine (dats m (ok m) 0 c).arrAt_eq_of_covers 7 _ (Pipeline.Window.covers_of_index_surj _ rfl nonempty onto) fun t _ (y : S128x1024.Idx) => ?_
  blk_simp
  rw [after0_7, outs]
  idx_vars y
  refine Eq.trans ?_ (congrArg (val_main_v10 (F := Ideal) (x1 m c) (x3 m c) (x4 m c)) (place m t y0 y1)).symm
  rw [ref10]
  exact (pay1 _ _ y0 y1).trans (mom_congr (grad_at m c t y0 y1) (at1 m c t y0 y1))

theorem final8 : (dats m (ok m) 0 c).arrAt 8 (cfgM m (ok m)).N = val_main_v16 (F := Ideal) (x2 m c) (x3 m c) (x4 m c) := by
  refine (dats m (ok m) 0 c).arrAt_eq_of_covers 8 _ (Pipeline.Window.covers_of_index_surj _ rfl nonempty onto) fun t _ (y : S128x1024.Idx) => ?_
  blk_simp
  rw [after0_8, outs]
  idx_vars y
  refine Eq.trans ?_ (congrArg (val_main_v16 (F := Ideal) (x2 m c) (x3 m c) (x4 m c)) (place m t y0 y1)).symm
  rw [ref16]
  exact (pay2 _ _ y0 y1).trans (vel_congr (grad_at m c t y0 y1) (at2 m c t y0 y1))

/-- The run, with the results named and the arguments unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v2_0) = val_main_v5 (F := Ideal) (x3 m c) (x4 m c)
      ∧ r.2.mem ((c : Thread nD τ).loc main_v2_1) = val_main_v29 (F := Ideal) (x0 m c) (x1 m c) (x2 m c) (x3 m c) (x4 m c)
      ∧ r.2.mem ((c : Thread nD τ).loc main_v2_2) = val_main_v10 (F := Ideal) (x1 m c) (x3 m c) (x4 m c)
      ∧ r.2.mem ((c : Thread nD τ).loc main_v2_3) = val_main_v16 (F := Ideal) (x2 m c) (x3 m c) (x4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 5).trans (final5 m c), ((h.1 c).1 6).trans (final6 m c), ((h.1 c).1 7).trans (final7 m c),
      ((h.1 c).1 8).trans (final8 m c), h.2 c⟩)
    (θ_run_and (run_main m ρ (ok m)) (unchanged m ρ (ok m)))

/-- The program leaves its arguments as they were and its counters at zero, -/
theorem frameKernel : Cert.quiescent_Kernel11 (hKernel11 := Cert.Kernel11.Gen.facts) := fun m ρ _ =>
  Cert.Kernel11.Gen.frame (F := Bits) m ρ (ok (F := Bits) m)

/-- and so does its idealization. -/
theorem frameIdeal : Cert.quiescent_Kernel11Ideal (hKernel11Ideal := Cert.Kernel11Ideal.Gen.facts) := fun m ρ _ =>
  frame (F := Ideal) m ρ (ok m)

/-- The reference leaves its arguments as they were; it has no semaphores. -/
theorem frameRef : Cert.quiescent_Reference11Ideal (hReference11Ideal := Cert.Reference11Ideal.Gen.facts) := fun m ρ _ =>
  (θ_run (Cert.Reference11Ideal.defs (F := Ideal)) _ _).mono
    (fun r h => ⟨fun c => (h c).2.2.2.2, sem_eq_zero_of_no_sems (by decide) r.2⟩)
    (Cert.Reference11Ideal.Value.run (F := Ideal) m ρ)

set_option maxHeartbeats 1600000 in
/-- The two programs' results are equal. -/
theorem algebraic : Cert.algebraic_Kernel11Ideal_Reference11Ideal (hKernel11Ideal := Cert.Kernel11Ideal.Gen.facts)
    (hReference11Ideal := Cert.Reference11Ideal.Gen.facts) := by
  pair_intro
  · run_from run m g
  · run_from Cert.Reference11Ideal.Value.run m' g'
    · exact val_main_v5_eq _ _
    · exact val_main_v29_eq _ _ _ _ _
    · exact val_main_v10_eq _ _ _
    · exact val_main_v16_eq _ _ _

end Cert.AdamOut

end
-- ==== Proof.AdamIn.lean ====
/- AdamW on the mixers' input projections: each block of rows is updated from the sum of the devices' gradients, which land in two pieces. -/
module

public import proofs.«01_k».proof.Defs
public import proofs.«01_k».proof.Proof.AdamStep
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

namespace Cert.AdamIn

open Idealize.ShloMosaic Idealize.ShloMosaic.TcCoe Idealize.SL.Sem
open Cert.Kernel12Ideal Cert.Kernel12Ideal.Gen Cert.Reference12Ideal.Read
open Cert.Adam
open scoped BigOperators

/-! ## What a point stores -/

theorem pay1 (g m : FVec Ideal S256x896 .f32) (r : Fin 256) (l : Fin 896) :
    k0_pay1 (F := Ideal) g m (ix2 r l) = mom (g (ix2 r l)) (m (ix2 r l)) := by
  pointwise [k0_pay1, mom]

theorem pay2 (g v : FVec Ideal S256x896 .f32) (r : Fin 256) (l : Fin 896) :
    k0_pay2 (F := Ideal) g v (ix2 r l) = vel (g (ix2 r l)) (v (ix2 r l)) := by
  pointwise [k0_pay2, vel]

theorem pay3 (g w m v : FVec Ideal S256x896 .f32) (r : Fin 256) (l : Fin 896) :
    k0_pay3 (F := Ideal) g w m v (ix2 r l) = upd (g (ix2 r l)) (w (ix2 r l)) (m (ix2 r l)) (v (ix2 r l)) := by
  pointwise [k0_pay3, k0_pay1, k0_pay2, upd, mom, vel]

theorem pay4 (o : FVec Ideal S1x256x896 .f32) (f : Fin 4 → FVec Ideal S1x256x896 .bf16) (g : Fin 3 → FVec Ideal S1x256x896 .bf16) (r : Fin 256) (l : Fin 896) :
    k0_pay4 (F := Ideal) o (f 0) (f 1) (f 2) (f 3) (g 0) (g 1) (g 2) (ix2 r l) = o (ix3 0 r l) + (∑ k, f k (ix3 0 r l) + ∑ k, g k (ix3 0 r l)) := by
  rw [← sum43]
  pointwise [k0_pay4]

/-! ## What the reference computes -/

theorem ref6 (x3 : FVec Ideal S8x1024x896 .f32) (x4 : FVec Ideal S4x1024x896 .f32) (x5 : FVec Ideal S3x1024x896 .f32) (i : Fin 1024) (l : Fin 896) :
    val_main_v6 (F := Ideal) x3 x4 x5 (ix2 i l) = x3 (ix3 0 i l) + (∑ k : Fin 4, x4 (ix3 k i l) + ∑ k : Fin 3, x5 (ix3 k i l)) := by
  pointwise [val_main_v6, val_main_v5, val_main_v4, val_main_v3, val_main_v2, val_main_v1, val_main_v0, val_main_cst]

theorem ref11 (x1 : FVec Ideal S1024x896 .f32) (x3 : FVec Ideal S8x1024x896 .f32) (x4 : FVec Ideal S4x1024x896 .f32) (x5 : FVec Ideal S3x1024x896 .f32) (i : Fin 1024) (l : Fin 896) :
    val_main_v11 (F := Ideal) x1 x3 x4 x5 (ix2 i l) = mom (val_main_v6 (F := Ideal) x3 x4 x5 (ix2 i l)) (x1 (ix2 i l)) := by
  rfl

theorem ref17 (x2 : FVec Ideal S1024x896 .f32) (x3 : FVec Ideal S8x1024x896 .f32) (x4 : FVec Ideal S4x1024x896 .f32) (x5 : FVec Ideal S3x1024x896 .f32) (i : Fin 1024) (l : Fin 896) :
    val_main_v17 (F := Ideal) x2 x3 x4 x5 (ix2 i l) = vel (val_main_v6 (F := Ideal) x3 x4 x5 (ix2 i l)) (x2 (ix2 i l)) := by
  rfl

theorem ref30 (x0 x1 x2 : FVec Ideal S1024x896 .f32) (x3 : FVec Ideal S8x1024x896 .f32) (x4 : FVec Ideal S4x1024x896 .f32) (x5 : FVec Ideal S3x1024x896 .f32) (i : Fin 1024) (l : Fin 896) :
    val_main_v30 (F := Ideal) x0 x1 x2 x3 x4 x5 (ix2 i l) = upd (val_main_v6 (F := Ideal) x3 x4 x5 (ix2 i l)) (x0 (ix2 i l)) (x1 (ix2 i l)) (x2 (ix2 i l)) := by
  rfl

/-! ## The device's own block -/

section Table

variable {F : FTy → Type} [FloatOps F]

/-- The one word of the table: the first device's. -/
def zeroTable : pre0.Contents (Elt F) := fun | ⟨0, _⟩ => fun _ => 0#32 | ⟨_ + 1, h⟩ => absurd h (by simp)

theorem tbl_eq (m : (ℓ : Loc nD τ sig) → Buf (Elt F) ℓ) : tbl m = zeroTable := by
  funext j x
  match j with
  | ⟨0, _⟩ => rfl

/-- The own gradient's block: the first device's, the point's rows. -/
theorem own_index : ∀ i : grid0.Coords, cc0_transform_3 (F := F) Facts₀.inb_S1_S1_0 Facts₀.numel1_S1 zeroTable i = ![0, (i 0).val, 0] := by
  intro i
  funext a
  fin_cases a
  · rfl
  · simp [cc0_transform_3]; omega
  · rfl

theorem ok (m : (ℓ : Loc nD τ sig) → Buf (Elt F) ℓ) : Ok m := by
  unfold Ok ok0
  rw [tbl_eq]
  intro i
  refine ⟨fun a => ?_, .inl rfl⟩
  rw [own_index]
  have h : (i 0).val < 4 := (i 0).isLt
  fin_cases a
  · show (0 + 1) * 1 ≤ 8; omega
  · show ((i 0).val + 1) * 256 ≤ 1024; omega
  · show (0 + 1) * 896 ≤ 896; omega

end Table

/-! ## A point's blocks -/

variable (m : (ℓ : Loc nD τ sig) → Buf (Elt Ideal) ℓ) (c : Dev nD)

/-- The arguments as launched: the weight, its two moments, the device's own gradients, the first four of the others' and the last three. -/
def x0 : FVec Ideal S1024x896 .f32 := m ((c : Thread nD τ).loc main_arg0)
def x1 : FVec Ideal S1024x896 .f32 := m ((c : Thread nD τ).loc main_arg1)
def x2 : FVec Ideal S1024x896 .f32 := m ((c : Thread nD τ).loc main_arg2)
def x3 : FVec Ideal S8x1024x896 .f32 := m ((c : Thread nD τ).loc main_arg3)
def x4 : FVec Ideal S4x1024x896 .f32 := m ((c : Thread nD τ).loc main_arg4)
def x5 : FVec Ideal S3x1024x896 .f32 := m ((c : Thread nD τ).loc main_arg5)

/-- The point's coordinate is its number. -/
theorem coord : ∀ t : Fin grid0.N, (grid0.coords t 0).val = t.val := by decide +kernel

variable (t : Fin (cfgM m (ok m)).N)

/-- The block maps: the row blocks follow the grid. -/
theorem idx : ((cfgM m (ok m)).win 0).index t = ![t.val, 0]
    ∧ ((cfgM m (ok m)).win 1).index t = ![t.val, 0]
    ∧ ((cfgM m (ok m)).win 2).index t = ![t.val, 0]
    ∧ ((cfgM m (ok m)).win 3).index t = ![0, t.val, 0]
    ∧ ((cfgM m (ok m)).win 4).index t = ![0, t.val, 0]
    ∧ ((cfgM m (ok m)).win 5).index t = ![0, t.val, 0]
    ∧ ((cfgM m (ok m)).win 6).index t = ![t.val, 0]
    ∧ ((cfgM m (ok m)).win 7).index t = ![t.val, 0]
    ∧ ((cfgM m (ok m)).win 8).index t = ![t.val, 0]
    ∧ ((cfgM m (ok m)).win 9).index t = ![t.val, 0] := by
  have h := (by decide +kernel : ∀ t : Fin grid0.N, cc0_transform_0 (grid0.coords t) = ![t.val, 0]
    ∧ cc0_transform_4 (grid0.coords t) = ![0, t.val, 0]) t
  have h3 : cc0_transform_3 Facts₀.inb_S1_S1_0 Facts₀.numel1_S1 (tbl m) (grid0.coords t) = ![0, t.val, 0] := by
    rw [tbl_eq, own_index, coord t]
  exact ⟨h.1, h.1, h.1, h3, h.2, h.2, h.1, h.1, h.1, h.1⟩

/-- Grid point `t`'s rows. -/
def row (r : Fin 256) : Fin 1024 := ⟨256 * t.val + r.val, by have ht : t.val < 4 := lt_of_lt_of_eq t.isLt N_0; omega⟩

theorem at0 (r : Fin 256) (l : Fin 896) :
    (show FVec Ideal S256x896 .f32 from iblk m (ok m) c 0 t) (ix2 r l) = x0 m c (ix2 (row m t r) l) := by
  unfold row x0
  blk_ext [iblk, V, idx m t]

theorem at1 (r : Fin 256) (l : Fin 896) :
    (show FVec Ideal S256x896 .f32 from iblk m (ok m) c 1 t) (ix2 r l) = x1 m c (ix2 (row m t r) l) := by
  unfold row x1
  blk_ext [iblk, V, idx m t]

theorem at2 (r : Fin 256) (l : Fin 896) :
    (show FVec Ideal S256x896 .f32 from iblk m (ok m) c 2 t) (ix2 r l) = x2 m c (ix2 (row m t r) l) := by
  unfold row x2
  blk_ext [iblk, V, idx m t]

theorem at3 (r : Fin 256) (l : Fin 896) :
    (show FVec Ideal S1x256x896 .f32 from iblk m (ok m) c 3 t) (ix3 0 r l) = x3 m c (ix3 0 (row m t r) l) := by
  unfold row x3
  blk_ext [iblk, V, idx m t]

theorem at4 (k : Fin 4) (r : Fin 256) (l : Fin 896) :
    (show FVec Ideal S4x256x896 .bf16 from iblk m (ok m) c 4 t) (ix3 k r l) = x4 m c (ix3 k (row m t r) l) := by
  refine Eq.trans (b := (show FVec Ideal S4x1024x896 .bf16 from V m c main_v0) (ix3 k (row m t r) l)) ?_ ?_
  · unfold row
    blk_ext [iblk, idx m t]
  · rfl

theorem at5 (k : Fin 3) (r : Fin 256) (l : Fin 896) :
    (show FVec Ideal S3x256x896 .bf16 from iblk m (ok m) c 5 t) (ix3 k r l) = x5 m c (ix3 k (row m t r) l) := by
  refine Eq.trans (b := (show FVec Ideal S3x1024x896 .bf16 from V m c main_v1) (ix3 k (row m t r) l)) ?_ ?_
  · unfold row
    blk_ext [iblk, idx m t]
  · rfl

/-- One of the four blocks that landed first, -/
def early (x : FVec Ideal S4x256x896 .bf16) (k : Fin 4) : FVec Ideal S1x256x896 .bf16 := View.ld (Val := Elt Ideal) (e' := .bf16) x
  (Rect.unit (s := S4x256x896) ![k.val, 0, 0] ![1, 256, 896] (fun a => by
    fin_cases a
    · show k.val + 1 ≤ 4; omega
    · show 0 + 256 ≤ 256; omega
    · show 0 + 896 ≤ 896; omega))

theorem early_at (x : FVec Ideal S4x256x896 .bf16) (k : Fin 4) (r : Fin 256) (l : Fin 896) : early x k (ix3 0 r l) = x (ix3 k r l) := by
  refine congrArg x (Rect.emb_eq_of_coords _ _ _ fun a => ?_)
  fin_cases a <;> simp

/-- and one of the three that landed last. -/
def late (x : FVec Ideal S3x256x896 .bf16) (k : Fin 3) : FVec Ideal S1x256x896 .bf16 := View.ld (Val := Elt Ideal) (e' := .bf16) x
  (Rect.unit (s := S3x256x896) ![k.val, 0, 0] ![1, 256, 896] (fun a => by
    fin_cases a
    · show k.val + 1 ≤ 3; omega
    · show 0 + 256 ≤ 256; omega
    · show 0 + 896 ≤ 896; omega))

theorem late_at (x : FVec Ideal S3x256x896 .bf16) (k : Fin 3) (r : Fin 256) (l : Fin 896) : late x k (ix3 0 r l) = x (ix3 k r l) := by
  refine congrArg x (Rect.emb_eq_of_coords _ _ _ fun a => ?_)
  fin_cases a <;> simp

/-- A point's gradient: its own block and the seven landed ones. -/
def grad (y3 : FVec Ideal S1x256x896 .f32) (y4 : FVec Ideal S4x256x896 .bf16) (y5 : FVec Ideal S3x256x896 .bf16) : FVec Ideal S256x896 .f32 :=
  k0_pay4 (F := Ideal) y3 (early y4 0) (early y4 1) (early y4 2) (early y4 3) (late y5 0) (late y5 1) (late y5 2)

/-- The six input blocks at grid point `t`, -/
def b0 : FVec Ideal S256x896 .f32 := iblk m (ok m) c 0 t
def b1 : FVec Ideal S256x896 .f32 := iblk m (ok m) c 1 t
def b2 : FVec Ideal S256x896 .f32 := iblk m (ok m) c 2 t
def b3 : FVec Ideal S1x256x896 .f32 := iblk m (ok m) c 3 t
def b4 : FVec Ideal S4x256x896 .bf16 := iblk m (ok m) c 4 t
def b5 : FVec Ideal S3x256x896 .bf16 := iblk m (ok m) c 5 t

/-- and the gradient there. -/
def gradAt : FVec Ideal S256x896 .f32 := grad (b3 m c t) (b4 m c t) (b5 m c t)

theorem grad_at (r : Fin 256) (l : Fin 896) : gradAt m c t (ix2 r l) = val_main_v6 (F := Ideal) (x3 m c) (x4 m c) (x5 m c) (ix2 (row m t r) l) := by
  rw [ref6]
  exact (pay4 _ (early (b4 m c t)) (late (b5 m c t)) r l).trans (congrArg₂ (· + ·) (at3 m c t r l)
    (congrArg₂ (· + ·) (Finset.sum_congr rfl fun k _ => (early_at _ k r l).trans (at4 m c t k r l))
      (Finset.sum_congr rfl fun k _ => (late_at _ k r l).trans (at5 m c t k r l))))

section Body

variable (i : grid0.Coords) {a2 a3 a4 a8 a9 a10 a11 : Memref sig .tc .vmem S256x896 .f32} {a5 : Memref sig .tc .vmem S1x256x896 .f32}
  {a6 : Memref sig .tc .vmem S4x256x896 .bf16} {a7 : Memref sig .tc .vmem S3x256x896 .bf16} (h2 : a2.IsWhole) (h3 : a3.IsWhole) (h4 : a4.IsWhole)
  (h5 : a5.IsWhole) (h6 : a6.IsWhole) (h7 : a7.IsWhole) (h8 : a8.IsWhole) (h9 : a9.IsWhole) (h10 : a10.IsWhole) (h11 : a11.IsWhole)
  (y0 y1 y2 : FVec Ideal S256x896 .f32) (y3 : FVec Ideal S1x256x896 .f32) (y4 : FVec Ideal S4x256x896 .bf16) (y5 : FVec Ideal S3x256x896 .bf16)
  (tb : TbBuf0 (F := Ideal) c tbM0_0)

theorem left6 : out0_A_6 c i a2 h2 a3 h3 a4 h4 a5 h5 a6 h6 a7 h7 a8 h8 a9 h9 a10 h10 a11 h11 y0 y1 y2 y3 y4 y5 tb = grad y3 y4 y5 := by
  frame_out
  rfl

theorem left7 : out0_A_7 c i a2 h2 a3 h3 a4 h4 a5 h5 a6 h6 a7 h7 a8 h8 a9 h9 a10 h10 a11 h11 y0 y1 y2 y3 y4 y5 tb = k0_pay3 (grad y3 y4 y5) y0 y1 y2 := by
  frame_out
  rfl

theorem left8 : out0_A_8 c i a2 h2 a3 h3 a4 h4 a5 h5 a6 h6 a7 h7 a8 h8 a9 h9 a10 h10 a11 h11 y0 y1 y2 y3 y4 y5 tb = k0_pay1 (grad y3 y4 y5) y1 := by
  frame_out
  rfl

theorem left9 : out0_A_9 c i a2 h2 a3 h3 a4 h4 a5 h5 a6 h6 a7 h7 a8 h8 a9 h9 a10 h10 a11 h11 y0 y1 y2 y3 y4 y5 tb = k0_pay2 (grad y3 y4 y5) y2 := by
  frame_out
  rfl

end Body

/-- What the body leaves in the four outputs. -/
theorem outs : outsAt0 m (ok m) c t = (gradAt m c t, k0_pay3 (gradAt m c t) (b0 m c t) (b1 m c t) (b2 m c t),
    k0_pay1 (gradAt m c t) (b1 m c t), k0_pay2 (gradAt m c t) (b2 m c t)) := by
  unfold outsAt0
  exact congrArg₂ Prod.mk (left6 ..) (congrArg₂ Prod.mk (left7 ..) (congrArg₂ Prod.mk (left8 ..) (left9 ..)))

/-! ## The results -/

/-- The points' row blocks are the arrays'. -/
theorem onto : ∀ β : (a : Fin 2) → Fin ((S1024x896.size a + S256x896.size a - 1) / S256x896.size a),
    ∃ t : Fin grid0.N, ∀ a, cc0_transform_6 (grid0.coords t) a = β a := by
  decide +kernel

theorem nonempty : ∀ a : Fin 2, 0 < S256x896.size a := by decide

theorem place (y0 : Fin 256) (y1 : Fin 896) :
    ((View.whole main_v3_0).slice (((cfgM m (ok m)).win 6).rect t)).emb (ix2 y0 y1) = ix2 (row m t y0) y1 := by
  unfold row
  blk_ext [idx m t]

theorem final6 : (dats m (ok m) 0 c).arrAt 6 (cfgM m (ok m)).N = val_main_v6 (F := Ideal) (x3 m c) (x4 m c) (x5 m c) := by
  refine (dats m (ok m) 0 c).arrAt_eq_of_covers 6 _ (Pipeline.Window.covers_of_index_surj _ rfl nonempty onto) fun t _ (y : S256x896.Idx) => ?_
  blk_simp
  rw [after0_6, outs]
  idx_vars y
  exact (grad_at m c t y0 y1).trans (congrArg (val_main_v6 (F := Ideal) (x3 m c) (x4 m c) (x5 m c)) (place m t y0 y1)).symm

theorem final7 : (dats m (ok m) 0 c).arrAt 7 (cfgM m (ok m)).N = val_main_v30 (F := Ideal) (x0 m c) (x1 m c) (x2 m c) (x3 m c) (x4 m c) (x5 m c) := by
  refine (dats m (ok m) 0 c).arrAt_eq_of_covers 7 _ (Pipeline.Window.covers_of_index_surj _ rfl nonempty onto) fun t _ (y : S256x896.Idx) => ?_
  blk_simp
  rw [after0_7, outs]
  idx_vars y
  refine Eq.trans ?_ (congrArg (val_main_v30 (F := Ideal) (x0 m c) (x1 m c) (x2 m c) (x3 m c) (x4 m c) (x5 m c)) (place m t y0 y1)).symm
  rw [ref30]
  exact (pay3 _ _ _ _ y0 y1).trans (upd_congr (grad_at m c t y0 y1) (at0 m c t y0 y1) (at1 m c t y0 y1) (at2 m c t y0 y1))

theorem final8 : (dats m (ok m) 0 c).arrAt 8 (cfgM m (ok m)).N = val_main_v11 (F := Ideal) (x1 m c) (x3 m c) (x4 m c) (x5 m c) := by
  refine (dats m (ok m) 0 c).arrAt_eq_of_covers 8 _ (Pipeline.Window.covers_of_index_surj _ rfl nonempty onto) fun t _ (y : S256x896.Idx) => ?_
  blk_simp
  rw [after0_8, outs]
  idx_vars y
  refine Eq.trans ?_ (congrArg (val_main_v11 (F := Ideal) (x1 m c) (x3 m c) (x4 m c) (x5 m c)) (place m t y0 y1)).symm
  rw [ref11]
  exact (pay1 _ _ y0 y1).trans (mom_congr (grad_at m c t y0 y1) (at1 m c t y0 y1))

theorem final9 : (dats m (ok m) 0 c).arrAt 9 (cfgM m (ok m)).N = val_main_v17 (F := Ideal) (x2 m c) (x3 m c) (x4 m c) (x5 m c) := by
  refine (dats m (ok m) 0 c).arrAt_eq_of_covers 9 _ (Pipeline.Window.covers_of_index_surj _ rfl nonempty onto) fun t _ (y : S256x896.Idx) => ?_
  blk_simp
  rw [after0_9, outs]
  idx_vars y
  refine Eq.trans ?_ (congrArg (val_main_v17 (F := Ideal) (x2 m c) (x3 m c) (x4 m c) (x5 m c)) (place m t y0 y1)).symm
  rw [ref17]
  exact (pay2 _ _ y0 y1).trans (vel_congr (grad_at m c t y0 y1) (at2 m c t y0 y1))

/-- The run, with the results named and the arguments unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v3_0) = val_main_v6 (F := Ideal) (x3 m c) (x4 m c) (x5 m c)
      ∧ r.2.mem ((c : Thread nD τ).loc main_v3_1) = val_main_v30 (F := Ideal) (x0 m c) (x1 m c) (x2 m c) (x3 m c) (x4 m c) (x5 m c)
      ∧ r.2.mem ((c : Thread nD τ).loc main_v3_2) = val_main_v11 (F := Ideal) (x1 m c) (x3 m c) (x4 m c) (x5 m c)
      ∧ r.2.mem ((c : Thread nD τ).loc main_v3_3) = val_main_v17 (F := Ideal) (x2 m c) (x3 m c) (x4 m c) (x5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.1 c).1 6).trans (final6 m c), ((h.1 c).1 7).trans (final7 m c), ((h.1 c).1 8).trans (final8 m c),
      ((h.1 c).1 9).trans (final9 m c), h.2 c⟩)
    (θ_run_and (run_main m ρ (ok m)) (unchanged m ρ (ok m)))

/-- The program leaves its arguments as they were and its counters at zero, -/
theorem frameKernel : Cert.quiescent_Kernel12 (hKernel12 := Cert.Kernel12.Gen.facts) := fun m ρ _ =>
  Cert.Kernel12.Gen.frame (F := Bits) m ρ (ok (F := Bits) m)

/-- and so does its idealization. -/
theorem frameIdeal : Cert.quiescent_Kernel12Ideal (hKernel12Ideal := Cert.Kernel12Ideal.Gen.facts) := fun m ρ _ =>
  frame (F := Ideal) m ρ (ok m)

/-- The reference leaves its arguments as they were; it has no semaphores. -/
theorem frameRef : Cert.quiescent_Reference12Ideal (hReference12Ideal := Cert.Reference12Ideal.Gen.facts) := fun m ρ _ =>
  (θ_run (Cert.Reference12Ideal.defs (F := Ideal)) _ _).mono
    (fun r h => ⟨fun c => (h c).2.2.2.2, sem_eq_zero_of_no_sems (by decide) r.2⟩)
    (Cert.Reference12Ideal.Value.run (F := Ideal) m ρ)

/-- The reference's run, with the results named. -/
theorem refRun (w : (ℓ : Loc Cert.Reference12Ideal.nD Cert.Reference12Ideal.τ Cert.Reference12Ideal.sig) → Buf (Elt Ideal) ℓ)
    (ρ : Dev Cert.Reference12Ideal.nD → PrngReg) :
    θ_run (Cert.Reference12Ideal.defs (F := Ideal)) (onTc (τ := Cert.Reference12Ideal.τ) (Cert.Reference12Ideal.main (F := Ideal))) ⟨w, fun _ => 0, ρ⟩
      fun r => ∀ c : Dev Cert.Reference12Ideal.nD,
      r.2.mem ((c : Thread Cert.Reference12Ideal.nD Cert.Reference12Ideal.τ).loc Cert.Reference12Ideal.main_v6) = val_main_v6 (F := Ideal) (w ((c : Thread Cert.Reference12Ideal.nD Cert.Reference12Ideal.τ).loc Cert.Reference12Ideal.main_arg3)) (w ((c : Thread Cert.Reference12Ideal.nD Cert.Reference12Ideal.τ).loc Cert.Reference12Ideal.main_arg4)) (w ((c : Thread Cert.Reference12Ideal.nD Cert.Reference12Ideal.τ).loc Cert.Reference12Ideal.main_arg5))
      ∧ r.2.mem ((c : Thread Cert.Reference12Ideal.nD Cert.Reference12Ideal.τ).loc Cert.Reference12Ideal.main_v30) = val_main_v30 (F := Ideal) (w ((c : Thread Cert.Reference12Ideal.nD Cert.Reference12Ideal.τ).loc Cert.Reference12Ideal.main_arg0)) (w ((c : Thread Cert.Reference12Ideal.nD Cert.Reference12Ideal.τ).loc Cert.Reference12Ideal.main_arg1)) (w ((c : Thread Cert.Reference12Ideal.nD Cert.Reference12Ideal.τ).loc Cert.Reference12Ideal.main_arg2)) (w ((c : Thread Cert.Reference12Ideal.nD Cert.Reference12Ideal.τ).loc Cert.Reference12Ideal.main_arg3)) (w ((c : Thread Cert.Reference12Ideal.nD Cert.Reference12Ideal.τ).loc Cert.Reference12Ideal.main_arg4)) (w ((c : Thread Cert.Reference12Ideal.nD Cert.Reference12Ideal.τ).loc Cert.Reference12Ideal.main_arg5))
      ∧ r.2.mem ((c : Thread Cert.Reference12Ideal.nD Cert.Reference12Ideal.τ).loc Cert.Reference12Ideal.main_v11) = val_main_v11 (F := Ideal) (w ((c : Thread Cert.Reference12Ideal.nD Cert.Reference12Ideal.τ).loc Cert.Reference12Ideal.main_arg1)) (w ((c : Thread Cert.Reference12Ideal.nD Cert.Reference12Ideal.τ).loc Cert.Reference12Ideal.main_arg3)) (w ((c : Thread Cert.Reference12Ideal.nD Cert.Reference12Ideal.τ).loc Cert.Reference12Ideal.main_arg4)) (w ((c : Thread Cert.Reference12Ideal.nD Cert.Reference12Ideal.τ).loc Cert.Reference12Ideal.main_arg5))
      ∧ r.2.mem ((c : Thread Cert.Reference12Ideal.nD Cert.Reference12Ideal.τ).loc Cert.Reference12Ideal.main_v17) = val_main_v17 (F := Ideal) (w ((c : Thread Cert.Reference12Ideal.nD Cert.Reference12Ideal.τ).loc Cert.Reference12Ideal.main_arg2)) (w ((c : Thread Cert.Reference12Ideal.nD Cert.Reference12Ideal.τ).loc Cert.Reference12Ideal.main_arg3)) (w ((c : Thread Cert.Reference12Ideal.nD Cert.Reference12Ideal.τ).loc Cert.Reference12Ideal.main_arg4)) (w ((c : Thread Cert.Reference12Ideal.nD Cert.Reference12Ideal.τ).loc Cert.Reference12Ideal.main_arg5))
      ∧ r.2.mem ((c : Thread Cert.Reference12Ideal.nD Cert.Reference12Ideal.τ).loc Cert.Reference12Ideal.main_arg0) = w ((c : Thread Cert.Reference12Ideal.nD Cert.Reference12Ideal.τ).loc Cert.Reference12Ideal.main_arg0)
      ∧ r.2.mem ((c : Thread Cert.Reference12Ideal.nD Cert.Reference12Ideal.τ).loc Cert.Reference12Ideal.main_arg1) = w ((c : Thread Cert.Reference12Ideal.nD Cert.Reference12Ideal.τ).loc Cert.Reference12Ideal.main_arg1)
      ∧ r.2.mem ((c : Thread Cert.Reference12Ideal.nD Cert.Reference12Ideal.τ).loc Cert.Reference12Ideal.main_arg2) = w ((c : Thread Cert.Reference12Ideal.nD Cert.Reference12Ideal.τ).loc Cert.Reference12Ideal.main_arg2)
      ∧ r.2.mem ((c : Thread Cert.Reference12Ideal.nD Cert.Reference12Ideal.τ).loc Cert.Reference12Ideal.main_arg3) = w ((c : Thread Cert.Reference12Ideal.nD Cert.Reference12Ideal.τ).loc Cert.Reference12Ideal.main_arg3)
      ∧ r.2.mem ((c : Thread Cert.Reference12Ideal.nD Cert.Reference12Ideal.τ).loc Cert.Reference12Ideal.main_arg4) = w ((c : Thread Cert.Reference12Ideal.nD Cert.Reference12Ideal.τ).loc Cert.Reference12Ideal.main_arg4)
      ∧ r.2.mem ((c : Thread Cert.Reference12Ideal.nD Cert.Reference12Ideal.τ).loc Cert.Reference12Ideal.main_arg5) = w ((c : Thread Cert.Reference12Ideal.nD Cert.Reference12Ideal.τ).loc Cert.Reference12Ideal.main_arg5) :=
  (θ_run (Cert.Reference12Ideal.defs (F := Ideal)) _ _).mono
    (fun _ h c => ⟨(h c).1.trans (val_main_v6_eq _ _ _), (h c).2.1.trans (val_main_v30_eq _ _ _ _ _ _), (h c).2.2.1.trans (val_main_v11_eq _ _ _ _),
      (h c).2.2.2.1.trans (val_main_v17_eq _ _ _ _), (h c).2.2.2.2⟩)
    (Cert.Reference12Ideal.Value.run (F := Ideal) w ρ)

/-- The two programs' results are equal. -/
theorem algebraic : Cert.algebraic_Kernel12Ideal_Reference12Ideal (hKernel12Ideal := Cert.Kernel12Ideal.Gen.facts)
    (hReference12Ideal := Cert.Reference12Ideal.Gen.facts) := by
  pair_intro
  · run_from run m g
  · run_from refRun m' g'
    all_goals rfl

end Cert.AdamIn

end
-- ==== Proof.lean ====
/- The claim: the frames of the program, of its idealization and of the reference; that the idealization changes nothing; and that the
   idealized program and the reference end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Algebraic
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Down
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.WGrad
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Up
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Loss
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Mix
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Reference7Ideal
public import proofs.«01_k».proof.Proof.Gen.Reference7Ideal.Run
public import proofs.«01_k».proof.Proof.Gen.Reference7Ideal.Read
public import proofs.«01_k».proof.Proof.WDown
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Reference8Ideal
public import proofs.«01_k».proof.Proof.Gen.Reference8Ideal.Run
public import proofs.«01_k».proof.Proof.Gen.Reference8Ideal.Read
public import proofs.«01_k».proof.Proof.WUp
public import proofs.«01_k».proof.Proof.AdamDown
public import proofs.«01_k».proof.Proof.AdamUp
public import proofs.«01_k».proof.Proof.AdamOut
public import proofs.«01_k».proof.Proof.AdamIn
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Merge.preFacts, Cert.Loss.preFacts,
    fun m ρ _ => Cert.Kernel.Gen.frame m ρ, fun m ρ _ => Cert.KernelIdeal.Gen.frame m ρ,
    fun m ρ _ => Cert.KernelIdeal.Gen.frame m ρ, Cert.Merge.frameRef, fun m ρ _ => Cert.Merge.frameRef m ρ trivial,
    fun m ρ _ => Cert.Kernel2.Gen.frame m ρ, fun m ρ _ => Cert.Kernel2Ideal.Gen.frame m ρ, Cert.Down.frameRef,
    fun m ρ _ => Cert.Kernel3.Gen.frame m ρ, fun m ρ _ => Cert.Kernel3Ideal.Gen.frame m ρ, Cert.WGrad.frameRef,
    fun m ρ _ => Cert.Kernel4.Gen.frame m ρ, fun m ρ _ => Cert.Kernel4Ideal.Gen.frame m ρ, Cert.Up.frameRef,
    fun m ρ _ => Cert.Kernel5.Gen.frame m ρ, fun m ρ _ => Cert.Kernel5Ideal.Gen.frame m ρ,
    fun m ρ _ => Cert.Kernel5Ideal.Gen.frame m ρ, Cert.Loss.frameRef, fun m ρ _ => Cert.Loss.frameRef m ρ trivial,
    fun m ρ _ => Cert.Kernel6.Gen.frame m ρ, fun m ρ _ => Cert.Kernel6Ideal.Gen.frame m ρ, Cert.Mix.frameRef,
    Cert.WDown.frameKernel, Cert.WDown.frameIdeal, Cert.WDown.frameRef,
    Cert.WUp.frameKernel, Cert.WUp.frameIdeal, Cert.WUp.frameRef,
    Cert.AdamDown.frameKernel, Cert.AdamDown.frameIdeal, Cert.AdamDown.frameRef,
    Cert.AdamUp.frameKernel, Cert.AdamUp.frameIdeal, Cert.AdamUp.frameRef,
    Cert.AdamOut.frameKernel, Cert.AdamOut.frameIdeal, Cert.AdamOut.frameRef,
    Cert.AdamIn.frameKernel, Cert.AdamIn.frameIdeal, Cert.AdamIn.frameRef,
    trivial, Cert.Merge.algebraic, trivial, Cert.Down.algebraic, trivial, Cert.WGrad.algebraic, trivial, Cert.Up.algebraic,
    trivial, Cert.Loss.algebraic, trivial, Cert.Mix.algebraic, trivial, Cert.WDown.algebraic, trivial, Cert.WUp.algebraic,
    trivial, Cert.AdamDown.algebraic, trivial, Cert.AdamUp.algebraic, trivial, Cert.AdamOut.algebraic, trivial, Cert.AdamIn.algebraic⟩

end Cert.Proof

end
